-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_ffn_inputs_finite [hPre_ffn_inputs_finite : Cert.Pre_ffn_inputs_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_ffn_inputs_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_ffn_inputs_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_ffn_inputs_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 = (fun _ => 1#1)
    ∧ (Cert.Pre_ffn_inputs_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_ffn_inputs_finite [hPre_ffn_inputs_finite : Cert.Pre_ffn_inputs_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_ffn_inputs_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_ffn_inputs_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_ffn_inputs_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.1 = (fun _ => 1#1)
    ∧ (Cert.Pre_ffn_inputs_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_ffn_inputs_finite [hKernel2Ideal : Cert.Kernel2Ideal.Facts] [hPre_ffn_inputs_finite : Cert.Pre_ffn_inputs_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_ffn_inputs_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_ffn_inputs_finite [hReference2Ideal : Cert.Reference2Ideal.Facts] [hPre_ffn_inputs_finite : Cert.Pre_ffn_inputs_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_ffn_inputs_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def preserves_Kernel_KernelIdeal : Prop :=
  True

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_ffn_inputs_finite [hKernel2Ideal : Cert.Kernel2Ideal.Facts] [hReference2Ideal : Cert.Reference2Ideal.Facts] [hPre_ffn_inputs_finite : Cert.Pre_ffn_inputs_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_ffn_inputs_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v33) = v0 c
          ∧ r.2.mem ((c.tc : Thread Cert.Reference3Ideal.nD Cert.Reference3Ideal.τ).loc Cert.Reference3Ideal.main_v35) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_inputs_finite : Cert.Pre_inputs_finite.Facts) (hPre_ffn_inputs_finite : Cert.Pre_ffn_inputs_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ quiescent_Kernel2 (hKernel2 := hKernel2)
    ∧ quiescent_Kernel2Ideal (hKernel2Ideal := hKernel2Ideal)
    ∧ quiescent_Kernel2Ideal_pre_ffn_inputs_finite (hKernel2Ideal := hKernel2Ideal) (hPre_ffn_inputs_finite := hPre_ffn_inputs_finite)
    ∧ quiescent_Reference2Ideal (hReference2Ideal := hReference2Ideal)
    ∧ quiescent_Reference2Ideal_pre_ffn_inputs_finite (hReference2Ideal := hReference2Ideal) (hPre_ffn_inputs_finite := hPre_ffn_inputs_finite)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
    ∧ preserves_Kernel2_Kernel2Ideal
    ∧ algebraic_Kernel2Ideal_Reference2Ideal_pre_ffn_inputs_finite (hKernel2Ideal := hKernel2Ideal) (hReference2Ideal := hReference2Ideal) (hPre_ffn_inputs_finite := hPre_ffn_inputs_finite)
    ∧ preserves_Kernel3_Kernel3Ideal
    ∧ algebraic_Kernel3Ideal_Reference3Ideal (hKernel3Ideal := hKernel3Ideal) (hReference3Ideal := hReference3Ideal)
-- ==== Pre_ffn_inputs_finite.lean ====
abbrev S16384x1024 : Shape := ⟨2, ![16384, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  bcast_S_S1024x5632 : S_.BroadcastsInDim S1024x5632 (![] : Fin 0 → Fin S1024x5632.rank)
  bcast_S_S3x5632 : S_.BroadcastsInDim S3x5632 (![] : Fin 0 → Fin S3x5632.rank)
  bcast_S_S5632 : S_.BroadcastsInDim S5632 (![] : Fin 0 → Fin S5632.rank)

variable [Facts]

def fn {F : FTy → Type} [FloatOps F] (main_arg0 : FVec F S16384x1024 .bf16) (main_arg1 : FVec F S16384x1024 .f32) (main_arg2 : FVec F S1024x5632 .f32) (main_arg3 : FVec F S3x5632 .f32) (main_arg4 : FVec F S5632 .f32) (main_arg5 : FVec F S2816x1024 .f32) (main_arg6 : FVec F S1024 .f32) : IVec S16384x1024 1 × IVec S1024x5632 1 × IVec S3x5632 1 × IVec S5632 1 :=
  let main_v0 : FVec F S16384x1024 .f32 := (extf .f32 · bitsLt_bf16_f32) main_arg0
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_v4 : FVec F S1024x5632 .f32 := Host.absf main_arg2
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_v7 : FVec F S3x5632 .f32 := Host.absf main_arg3
  let main_cst_1 : FVec F S_ .f32 := constant S_ .f32 0x7F800000#32
  let main_v8 : FVec F S3x5632 .f32 := broadcastInDim S3x5632 ![] bcast_S_S3x5632 main_cst_1
  let main_v9 : IVec S3x5632 1 := cmpf .olt main_v7 main_v8
  let main_v10 : FVec F S5632 .f32 := Host.absf main_arg4
  let main_cst_2 : FVec F S_ .f32 := constant S_ .f32 0x7F800000#32
  let main_v11 : FVec F S5632 .f32 := broadcastInDim S5632 ![] bcast_S_S5632 main_cst_2
  let main_v12 : IVec S5632 1 := cmpf .olt main_v10 main_v11
  (main_v3, main_v6, main_v9, main_v12)
-- ==== Pre_inputs_finite.lean ====
abbrev S8x2048x1024 : Shape := ⟨3, ![8, 2048, 1024]⟩
abbrev S8x2048x1536 : Shape := ⟨3, ![8, 2048, 1536]⟩
abbrev S8x2048x16 : Shape := ⟨3, ![8, 2048, 16]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  bcast_S_S8x2048x1536 : S_.BroadcastsInDim S8x2048x1536 (![] : Fin 0 → Fin S8x2048x1536.rank)
  bcast_S_S8x2048x16 : S_.BroadcastsInDim S8x2048x16 (![] : Fin 0 → Fin S8x2048x16.rank)
  bcast_S_S4x1536 : S_.BroadcastsInDim S4x1536 (![] : Fin 0 → Fin S4x1536.rank)
  bcast_S_S1536 : S_.BroadcastsInDim S1536 (![] : Fin 0 → Fin S1536.rank)
  bcast_S_S16 : S_.BroadcastsInDim S16 (![] : Fin 0 → Fin S16.rank)

variable [Facts]

def fn_part1 {F : FTy → Type} [FloatOps F] (main_arg6 : FVec F S16 .f32) (main_arg7 : FVec F S16 .f32) (main_v2 : IVec S8x2048x1024 1) (main_v5 : IVec S8x2048x1536 1) (main_v8 : IVec S8x2048x16 1) (main_v11 : IVec S4x1536 1) (main_v14 : IVec S1536 1) (main_v17 : IVec S16 1) : IVec S8x2048x1024 1 × IVec S8x2048x1536 1 × IVec S8x2048x16 1 × IVec S4x1536 1 × IVec S1536 1 × IVec S16 1 × IVec S16 1 × IVec S16 1 :=
  let main_v18 : FVec F S16 .f32 := Host.absf main_arg6
  let main_cst_5 : FVec F S_ .f32 := constant S_ .f32 0x7F800000#32
  let main_v19 : FVec F S16 .f32 := broadcastInDim S16 ![] bcast_S_S16 main_cst_5
  let main_v20 : IVec S16 1 := cmpf .olt main_v18 main_v19
  let main_v21 : FVec F S16 .f32 := Host.absf main_arg7
  let main_cst_6 : FVec F S_ .f32 := constant S_ .f32 0x7F800000#32
  let main_v22 : FVec F S16 .f32 := broadcastInDim S16 ![] bcast_S_S16 main_cst_6
  let main_v23 : IVec S16 1 := cmpf .olt main_v21 main_v22
  (main_v2, main_v5, main_v8, main_v11, main_v14, main_v17, main_v20, main_v23)

def fn {F : FTy → Type} [FloatOps F] (main_arg0 : FVec F S8x2048x1024 .f32) (main_arg1 : FVec F S8x2048x1536 .f32) (main_arg2 : FVec F S8x2048x16 .f32) (main_arg3 : FVec F S4x1536 .f32) (main_arg4 : FVec F S1536 .f32) (main_arg5 : FVec F S16 .f32) (main_arg6 : FVec F S16 .f32) (main_arg7 : FVec F S16 .f32) (main_arg8 : FVec F S1024 .f32) : IVec S8x2048x1024 1 × IVec S8x2048x1536 1 × IVec S8x2048x16 1 × IVec S4x1536 1 × IVec S1536 1 × IVec S16 1 × IVec S16 1 × IVec S16 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_v3 : FVec F S8x2048x1536 .f32 := Host.absf main_arg1
  let main_cst_0 : FVec F S_ .f32 := constant S_ .f32 0x7F800000#32
  let main_v4 : FVec F S8x2048x1536 .f32 := broadcastInDim S8x2048x1536 ![] bcast_S_S8x2048x1536 main_cst_0
  let main_v5 : IVec S8x2048x1536 1 := cmpf .olt main_v3 main_v4
  let main_v6 : FVec F S8x2048x16 .f32 := Host.absf main_arg2
  let main_cst_1 : FVec F S_ .f32 := constant S_ .f32 0x7F800000#32
  let main_v7 : FVec F S8x2048x16 .f32 := broadcastInDim S8x2048x16 ![] bcast_S_S8x2048x16 main_cst_1
  let main_v8 : IVec S8x2048x16 1 := cmpf .olt main_v6 main_v7
  let main_v9 : FVec F S4x1536 .f32 := Host.absf main_arg3
  let main_cst_2 : FVec F S_ .f32 := constant S_ .f32 0x7F800000#32
  let main_v10 : FVec F S4x1536 .f32 := broadcastInDim S4x1536 ![] bcast_S_S4x1536 main_cst_2
  let main_v11 : IVec S4x1536 1 := cmpf .olt main_v9 main_v10
  let main_v12 : FVec F S1536 .f32 := Host.absf main_arg4
  let main_cst_3 : FVec F S_ .f32 := constant S_ .f32 0x7F800000#32
  let main_v13 : FVec F S1536 .f32 := broadcastInDim S1536 ![] bcast_S_S1536 main_cst_3
  let main_v14 : IVec S1536 1 := cmpf .olt main_v12 main_v13
  let main_v15 : FVec F S16 .f32 := Host.absf main_arg5
  let main_cst_4 : FVec F S_ .f32 := constant S_ .f32 0x7F800000#32
  let main_v16 : FVec F S16 .f32 := broadcastInDim S16 ![] bcast_S_S16 main_cst_4
  let main_v17 : IVec S16 1 := cmpf .olt main_v15 main_v16
  fn_part1 (F := F) main_arg6 main_arg7 main_v2 main_v5 main_v8 main_v11 main_v14 main_v17
-- ==== Kernel.lean ====
abbrev S8x2048x1024 : Shape := ⟨3, ![8, 2048, 1024]⟩
abbrev S8x2048x1536 : Shape := ⟨3, ![8, 2048, 1536]⟩
abbrev S8x2048x16 : Shape := ⟨3, ![8, 2048, 16]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S16384x1024 : Shape := ⟨2, ![16384, 1024]⟩
abbrev S_ : Shape := ⟨0, ![]⟩
abbrev S16384x16 : Shape := ⟨2, ![16384, 16]⟩
abbrev S16384x112 : Shape := ⟨2, ![16384, 112]⟩
abbrev S16384x128 : Shape := ⟨2, ![16384, 128]⟩
abbrev S16384x1536 : Shape := ⟨2, ![16384, 1536]⟩
abbrev S128x16384 : Shape := ⟨2, ![128, 16384]⟩
abbrev S1x1536 : Shape := ⟨2, ![1, 1536]⟩
abbrev S1x16 : Shape := ⟨2, ![1, 16]⟩
abbrev S16x1 : Shape := ⟨2, ![16, 1]⟩
abbrev S1x1024 : Shape := ⟨2, ![1, 1024]⟩
abbrev S128x1536 : Shape := ⟨2, ![128, 1536]⟩
abbrev S128x1024 : Shape := ⟨2, ![128, 1024]⟩
abbrev S128x128 : Shape := ⟨2, ![128, 128]⟩
abbrev S136x1536 : Shape := ⟨2, ![136, 1536]⟩
abbrev S8x1536 : Shape := ⟨2, ![8, 1536]⟩
abbrev S128x256 : Shape := ⟨2, ![128, 256]⟩
abbrev S128x16 : Shape := ⟨2, ![128, 16]⟩
abbrev S16x128 : Shape := ⟨2, ![16, 128]⟩
abbrev S16x1024 : Shape := ⟨2, ![16, 1024]⟩
abbrev S6x16 : Shape := ⟨2, ![6, 16]⟩
abbrev S8x16 : Shape := ⟨2, ![8, 16]⟩
abbrev S392x16 : Shape := ⟨2, ![392, 16]⟩
abbrev S392x48 : Shape := ⟨2, ![392, 48]⟩
abbrev S48x1024 : Shape := ⟨2, ![48, 1024]⟩
abbrev S392x1024 : Shape := ⟨2, ![392, 1024]⟩
abbrev S128x512 : Shape := ⟨2, ![128, 512]⟩
abbrev S1x512 : Shape := ⟨2, ![1, 512]⟩
abbrev S128x1 : Shape := ⟨2, ![128, 1]⟩
abbrev S1x128 : Shape := ⟨2, ![1, 128]⟩
abbrev S128x64 : Shape := ⟨2, ![128, 64]⟩
abbrev S128 : Shape := ⟨1, ![128]⟩

abbrev nBuf : Space → Nat
  | .hbm => 30
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1536, .f32⟩
  | .hbm, ⟨2, _⟩ => ⟨S8x2048x16, .f32⟩
  | .hbm, ⟨3, _⟩ => ⟨S4x1536, .f32⟩
  | .hbm, ⟨4, _⟩ => ⟨S1536, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x16, .f32⟩
  | .hbm, ⟨17, _⟩ => ⟨S_, .f32⟩
  | .hbm, ⟨18, _⟩ => ⟨S16384x112, .f32⟩
  | .hbm, ⟨19, _⟩ => ⟨S16384x128, .f32⟩
  | .hbm, ⟨20, _⟩ => ⟨S16384x1536, .f32⟩
  | .hbm, ⟨21, _⟩ => ⟨S128x16384, .f32⟩
  | .hbm, ⟨22, _⟩ => ⟨S1x1536, .f32⟩
  | .hbm, ⟨23, _⟩ => ⟨S1x16, .f32⟩
  | .hbm, ⟨24, _⟩ => ⟨S16x1, .f32⟩
  | .hbm, ⟨25, _⟩ => ⟨S1x16, .f32⟩
  | .hbm, ⟨26, _⟩ => ⟨S16x1, .f32⟩
  | .hbm, ⟨27, _⟩ => ⟨S1x16, .f32⟩
  | .hbm, ⟨28, _⟩ => ⟨S1x1024, .f32⟩
  | .hbm, ⟨29, _⟩ => ⟨S16384x1024, .bf16⟩
  | .local _ .vmem, ⟨0, _⟩ => ⟨S128x1536, .f32⟩
  | .local _ .vmem, ⟨1, _⟩ => ⟨S128x1536, .f32⟩
  | .local _ .vmem, ⟨2, _⟩ => ⟨S128x1024, .f32⟩
  | .local _ .vmem, ⟨3, _⟩ => ⟨S128x1024, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S4x1536, .f32⟩
  | .local _ .vmem, ⟨9, _⟩ => ⟨S1x1536, .f32⟩
  | .local _ .vmem, ⟨10, _⟩ => ⟨S1x16, .f32⟩
  | .local _ .vmem, ⟨11, _⟩ => ⟨S16x1, .f32⟩
  | .local _ .vmem, ⟨12, _⟩ => ⟨S1x16, .f32⟩
  | .local _ .vmem, ⟨13, _⟩ => ⟨S16x1, .f32⟩
  | .local _ .vmem, ⟨14, _⟩ => ⟨S1x16, .f32⟩
  | .local _ .vmem, ⟨15, _⟩ => ⟨S1x1024, .f32⟩
  | .local _ .vmem, ⟨16, _⟩ => ⟨S128x1024, .bf16⟩
  | .local _ .vmem, ⟨17, _⟩ => ⟨S128x1024, .bf16⟩
  | .local _ .vmem, ⟨18, _⟩ => ⟨S136x1536, .f32⟩
  | .local _ .vmem, ⟨19, _⟩ => ⟨S128x1024, .f32⟩
  | .local _ .vmem, ⟨20, _⟩ => ⟨S128x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S8x2048x1024 : Shape := ⟨3, ![8, 2048, 1024]⟩
abbrev S8x2048x1536 : Shape := ⟨3, ![8, 2048, 1536]⟩
abbrev S8x2048x16 : Shape := ⟨3, ![8, 2048, 16]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S_ : Shape := ⟨0, ![]⟩
abbrev S8x2051x1536 : Shape := ⟨3, ![8, 2051, 1536]⟩
abbrev S1x1536 : Shape := ⟨2, ![1, 1536]⟩
abbrev S1x1x1536 : Shape := ⟨3, ![1, 1, 1536]⟩
abbrev S8x2048x256 : Shape := ⟨3, ![8, 2048, 256]⟩
abbrev S8x16x128x2x8x64 : Shape := ⟨6, ![8, 16, 128, 2, 8, 64]⟩
abbrev S8x16x128x2x128 : Shape := ⟨5, ![8, 16, 128, 2, 128]⟩
abbrev S1x1x16 : Shape := ⟨3, ![1, 1, 16]⟩
abbrev S8x16x128x2x8 : Shape := ⟨5, ![8, 16, 128, 2, 8]⟩
abbrev S8x16x2x8x128 : Shape := ⟨5, ![8, 16, 2, 8, 128]⟩
abbrev S8x16x128x2x8x1 : Shape := ⟨6, ![8, 16, 128, 2, 8, 1]⟩
abbrev S128x128 : Shape := ⟨2, ![128, 128]⟩
abbrev S8x16x2x8x128x1 : Shape := ⟨6, ![8, 16, 2, 8, 128, 1]⟩
abbrev S8x16x2x8x1x128 : Shape := ⟨6, ![8, 16, 2, 8, 1, 128]⟩
abbrev S8x16x2x8x128x128 : Shape := ⟨6, ![8, 16, 2, 8, 128, 128]⟩
abbrev S8x16x2x128x128 : Shape := ⟨5, ![8, 16, 2, 128, 128]⟩
abbrev S8x16x2x1x128x128 : Shape := ⟨6, ![8, 16, 2, 1, 128, 128]⟩
abbrev S8x16x2x8x64x128 : Shape := ⟨6, ![8, 16, 2, 8, 64, 128]⟩
abbrev S8x16x2x8x1 : Shape := ⟨5, ![8, 16, 2, 8, 1]⟩
abbrev S8x16x2x8 : Shape := ⟨4, ![8, 16, 2, 8]⟩
abbrev S8x2x8x64x128 : Shape := ⟨5, ![8, 2, 8, 64, 128]⟩
abbrev S16x8x2x8x64x128 : Shape := ⟨6, ![16, 8, 2, 8, 64, 128]⟩
abbrev S16x8x2x8 : Shape := ⟨4, ![16, 8, 2, 8]⟩
abbrev S1x8x2x8x64x128 : Shape := ⟨6, ![1, 8, 2, 8, 64, 128]⟩
abbrev S1x8x2x8 : Shape := ⟨4, ![1, 8, 2, 8]⟩
abbrev S8x2x8 : Shape := ⟨3, ![8, 2, 8]⟩
abbrev S8x2x8x1x1 : Shape := ⟨5, ![8, 2, 8, 1, 1]⟩
abbrev S2x8x1 : Shape := ⟨3, ![2, 8, 1]⟩
abbrev S1x1x1x2x8x1 : Shape := ⟨6, ![1, 1, 1, 2, 8, 1]⟩
abbrev S8x2048x2x512 : Shape := ⟨4, ![8, 2048, 2, 512]⟩
abbrev S8x2048x2 : Shape := ⟨3, ![8, 2048, 2]⟩
abbrev S8x2048x2x1 : Shape := ⟨4, ![8, 2048, 2, 1]⟩
abbrev S1x1x1024 : Shape := ⟨3, ![1, 1, 1024]⟩
abbrev S16384x1024 : Shape := ⟨2, ![16384, 1024]⟩

abbrev nBuf : Space → Nat
  | .hbm => 212
  | .vmem => 0
  | .smem => 0
  | _ => 0

abbrev hbmTy0_0 (i : Nat) : BufTy := match i % 128 with
  | 0 => ⟨S8x2048x1024, .f32⟩
  | 1 => ⟨S8x2048x1536, .f32⟩
  | 2 => ⟨S8x2048x16, .f32⟩
  | 3 => ⟨S4x1536, .f32⟩
  | 4 => ⟨S1536, .f32⟩
  | 5 => ⟨S16, .f32⟩
  | 6 => ⟨S16, .f32⟩
  | 7 => ⟨S16, .f32⟩
  | 8 => ⟨S1024, .f32⟩
  | 9 => ⟨S_, .i32⟩
  | 10 => ⟨S_, .f32⟩
  | 11 => ⟨S8x2051x1536, .f32⟩
  | 12 => ⟨S8x2048x1536, .f32⟩
  | 13 => ⟨S1x1536, .f32⟩
  | 14 => ⟨S1536, .f32⟩
  | 15 => ⟨S1x1x1536, .f32⟩
  | 16 => ⟨S8x2048x1536, .f32⟩
  | 17 => ⟨S8x2048x1536, .f32⟩
  | 18 => ⟨S8x2048x1536, .f32⟩
  | 19 => ⟨S1x1536, .f32⟩
  | 20 => ⟨S1536, .f32⟩
  | 21 => ⟨S1x1x1536, .f32⟩
  | 22 => ⟨S8x2048x1536, .f32⟩
  | 23 => ⟨S8x2048x1536, .f32⟩
  | 24 => ⟨S8x2048x1536, .f32⟩
  | 25 => ⟨S8x2048x1536, .f32⟩
  | 26 => ⟨S1x1536, .f32⟩
  | 27 => ⟨S1536, .f32⟩
  | 28 => ⟨S1x1x1536, .f32⟩
  | 29 => ⟨S8x2048x1536, .f32⟩
  | 30 => ⟨S8x2048x1536, .f32⟩
  | 31 => ⟨S8x2048x1536, .f32⟩
  | 32 => ⟨S8x2048x1536, .f32⟩
  | 33 => ⟨S1x1536, .f32⟩
  | 34 => ⟨S1536, .f32⟩
  | 35 => ⟨S1x1x1536, .f32⟩
  | 36 => ⟨S8x2048x1536, .f32⟩
  | 37 => ⟨S8x2048x1536, .f32⟩
  | 38 => ⟨S8x2048x1536, .f32⟩
  | 39 => ⟨S1x1x1536, .f32⟩
  | 40 => ⟨S8x2048x1536, .f32⟩
  | 41 => ⟨S8x2048x1536, .f32⟩
  | 42 => ⟨S8x2048x1536, .f32⟩
  | 43 => ⟨S8x2048x1536, .f32⟩
  | 44 => ⟨S_, .f32⟩
  | 45 => ⟨S8x2048x1536, .f32⟩
  | 46 => ⟨S8x2048x1536, .f32⟩
  | 47 => ⟨S_, .f32⟩
  | 48 => ⟨S8x2048x1536, .f32⟩
  | 49 => ⟨S8x2048x1536, .f32⟩
  | 50 => ⟨S8x2048x1536, .f32⟩
  | 51 => ⟨S8x2048x1024, .f32⟩
  | 52 => ⟨S8x2048x256, .f32⟩
  | 53 => ⟨S8x2048x256, .f32⟩
  | 54 => ⟨S8x16x128x2x8x64, .f32⟩
  | 55 => ⟨S8x16x128x2x128, .f32⟩
  | 56 => ⟨S8x16x128x2x128, .f32⟩
  | 57 => ⟨S1x1x16, .f32⟩
  | 58 => ⟨S8x2048x16, .f32⟩
  | 59 => ⟨S8x2048x16, .f32⟩
  | 60 => ⟨S_, .f32⟩
  | 61 => ⟨S8x2048x16, .f32⟩
  | 62 => ⟨S8x2048x16, .f32⟩
  | 63 => ⟨S8x2048x16, .f32⟩
  | 64 => ⟨S8x2048x16, .f32⟩
  | 65 => ⟨S8x2048x16, .i1⟩
  | 66 => ⟨S8x2048x16, .f32⟩
  | 67 => ⟨S8x2048x16, .f32⟩
  | 68 => ⟨S8x2048x16, .f32⟩
  | 69 => ⟨S8x2048x16, .f32⟩
  | 70 => ⟨S8x2048x16, .f32⟩
  | 71 => ⟨S8x2048x16, .f32⟩
  | 72 => ⟨S8x2048x16, .f32⟩
  | 73 => ⟨S8x2048x16, .f32⟩
  | 74 => ⟨S16, .f32⟩
  | 75 => ⟨S16, .f32⟩
  | 76 => ⟨S1x1x16, .f32⟩
  | 77 => ⟨S8x2048x16, .f32⟩
  | 78 => ⟨S8x2048x16, .f32⟩
  | 79 => ⟨S8x16x128x2x8, .f32⟩
  | 80 => ⟨S8x16x2x8x128, .f32⟩
  | 81 => ⟨S8x16x128x2x8, .f32⟩
  | 82 => ⟨S8x16x128x2x8x1, .f32⟩
  | 83 => ⟨S8x16x128x2x8x64, .f32⟩
  | 84 => ⟨S8x16x128x2x8x64, .f32⟩
  | 85 => ⟨S_, .f32⟩
  | 86 => ⟨S_, .f32⟩
  | 87 => ⟨S8x16x2x8x128, .f32⟩
  | 88 => ⟨S_, .i1⟩
  | 89 => ⟨S128x128, .i1⟩
  | 90 => ⟨S128x128, .i32⟩
  | 91 => ⟨S_, .i32⟩
  | 92 => ⟨S128x128, .i32⟩
  | 93 => ⟨S128x128, .i32⟩
  | 94 => ⟨S128x128, .i32⟩
  | 95 => ⟨S128x128, .i1⟩
  | 96 => ⟨S_, .i1⟩
  | 97 => ⟨S128x128, .i1⟩
  | 98 => ⟨S128x128, .i1⟩
  | 99 => ⟨S8x16x2x8x128x1, .f32⟩
  | 100 => ⟨S8x16x2x8x1x128, .f32⟩
  | 101 => ⟨S8x16x2x8x128x128, .f32⟩
  | 102 => ⟨S8x16x2x8x128x128, .f32⟩
  | 103 => ⟨S8x16x2x8x128x128, .f32⟩
  | 104 => ⟨S_, .f32⟩
  | 105 => ⟨S_, .f32⟩
  | 106 => ⟨S8x16x2x8x128x128, .i1⟩
  | 107 => ⟨S8x16x2x8x128x128, .f32⟩
  | 108 => ⟨S8x16x2x8x128x128, .f32⟩
  | 109 => ⟨S8x16x2x8x128x128, .f32⟩
  | 110 => ⟨S8x16x2x128x128, .f32⟩
  | 111 => ⟨S8x16x2x1x128x128, .f32⟩
  | 112 => ⟨S8x16x2x8x128x128, .f32⟩
  | 113 => ⟨S8x16x2x8x128x128, .f32⟩
  | 114 => ⟨S8x16x2x8x64x128, .f32⟩
  | 115 => ⟨S8x16x128x2x8x64, .f32⟩
  | 116 => ⟨S8x16x2x8x1, .f32⟩
  | 117 => ⟨S8x16x2x8x128, .f32⟩
  | 118 => ⟨S8x16x2x8x128, .f32⟩
  | 119 => ⟨S8x16x2x8x128, .f32⟩
  | 120 => ⟨S8x16x128x2x8, .f32⟩
  | 121 => ⟨S8x16x128x2x8x1, .f32⟩
  | 122 => ⟨S8x16x128x2x8x64, .f32⟩
  | 123 => ⟨S8x16x128x2x8x64, .f32⟩
  | 124 => ⟨S8x16x2x8x64x128, .f32⟩
  | 125 => ⟨S8x16x2x8x1, .f32⟩
  | 126 => ⟨S8x16x2x8, .f32⟩
  | 127 => ⟨S8x16x2x8, .f32⟩
  | _ => ⟨S8x2048x1024, .f32⟩

abbrev hbmTy0_1 (i : Nat) : BufTy := match i % 128 with
  | 0 => ⟨S_, .f32⟩
  | 1 => ⟨S8x2x8x64x128, .f32⟩
  | 2 => ⟨S16x8x2x8x64x128, .f32⟩
  | 3 => ⟨S16x8x2x8, .f32⟩
  | 4 => ⟨S_, .f32⟩
  | 5 => ⟨S16x8x2x8x64x128, .f32⟩
  | 6 => ⟨S_, .i32⟩
  | 7 => ⟨S16x8x2x8x64x128, .f32⟩
  | 8 => ⟨S16x8x2x8, .f32⟩
  | 9 => ⟨S_, .i32⟩
  | 10 => ⟨S8x2x8x64x128, .f32⟩
  | 11 => ⟨S16x8x2x8x64x128, .f32⟩
  | 12 => ⟨S_, .i32⟩
  | 13 => ⟨S_, .i1⟩
  | 14 => ⟨S_, .i32⟩
  | 15 => ⟨S_, .i32⟩
  | 16 => ⟨S_, .i32⟩
  | 17 => ⟨S_, .i32⟩
  | 18 => ⟨S_, .i32⟩
  | 19 => ⟨S1x8x2x8x64x128, .f32⟩
  | 20 => ⟨S8x2x8x64x128, .f32⟩
  | 21 => ⟨S_, .i32⟩
  | 22 => ⟨S_, .i32⟩
  | 23 => ⟨S_, .i32⟩
  | 24 => ⟨S1x8x2x8, .f32⟩
  | 25 => ⟨S8x2x8, .f32⟩
  | 26 => ⟨S8x2x8x1x1, .f32⟩
  | 27 => ⟨S8x2x8x64x128, .f32⟩
  | 28 => ⟨S8x2x8x64x128, .f32⟩
  | 29 => ⟨S8x2x8x64x128, .f32⟩
  | 30 => ⟨S1x8x2x8x64x128, .f32⟩
  | 31 => ⟨S_, .i32⟩
  | 32 => ⟨S_, .i32⟩
  | 33 => ⟨S_, .i32⟩
  | 34 => ⟨S_, .i32⟩
  | 35 => ⟨S_, .i32⟩
  | 36 => ⟨S16x8x2x8x64x128, .f32⟩
  | 37 => ⟨S_, .i32⟩
  | 38 => ⟨S_, .i32⟩
  | 39 => ⟨S8x16x2x8x64x128, .f32⟩
  | 40 => ⟨S8x16x2x8x64x128, .f32⟩
  | 41 => ⟨S8x16x128x2x8x64, .f32⟩
  | 42 => ⟨S8x16x2x8x128, .f32⟩
  | 43 => ⟨S8x16x128x2x8, .f32⟩
  | 44 => ⟨S8x16x128x2x8x1, .f32⟩
  | 45 => ⟨S8x16x128x2x8x64, .f32⟩
  | 46 => ⟨S8x16x128x2x8x64, .f32⟩
  | 47 => ⟨S8x16x128x2x8x64, .f32⟩
  | 48 => ⟨S2x8x1, .f32⟩
  | 49 => ⟨S1x1x1x2x8x1, .f32⟩
  | 50 => ⟨S8x16x128x2x8x64, .f32⟩
  | 51 => ⟨S8x16x128x2x8x64, .f32⟩
  | 52 => ⟨S8x16x128x2x8x64, .f32⟩
  | 53 => ⟨S8x2048x1024, .f32⟩
  | 54 => ⟨S8x2048x1024, .f32⟩
  | 55 => ⟨S8x2048x1024, .f32⟩
  | 56 => ⟨S_, .f32⟩
  | 57 => ⟨S8x2048x1024, .f32⟩
  | 58 => ⟨S8x2048x1024, .f32⟩
  | 59 => ⟨S_, .f32⟩
  | 60 => ⟨S8x2048x1024, .f32⟩
  | 61 => ⟨S8x2048x1024, .f32⟩
  | 62 => ⟨S8x2048x1024, .f32⟩
  | 63 => ⟨S8x2048x1024, .f32⟩
  | 64 => ⟨S8x2048x2x512, .f32⟩
  | 65 => ⟨S8x2048x2x512, .f32⟩
  | 66 => ⟨S_, .f32⟩
  | 67 => ⟨S8x2048x2, .f32⟩
  | 68 => ⟨S8x2048x2x1, .f32⟩
  | 69 => ⟨S_, .f32⟩
  | 70 => ⟨S8x2048x2x1, .f32⟩
  | 71 => ⟨S8x2048x2x1, .f32⟩
  | 72 => ⟨S_, .f32⟩
  | 73 => ⟨S8x2048x2x1, .f32⟩
  | 74 => ⟨S8x2048x2x1, .f32⟩
  | 75 => ⟨S8x2048x2x1, .f32⟩
  | 76 => ⟨S8x2048x2x512, .f32⟩
  | 77 => ⟨S8x2048x2x512, .f32⟩
  | 78 => ⟨S8x2048x1024, .f32⟩
  | 79 => ⟨S1x1x1024, .f32⟩
  | 80 => ⟨S8x2048x1024, .f32⟩
  | 81 => ⟨S8x2048x1024, .f32⟩
  | 82 => ⟨S16384x1024, .f32⟩
  | 83 => ⟨S16384x1024, .bf16⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_call2_cst : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_v6 : Ref sig .tc := ⟨.hbm, 67, rfl⟩
abbrev main_call2_v7 : Ref sig .tc := ⟨.hbm, 68, rfl⟩
abbrev main_call2_v8 : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_call3_call0_cst : Ref sig .tc := ⟨.hbm, 85, rfl⟩
abbrev main_call3_call0_v0 : Ref sig .tc := ⟨.hbm, 86, rfl⟩
abbrev main_v53 : Ref sig .tc := ⟨.hbm, 87, rfl⟩
abbrev main_c_0 : Ref sig .tc := ⟨.hbm, 88, rfl⟩
abbrev main_v54 : Ref sig .tc := ⟨.hbm, 89, rfl⟩
abbrev main_call4_v0 : Ref sig .tc := ⟨.hbm, 90, rfl⟩
abbrev main_call4_c : Ref sig .tc := ⟨.hbm, 91, rfl⟩
abbrev main_call4_v1 : Ref sig .tc := ⟨.hbm, 92, rfl⟩
abbrev main_call4_v2 : Ref sig .tc := ⟨.hbm, 93, rfl⟩
abbrev main_call4_v3 : Ref sig .tc := ⟨.hbm, 94, rfl⟩
abbrev main_call4_v4 : Ref sig .tc := ⟨.hbm, 95, rfl⟩
abbrev main_call4_c_0 : Ref sig .tc := ⟨.hbm, 96, rfl⟩
abbrev main_call4_v5 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_cst : Ref sig .tc := ⟨.hbm, 104, rfl⟩
abbrev main_call5_v0 : Ref sig .tc := ⟨.hbm, 105, rfl⟩
abbrev main_call5_v1 : Ref sig .tc := ⟨.hbm, 106, rfl⟩
abbrev main_call5_v2 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_cst_1 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_cst_2 : Ref sig .tc := ⟨.hbm, 132, rfl⟩
abbrev main_v84 : Ref sig .tc := ⟨.hbm, 133, rfl⟩
abbrev main_c_3 : Ref sig .tc := ⟨.hbm, 134, rfl⟩
abbrev main_v85_0 : Ref sig .tc := ⟨.hbm, 135, rfl⟩
abbrev main_v85_1 : Ref sig .tc := ⟨.hbm, 136, rfl⟩
abbrev main_v85_2 : Ref sig .tc := ⟨.hbm, 137, rfl⟩
abbrev main_v85_3 : Ref sig .tc := ⟨.hbm, 138, rfl⟩
abbrev main_v85_4 : Ref sig .tc := ⟨.hbm, 139, rfl⟩
abbrev main_while0c_c_11 : Ref sig .tc := ⟨.hbm, 140, rfl⟩
abbrev main_while0c_v120 : Ref sig .tc := ⟨.hbm, 141, rfl⟩
abbrev main_while0b_call6_c : Ref sig .tc := ⟨.hbm, 142, rfl⟩
abbrev main_while0b_call6_c_0 : Ref sig .tc := ⟨.hbm, 143, rfl⟩
abbrev main_while0b_call6_c_1 : Ref sig .tc := ⟨.hbm, 144, rfl⟩
abbrev main_while0b_call6_c_2 : Ref sig .tc := ⟨.hbm, 145, rfl⟩
abbrev main_while0b_call6_c_3 : Ref sig .tc := ⟨.hbm, 146, rfl⟩
abbrev main_while0b_call6_v0 : Ref sig .tc := ⟨.hbm, 147, rfl⟩
abbrev main_while0b_v120 : Ref sig .tc := ⟨.hbm, 148, rfl⟩
abbrev main_while0b_call7_c : Ref sig .tc := ⟨.hbm, 149, rfl⟩
abbrev main_while0b_call7_c_0 : Ref sig .tc := ⟨.hbm, 150, rfl⟩
abbrev main_while0b_call7_c_1 : Ref sig .tc := ⟨.hbm, 151, rfl⟩
abbrev main_while0b_call7_v0 : Ref sig .tc := ⟨.hbm, 152, rfl⟩
abbrev main_while0b_v121 : Ref sig .tc := ⟨.hbm, 153, rfl⟩
abbrev main_while0b_v122 : Ref sig .tc := ⟨.hbm, 154, rfl⟩
abbrev main_while0b_v123 : Ref sig .tc := ⟨.hbm, 155, rfl⟩
abbrev main_while0b_v124 : Ref sig .tc := ⟨.hbm, 156, rfl⟩
abbrev main_while0b_v125 : Ref sig .tc := ⟨.hbm, 157, rfl⟩
abbrev main_while0b_call8_v0 : Ref sig .tc := ⟨.hbm, 158, rfl⟩
abbrev main_while0b_call8_c : Ref sig .tc := ⟨.hbm, 159, rfl⟩
abbrev main_while0b_call8_c_0 : Ref sig .tc := ⟨.hbm, 160, rfl⟩
abbrev main_while0b_call8_c_1 : Ref sig .tc := ⟨.hbm, 161, rfl⟩
abbrev main_while0b_call8_c_2 : Ref sig .tc := ⟨.hbm, 162, rfl⟩
abbrev main_while0b_call8_c_3 : Ref sig .tc := ⟨.hbm, 163, rfl⟩
abbrev main_while0b_v126 : Ref sig .tc := ⟨.hbm, 164, rfl⟩
abbrev main_while0b_c_11 : Ref sig .tc := ⟨.hbm, 165, rfl⟩
abbrev main_while0b_v127 : Ref sig .tc := ⟨.hbm, 166, rfl⟩
abbrev main_v86 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_call9_v0 : Ref sig .tc := ⟨.hbm, 182, rfl⟩
abbrev main_call9_v1 : Ref sig .tc := ⟨.hbm, 183, rfl⟩
abbrev main_call9_cst : Ref sig .tc := ⟨.hbm, 184, rfl⟩
abbrev main_call9_v2 : Ref sig .tc := ⟨.hbm, 185, rfl⟩
abbrev main_call9_v3 : Ref sig .tc := ⟨.hbm, 186, rfl⟩
abbrev main_call9_cst_0 : Ref sig .tc := ⟨.hbm, 187, rfl⟩
abbrev main_call9_v4 : Ref sig .tc := ⟨.hbm, 188, rfl⟩
abbrev main_call9_v5 : Ref sig .tc := ⟨.hbm, 189, rfl⟩
abbrev main_v101 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_cst_4 : Ref sig .tc := ⟨.hbm, 194, rfl⟩
abbrev main_v105 : Ref sig .tc := ⟨.hbm, 195, rfl⟩
abbrev main_v106 : Ref sig .tc := ⟨.hbm, 196, rfl⟩
abbrev main_cst_5 : Ref sig .tc := ⟨.hbm, 197, rfl⟩
abbrev main_v107 : Ref sig .tc := ⟨.hbm, 198, rfl⟩
abbrev main_v108 : Ref sig .tc := ⟨.hbm, 199, rfl⟩
abbrev main_cst_6 : Ref sig .tc := ⟨.hbm, 200, rfl⟩
abbrev main_v109 : Ref sig .tc := ⟨.hbm, 201, rfl⟩
abbrev main_v110 : Ref sig .tc := ⟨.hbm, 202, rfl⟩
abbrev main_v111 : Ref sig .tc := ⟨.hbm, 203, rfl⟩
abbrev main_v112 : Ref sig .tc := ⟨.hbm, 204, rfl⟩
abbrev main_v113 : Ref sig .tc := ⟨.hbm, 205, rfl⟩
abbrev main_v114 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_v118 : Ref sig .tc := ⟨.hbm, 210, rfl⟩
abbrev main_v119 : Ref sig .tc := ⟨.hbm, 211, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S16384x1024 : Shape := ⟨2, ![16384, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S1x5632 : Shape := ⟨2, ![1, 5632]⟩
abbrev S1x1024 : Shape := ⟨2, ![1, 1024]⟩
abbrev S512x1024 : Shape := ⟨2, ![512, 1024]⟩
abbrev S16x1024 : Shape := ⟨2, ![16, 1024]⟩
abbrev S512x2816 : Shape := ⟨2, ![512, 2816]⟩
abbrev S528x1024 : Shape := ⟨2, ![528, 1024]⟩
abbrev S1024x256 : Shape := ⟨2, ![1024, 256]⟩
abbrev S528x256 : Shape := ⟨2, ![528, 256]⟩
abbrev S1x256 : Shape := ⟨2, ![1, 256]⟩
abbrev S512x256 : Shape := ⟨2, ![512, 256]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S1024x5632, .bf16⟩
  | .hbm, ⟨8, _⟩ => ⟨S1x5632, .f32⟩
  | .hbm, ⟨9, _⟩ => ⟨S2816x1024, .bf16⟩
  | .hbm, ⟨10, _⟩ => ⟨S1x1024, .f32⟩
  | .hbm, ⟨11, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S512x1024, .f32⟩
  | .local _ .vmem, ⟨5, _⟩ => ⟨S512x1024, .f32⟩
  | .local _ .vmem, ⟨6, _⟩ => ⟨S1024x5632, .bf16⟩
  | .local _ .vmem, ⟨7, _⟩ => ⟨S3x5632, .f32⟩
  | .local _ .vmem, ⟨8, _⟩ => ⟨S1x5632, .f32⟩
  | .local _ .vmem, ⟨9, _⟩ => ⟨S2816x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x2816, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S16384x1024 : Shape := ⟨2, ![16384, 1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024 : Shape := ⟨1, ![1024]⟩
abbrev S8x2048x1024 : Shape := ⟨3, ![8, 2048, 1024]⟩
abbrev S8x2048x5632 : Shape := ⟨3, ![8, 2048, 5632]⟩
abbrev S_ : Shape := ⟨0, ![]⟩
abbrev S8x2050x5632 : Shape := ⟨3, ![8, 2050, 5632]⟩
abbrev S1x5632 : Shape := ⟨2, ![1, 5632]⟩
abbrev S1x1x5632 : Shape := ⟨3, ![1, 1, 5632]⟩
abbrev S8x2048x2816 : Shape := ⟨3, ![8, 2048, 2816]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .f32⟩
  | .hbm, ⟨2, _⟩ => ⟨S1024x5632, .f32⟩
  | .hbm, ⟨3, _⟩ => ⟨S3x5632, .f32⟩
  | .hbm, ⟨4, _⟩ => ⟨S5632, .f32⟩
  | .hbm, ⟨5, _⟩ => ⟨S2816x1024, .f32⟩
  | .hbm, ⟨6, _⟩ => ⟨S1024, .f32⟩
  | .hbm, ⟨7, _⟩ => ⟨S16384x1024, .f32⟩
  | .hbm, ⟨8, _⟩ => ⟨S8x2048x1024, .f32⟩
  | .hbm, ⟨9, _⟩ => ⟨S8x2048x1024, .f32⟩
  | .hbm, ⟨10, _⟩ => ⟨S8x2048x5632, .f32⟩
  | .hbm, ⟨11, _⟩ => ⟨S_, .i32⟩
  | .hbm, ⟨12, _⟩ => ⟨S_, .f32⟩
  | .hbm, ⟨13, _⟩ => ⟨S8x2050x5632, .f32⟩
  | .hbm, ⟨14, _⟩ => ⟨S8x2048x5632, .f32⟩
  | .hbm, ⟨15, _⟩ => ⟨S1x5632, .f32⟩
  | .hbm, ⟨16, _⟩ => ⟨S5632, .f32⟩
  | .hbm, ⟨17, _⟩ => ⟨S1x1x5632, .f32⟩
  | .hbm, ⟨18, _⟩ => ⟨S8x2048x5632, .f32⟩
  | .hbm, ⟨19, _⟩ => ⟨S8x2048x5632, .f32⟩
  | .hbm, ⟨20, _⟩ => ⟨S8x2048x5632, .f32⟩
  | .hbm, ⟨21, _⟩ => ⟨S1x5632, .f32⟩
  | .hbm, ⟨22, _⟩ => ⟨S5632, .f32⟩
  | .hbm, ⟨23, _⟩ => ⟨S1x1x5632, .f32⟩
  | .hbm, ⟨24, _⟩ => ⟨S8x2048x5632, .f32⟩
  | .hbm, ⟨25, _⟩ => ⟨S8x2048x5632, .f32⟩
  | .hbm, ⟨26, _⟩ => ⟨S8x2048x5632, .f32⟩
  | .hbm, ⟨27, _⟩ => ⟨S8x2048x5632, .f32⟩
  | .hbm, ⟨28, _⟩ => ⟨S1x5632, .f32⟩
  | .hbm, ⟨29, _⟩ => ⟨S5632, .f32⟩
  | .hbm, ⟨30, _⟩ => ⟨S1x1x5632, .f32⟩
  | .hbm, ⟨31, _⟩ => ⟨S8x2048x5632, .f32⟩
  | .hbm, ⟨32, _⟩ => ⟨S8x2048x5632, .f32⟩
  | .hbm, ⟨33, _⟩ => ⟨S8x2048x5632, .f32⟩
  | .hbm, ⟨34, _⟩ => ⟨S1x1x5632, .f32⟩
  | .hbm, ⟨35, _⟩ => ⟨S8x2048x5632, .f32⟩
  | .hbm, ⟨36, _⟩ => ⟨S8x2048x5632, .f32⟩
  | .hbm, ⟨37, _⟩ => ⟨S8x2048x2816, .f32⟩
  | .hbm, ⟨38, _⟩ => ⟨S8x2048x2816, .f32⟩
  | .hbm, ⟨39, _⟩ => ⟨S8x2048x2816, .f32⟩
  | .hbm, ⟨40, _⟩ => ⟨S8x2048x2816, .f32⟩
  | .hbm, ⟨41, _⟩ => ⟨S_, .f32⟩
  | .hbm, ⟨42, _⟩ => ⟨S8x2048x2816, .f32⟩
  | .hbm, ⟨43, _⟩ => ⟨S8x2048x2816, .f32⟩
  | .hbm, ⟨44, _⟩ => ⟨S_, .f32⟩
  | .hbm, ⟨45, _⟩ => ⟨S8x2048x2816, .f32⟩
  | .hbm, ⟨46, _⟩ => ⟨S8x2048x2816, .f32⟩
  | .hbm, ⟨47, _⟩ => ⟨S8x2048x2816, .f32⟩
  | .hbm, ⟨48, _⟩ => ⟨S8x2048x2816, .f32⟩
  | .hbm, ⟨49, _⟩ => ⟨S8x2048x1024, .f32⟩
  | .hbm, ⟨50, _⟩ => ⟨S8x2048x1024, .f32⟩
  | .hbm, ⟨51, _⟩ => ⟨S8x2048x1024, .f32⟩
  | .hbm, ⟨52, _⟩ => ⟨S_, .f32⟩
  | .hbm, ⟨53, _⟩ => ⟨S8x2048, .f32⟩
  | .hbm, ⟨54, _⟩ => ⟨S8x2048x1, .f32⟩
  | .hbm, ⟨55, _⟩ => ⟨S_, .f32⟩
  | .hbm, ⟨56, _⟩ => ⟨S8x2048x1, .f32⟩
  | .hbm, ⟨57, _⟩ => ⟨S8x2048x1, .f32⟩
  | .hbm, ⟨58, _⟩ => ⟨S_, .f32⟩
  | .hbm, ⟨59, _⟩ => ⟨S8x2048x1, .f32⟩
  | .hbm, ⟨60, _⟩ => ⟨S8x2048x1, .f32⟩
  | .hbm, ⟨61, _⟩ => ⟨S8x2048x1, .f32⟩
  | .hbm, ⟨62, _⟩ => ⟨S8x2048x1024, .f32⟩
  | .hbm, ⟨63, _⟩ => ⟨S8x2048x1024, .f32⟩
  | .hbm, ⟨64, _⟩ => ⟨S1x1x1024, .f32⟩
  | .hbm, ⟨65, _⟩ => ⟨S8x2048x1024, .f32⟩
  | .hbm, ⟨66, _⟩ => ⟨S8x2048x1024, .f32⟩
  | .hbm, ⟨67, _⟩ => ⟨S16384x1024, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst : Ref sig .tc := ⟨.hbm, 52, rfl⟩
abbrev main_v35 : Ref sig .tc := ⟨.hbm, 53, rfl⟩
abbrev main_v36 : Ref sig .tc := ⟨.hbm, 54, rfl⟩
abbrev main_cst_0 : Ref sig .tc := ⟨.hbm, 55, rfl⟩
abbrev main_v37 : Ref sig .tc := ⟨.hbm, 56, rfl⟩
abbrev main_v38 : Ref sig .tc := ⟨.hbm, 57, rfl⟩
abbrev main_cst_1 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩

abbrev nD : Nat := 1
abbrev τ : Topo := Topo.v7x

variable {F : FTy → Type} [FloatOps F]
-- ==== Kernel3.lean ====
abbrev S16384x1024 : Shape := ⟨2, ![16384, 1024]⟩
abbrev S8x2048x1024 : Shape := ⟨3, ![8, 2048, 1024]⟩
abbrev S2048x1024 : Shape := ⟨2, ![2048, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 12
  | .vmem => 13
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S8x2048x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S16384x1024, .f32⟩
  | .hbm, ⟨7, _⟩ => ⟨S2048x1024, .bf16⟩
  | .hbm, ⟨8, _⟩ => ⟨S1x1024, .f32⟩
  | .hbm, ⟨9, _⟩ => ⟨S1x1024, .f32⟩
  | .hbm, ⟨10, _⟩ => ⟨S16384x1024, .f32⟩
  | .hbm, ⟨11, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S2048x1024, .bf16⟩
  | .local _ .vmem, ⟨7, _⟩ => ⟨S1x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S16384x1024 : Shape := ⟨2, ![16384, 1024]⟩
abbrev S8x2048x1024 : Shape := ⟨3, ![8, 2048, 1024]⟩
abbrev S2048x1024 : Shape := ⟨2, ![2048, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2048 : Shape := ⟨3, ![8, 2048, 2048]⟩

abbrev nBuf : Space → Nat
  | .hbm => 48
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S8x2048x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S16384x1024, .f32⟩
  | .hbm, ⟨7, _⟩ => ⟨S8x2048x1024, .f32⟩
  | .hbm, ⟨8, _⟩ => ⟨S16384x1024, .f32⟩
  | .hbm, ⟨9, _⟩ => ⟨S8x2048x1024, .f32⟩
  | .hbm, ⟨10, _⟩ => ⟨S8x2048x1024, .f32⟩
  | .hbm, ⟨11, _⟩ => ⟨S_, .f32⟩
  | .hbm, ⟨12, _⟩ => ⟨S8x2048, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S_, .f32⟩
  | .hbm, ⟨18, _⟩ => ⟨S8x2048x1, .f32⟩
  | .hbm, ⟨19, _⟩ => ⟨S8x2048x1, .f32⟩
  | .hbm, ⟨20, _⟩ => ⟨S8x2048x1, .f32⟩
  | .hbm, ⟨21, _⟩ => ⟨S8x2048x1024, .f32⟩
  | .hbm, ⟨22, _⟩ => ⟨S8x2048x1024, .f32⟩
  | .hbm, ⟨23, _⟩ => ⟨S1x1x1024, .f32⟩
  | .hbm, ⟨24, _⟩ => ⟨S8x2048x1024, .f32⟩
  | .hbm, ⟨25, _⟩ => ⟨S8x2048x1024, .f32⟩
  | .hbm, ⟨26, _⟩ => ⟨S8x2048x2048, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S_, .f32⟩
  | .hbm, ⟨37, _⟩ => ⟨S8x2048x1, .f32⟩
  | .hbm, ⟨38, _⟩ => ⟨S8x2048x1, .f32⟩
  | .hbm, ⟨39, _⟩ => ⟨S8x2048x1, .f32⟩
  | .hbm, ⟨40, _⟩ => ⟨S8x2048x1024, .f32⟩
  | .hbm, ⟨41, _⟩ => ⟨S8x2048x1024, .f32⟩
  | .hbm, ⟨42, _⟩ => ⟨S1x1x1024, .f32⟩
  | .hbm, ⟨43, _⟩ => ⟨S8x2048x1024, .f32⟩
  | .hbm, ⟨44, _⟩ => ⟨S8x2048x1024, .f32⟩
  | .hbm, ⟨45, _⟩ => ⟨S16384x1024, .f32⟩
  | .hbm, ⟨46, _⟩ => ⟨S16384x1024, .f32⟩
  | .hbm, ⟨47, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Proof.Ssd.Spec.lean ====
/- The state-space mixer over the extended reals, chunk by chunk: the functions both programs are shown to compute,
   and which of their values are real numbers when the arguments are. -/
module

public import Idealize.ShloMosaic.Lib.Pointwise

@[expose] public section

set_option maxRecDepth 16384

noncomputable section

open Idealize.ShloMosaic

namespace Cert.Ssd

/-! ## Real numbers among the extended reals -/

/-- The extended real is a real number. -/
def Real' (x : EReal) : Prop := ∃ r : ℝ, x = (r : EReal)

theorem Real'.zero : Real' 0 := ⟨0, rfl⟩
theorem Real'.one : Real' 1 := ⟨1, rfl⟩
theorem Real'.add {x y : EReal} (hx : Real' x) (hy : Real' y) : Real' (x + y) := by
  obtain ⟨a, rfl⟩ := hx; obtain ⟨b, rfl⟩ := hy; exact ⟨a + b, (EReal.coe_add a b).symm⟩
theorem Real'.mul {x y : EReal} (hx : Real' x) (hy : Real' y) : Real' (x * y) := by
  obtain ⟨a, rfl⟩ := hx; obtain ⟨b, rfl⟩ := hy; exact ⟨a * b, (EReal.coe_mul a b).symm⟩
theorem Real'.sub {x y : EReal} (hx : Real' x) (hy : Real' y) : Real' (x - y) := by
  obtain ⟨a, rfl⟩ := hx; obtain ⟨b, rfl⟩ := hy; exact ⟨a - b, (EReal.coe_sub a b).symm⟩
theorem Real'.neg {x : EReal} (hx : Real' x) : Real' (-x) := by
  obtain ⟨a, rfl⟩ := hx; exact ⟨-a, (EReal.coe_neg a).symm⟩
theorem Real'.max {x y : EReal} (hx : Real' x) (hy : Real' y) : Real' (max x y) := by
  rcases max_choice x y with h | h <;> rw [h] <;> assumption
theorem Real'.ite {p : Prop} [Decidable p] {x y : EReal} (hx : Real' x) (hy : Real' y) : Real' (if p then x else y) := by
  split <;> assumption
theorem Real'.exp {x : EReal} (hx : Real' x) : Real' (Ideal.exp x) := by
  obtain ⟨a, rfl⟩ := hx; exact ⟨Real.exp a, rfl⟩
theorem Real'.sum {ι : Type} (s : Finset ι) (f : ι → EReal) (h : ∀ i, Real' (f i)) : Real' (∑ i ∈ s, f i) := by
  classical
  induction s using Finset.induction_on with
  | empty => simpa using Real'.zero
  | insert a s ha ih => rw [Finset.sum_insert ha]; exact (h a).add ih
theorem Real'.tanh {x : EReal} (hx : Real' x) : Real' (Ideal.tanh x) := by
  obtain ⟨a, rfl⟩ := hx; exact ⟨Real.tanh a, rfl⟩
theorem Real'.sub_self {x : EReal} (hx : Real' x) : x - x = 0 := by
  obtain ⟨a, rfl⟩ := hx; rw [← EReal.coe_sub, _root_.sub_self]; rfl
theorem Real'.log1p_exp {x : EReal} (hx : Real' x) : Real' (Ideal.log1p (Ideal.exp x)) := by
  obtain ⟨a, rfl⟩ := hx
  have h : (1 : EReal) + Ideal.exp (a : EReal) = ((1 + Real.exp a : ℝ) : EReal) := (EReal.coe_add 1 (Real.exp a)).symm
  rw [Ideal.log1p, h]
  have hp : ¬ (1 + Real.exp a ≤ 0) := not_le.2 (by have := Real.exp_pos a; linarith)
  exact ⟨Real.log (1 + Real.exp a), if_neg hp⟩
/-- An extended real of finite magnitude is a real number. -/
theorem Real'.of_abs_lt {x : EReal} (h : Max.max x (-x) < ⊤) : Real' x := by
  induction x with
  | bot => simp at h
  | top => simp at h
  | coe r => exact ⟨r, rfl⟩

/-! ## The activations -/

/-- The literal `0.5`. -/
abbrev half : EReal := Ideal.ofBits .f32 0x3F000000#32

theorem half_eq : half = ((1 / 2 : ℝ) : EReal) := by
  simp [half, Ideal.ofBits, Ideal.ieee]
  norm_num
  refine (EReal.coe_mul _ _).symm.trans (congrArg _ ?_)
  norm_num

/-- `x · sigmoid x`, the kernel's way: `h + h tanh h` at `h = x / 2`. -/
def silu (v : EReal) : EReal := half * v + half * v * Ideal.tanh (half * v)

theorem Real'.silu {x : EReal} (hx : Real' x) : Real' (silu x) := by
  have hh : Real' (half * x) := Real'.mul ⟨_, half_eq⟩ hx
  exact hh.add (hh.mul hh.tanh)

/-- On the reals the two ways of writing `x · sigmoid x` agree. -/
theorem silu_eq {x : EReal} (hx : Real' x) : silu x = x * Ideal.div 1 (1 + Ideal.exp (-x)) := by
  obtain ⟨a, rfl⟩ := hx
  have h1 : half * (a : EReal) = ((1 / 2 * a : ℝ) : EReal) := by rw [half_eq]; exact (EReal.coe_mul _ _).symm
  have h2 : (1 : EReal) + Ideal.exp (-(a : EReal)) = ((1 + Real.exp (-a) : ℝ) : EReal) := (EReal.coe_add 1 (Real.exp (-a))).symm
  have hp : 0 < 1 + Real.exp (-a) := by positivity
  have h3 : Ideal.div 1 ((1 + Real.exp (-a) : ℝ) : EReal) = ((1 / (1 + Real.exp (-a)) : ℝ) : EReal) := by
    have hne : ((1 + Real.exp (-a) : ℝ) : EReal) ≠ 0 := by
      intro h; have := EReal.coe_eq_zero.1 h; linarith
    rw [Ideal.div, if_neg hne, one_mul, ← EReal.coe_inv, one_div]
  rw [silu, h1, h2, h3]
  show ((1 / 2 * a : ℝ) : EReal) + ((1 / 2 * a : ℝ) : EReal) * ((Real.tanh (1 / 2 * a) : ℝ) : EReal) = _
  rw [← EReal.coe_mul, ← EReal.coe_add, ← EReal.coe_mul]
  congr 1
  have e1 : Real.exp (-a) = Real.exp (-(1 / 2 * a)) * Real.exp (-(1 / 2 * a)) := by rw [← Real.exp_add]; congr 1; ring
  have e2 : Real.exp (-(1 / 2 * a)) = (Real.exp (1 / 2 * a))⁻¹ := Real.exp_neg _
  rw [Real.tanh_eq_sinh_div_cosh, Real.sinh_eq, Real.cosh_eq, e1, e2]
  have hE : 0 < Real.exp (1 / 2 * a) := Real.exp_pos _
  set E := Real.exp (1 / 2 * a)
  have : E + E⁻¹ ≠ 0 := by positivity
  have : 1 + E⁻¹ * E⁻¹ ≠ 0 := by positivity
  field_simp
  ring

/-- `log (1 + e^v)`, the stable way both programs write it. -/
def softplus (v : EReal) : EReal := max v 0 + Ideal.log1p (Ideal.exp (0 - max v (-v)))

theorem Real'.softplus {x : EReal} (hx : Real' x) : Real' (softplus x) :=
  (hx.max .zero).add (Real'.zero.sub (hx.max hx.neg)).log1p_exp

/-! ## The mixer -/

/-- The arguments, read at natural-number coordinates (batch, position, channel / head). -/
structure Args where
  z : ℕ → ℕ → ℕ → EReal
  x : ℕ → ℕ → ℕ → EReal
  dt : ℕ → ℕ → ℕ → EReal
  cw : ℕ → ℕ → EReal
  cb : ℕ → EReal
  dtb : ℕ → EReal
  al : ℕ → EReal
  ds : ℕ → EReal
  ng : ℕ → EReal

/-- Every entry of every argument but the norm's gain is a real number. -/
structure Args.Finite (A : Args) : Prop where
  z : ∀ b s q, Real' (A.z b s q)
  x : ∀ b s q, Real' (A.x b s q)
  dt : ∀ b s q, Real' (A.dt b s q)
  cw : ∀ k q, Real' (A.cw k q)
  cb : ∀ q, Real' (A.cb q)
  dtb : ∀ h, Real' (A.dtb h)
  al : ∀ h, Real' (A.al h)
  ds : ∀ h, Real' (A.ds h)

variable (A : Args) (b c : ℕ)

/-- The convolution's input with eight rows of zeros before the first position. -/
def xp (s q : ℕ) : EReal := if 8 ≤ s then A.x b (s - 8) q else 0
/-- The causal depthwise convolution of width four. -/
def conv (s q : ℕ) : EReal :=
  A.cb q + A.cw 3 q * xp A b (8 + s) q + A.cw 0 q * xp A b (5 + s) q + A.cw 1 q * xp A b (6 + s) q + A.cw 2 q * xp A b (7 + s) q
/-- Its activation: the inner channels, then `B`, then `C`. -/
def u (s q : ℕ) : EReal := silu (conv A b s q)
/-- The step sizes. -/
def dtv (s h : ℕ) : EReal := softplus (A.dt b s h + A.dtb h)
/-- The log decays. -/
def da (s h : ℕ) : EReal := dtv A b s h * (0 - Ideal.exp (A.al h))
/-- The log decays summed from the chunk's first position. -/
def acs (l h : ℕ) : EReal := ∑ k : Fin 128, if k.val ≤ l then da A b (128 * c + k) h else 0
/-- The activated inner channels. -/
def xs (l q : ℕ) : EReal := u A b (128 * c + l) q
/-- `B` of group `g`. -/
def bm (g l n : ℕ) : EReal := u A b (128 * c + l) (1024 + 128 * g + n)
/-- `C` of group `g`. -/
def cm (g l n : ℕ) : EReal := u A b (128 * c + l) (1280 + 128 * g + n)
/-- Inputs times step sizes. -/
def xdt (l q : ℕ) : EReal := xs A b c l q * dtv A b (128 * c + l) (q / 64)
/-- Step size times decay to the chunk's end. -/
def wst (l h : ℕ) : EReal := dtv A b (128 * c + l) h * Ideal.exp (acs A b c 127 h - acs A b c l h)
/-- The state entering chunk `c`. -/
def state : ℕ → ℕ → ℕ → EReal
  | 0, _, _ => 0
  | c + 1, n, q => state c n q * Ideal.exp (acs A b c 127 (q / 64))
      + ∑ l : Fin 128, bm A b c (q / 512) l n * (xs A b c l q * wst A b c l (q / 64))
/-- What the state entering the chunk contributes. -/
def yoff (l q : ℕ) : EReal :=
  (∑ n : Fin 128, cm A b c (q / 512) l n * state A b c n q) * Ideal.exp (acs A b c l (q / 64))
/-- `C · B` of two positions of the chunk. -/
def cbm (g l k : ℕ) : EReal := ∑ n : Fin 128, cm A b c g l n * bm A b c g k n
/-- The decay from position `k` to position `l`. -/
def seg (h l k : ℕ) : EReal := Ideal.exp (if k ≤ l then acs A b c l h - acs A b c k h else ⊥)
/-- What the chunk's own positions contribute. -/
def ydiag (l q : ℕ) : EReal :=
  ∑ k : Fin 128, cbm A b c (q / 512) l k * seg A b c (q / 64) l k * xdt A b c k q
/-- The gated output. -/
def y (l q : ℕ) : EReal :=
  (yoff A b c l q + ydiag A b c l q + xs A b c l q * A.ds (q / 64)) * silu (A.z b (128 * c + l) q)
/-- The root-mean-square norm of each group of channels, with its gain. -/
def out (l q : ℕ) : EReal :=
  y A b c l q * Ideal.rsqrt (Ideal.div (∑ p : Fin 512, y A b c l (512 * (q / 512) + p) * y A b c l (512 * (q / 512) + p))
      (Ideal.ofBits .f32 0x44000000#32) + Ideal.ofBits .f32 0x3727C5AC#32) * A.ng q

variable {A} (hA : A.Finite)
include hA

theorem real_xp (s q : ℕ) : Real' (xp A b s q) := Real'.ite (hA.x _ _ _) .zero
theorem real_conv (s q : ℕ) : Real' (conv A b s q) :=
  ((((hA.cb q).add ((hA.cw _ _).mul (real_xp b hA _ _))).add ((hA.cw _ _).mul (real_xp b hA _ _))).add
    ((hA.cw _ _).mul (real_xp b hA _ _))).add ((hA.cw _ _).mul (real_xp b hA _ _))
theorem real_dtv (s h : ℕ) : Real' (dtv A b s h) := Real'.softplus ((hA.dt _ _ _).add (hA.dtb _))
theorem real_da (s h : ℕ) : Real' (da A b s h) := (real_dtv b hA s h).mul (Real'.zero.sub (hA.al h).exp)
theorem real_acs (l h : ℕ) : Real' (acs A b c l h) := Real'.sum _ _ fun k => Real'.ite (real_da b hA _ _) .zero
theorem real_wst (l h : ℕ) : Real' (wst A b c l h) :=
  (real_dtv b hA _ _).mul ((real_acs b c hA _ _).sub (real_acs b c hA _ _)).exp

end Cert.Ssd

end
-- ==== Proof.Ssd.Ext.lean ====
/- Arrays as functions of natural numbers: an entry outside the array is zero. -/
module

public import proofs.«01_k».proof.Proof.Ssd.Spec
public import Idealize.ShloMosaic.Lib.Claim

@[expose] public section

noncomputable section

open Idealize.ShloMosaic

namespace Cert.Ssd

/-- A vector's entry. -/
def ext1 {n : ℕ} (X : (⟨1, ![n]⟩ : Shape).Idx → EReal) (i : ℕ) : EReal := if h : i < n then X (ix1 ⟨i, h⟩) else 0
/-- A matrix's entry. -/
def ext2 {m n : ℕ} (X : (⟨2, ![m, n]⟩ : Shape).Idx → EReal) (i j : ℕ) : EReal :=
  if h : i < m ∧ j < n then X (ix2 ⟨i, h.1⟩ ⟨j, h.2⟩) else 0
/-- A three-dimensional array's entry. -/
def ext3 {k m n : ℕ} (X : (⟨3, ![k, m, n]⟩ : Shape).Idx → EReal) (b i j : ℕ) : EReal :=
  if h : b < k ∧ i < m ∧ j < n then X (ix3 ⟨b, h.1⟩ ⟨i, h.2.1⟩ ⟨j, h.2.2⟩) else 0

theorem ext1_eq {n : ℕ} (X : (⟨1, ![n]⟩ : Shape).Idx → EReal) (x : Fin n) {i : ℕ} (h : x.val = i) : X (ix1 x) = ext1 X i := by
  subst h; rw [ext1, dif_pos x.isLt]
theorem ext2_eq {m n : ℕ} (X : (⟨2, ![m, n]⟩ : Shape).Idx → EReal) (x : Fin m) (y : Fin n) {i j : ℕ} (h : x.val = i) (h' : y.val = j) :
    X (ix2 x y) = ext2 X i j := by
  subst h h'; rw [ext2, dif_pos ⟨x.isLt, y.isLt⟩]
theorem ext2_at {m n : ℕ} (X : (⟨2, ![m, n]⟩ : Shape).Idx → EReal) (x : (⟨2, ![m, n]⟩ : Shape).Idx) {i j : ℕ} (h : (x 0).val = i) (h' : (x 1).val = j) :
    X x = ext2 X i j := by
  rw [← ext2_eq X (x 0) (x 1) h h']
  exact congrArg X (eq_ix2 x)
theorem ext3_eq {k m n : ℕ} (X : (⟨3, ![k, m, n]⟩ : Shape).Idx → EReal) (w : Fin k) (x : Fin m) (y : Fin n) {b i j : ℕ}
    (h0 : w.val = b) (h : x.val = i) (h' : y.val = j) : X (ix3 w x y) = ext3 X b i j := by
  subst h0 h h'; rw [ext3, dif_pos ⟨w.isLt, x.isLt, y.isLt⟩]

theorem real_ext1 {n : ℕ} {X : (⟨1, ![n]⟩ : Shape).Idx → EReal} (h : ∀ i, Real' (X i)) (i : ℕ) : Real' (ext1 X i) := by
  unfold ext1; split
  · exact h _
  · exact Real'.zero
theorem real_ext2 {m n : ℕ} {X : (⟨2, ![m, n]⟩ : Shape).Idx → EReal} (h : ∀ i, Real' (X i)) (i j : ℕ) : Real' (ext2 X i j) := by
  unfold ext2; split
  · exact h _
  · exact Real'.zero
theorem real_ext3 {k m n : ℕ} {X : (⟨3, ![k, m, n]⟩ : Shape).Idx → EReal} (h : ∀ i, Real' (X i)) (b i j : ℕ) : Real' (ext3 X b i j) := by
  unfold ext3; split
  · exact h _
  · exact Real'.zero

/-- The nine argument arrays, as functions. -/
def argsOf (z : (⟨3, ![8, 2048, 1024]⟩ : Shape).Idx → EReal) (x : (⟨3, ![8, 2048, 1536]⟩ : Shape).Idx → EReal)
    (dt : (⟨3, ![8, 2048, 16]⟩ : Shape).Idx → EReal) (cw : (⟨2, ![4, 1536]⟩ : Shape).Idx → EReal) (cb : (⟨1, ![1536]⟩ : Shape).Idx → EReal)
    (dtb al ds : (⟨1, ![16]⟩ : Shape).Idx → EReal) (ng : (⟨1, ![1024]⟩ : Shape).Idx → EReal) : Args :=
  ⟨ext3 z, ext3 x, ext3 dt, ext2 cw, ext1 cb, ext1 dtb, ext1 al, ext1 ds, ext1 ng⟩

/-- The host's gate is the closed form's. -/
theorem silu_of {x y : EReal} (h : x = y) :
    Ideal.ofBits FTy.f32 1056964608#32 * x + Ideal.ofBits FTy.f32 1056964608#32 * x * Ideal.tanh (Ideal.ofBits FTy.f32 1056964608#32 * x) = silu y := by
  subst h; rfl

end Cert.Ssd

end
-- ==== Proof.Out.Spec.lean ====
/- The closed form of the output projection's call: each result row from the rows of the arguments, over the extended reals. -/
module

public import proofs.«01_k».proof.Proof.Ssd.Ext

@[expose] public section

noncomputable section

open Idealize.ShloMosaic

namespace Cert.Out
open Cert.Ssd (ext1 ext2 ext3)

/-- The six arguments, as functions of natural numbers; the rows of `x` are numbered through the sequences. -/
structure OArgs where
  y : ℕ → ℕ → EReal
  o : ℕ → ℕ → EReal
  x : ℕ → ℕ → EReal
  w : ℕ → ℕ → EReal
  ag : ℕ → EReal
  g : ℕ → EReal

/-- The six argument arrays, as functions. -/
def oargsOf (y o : (⟨2, ![16384, 1024]⟩ : Shape).Idx → EReal) (x : (⟨3, ![8, 2048, 1024]⟩ : Shape).Idx → EReal)
    (w : (⟨2, ![2048, 1024]⟩ : Shape).Idx → EReal) (ag g : (⟨1, ![1024]⟩ : Shape).Idx → EReal) : OArgs :=
  ⟨ext2 y, ext2 o, fun r k => ext3 x (r / 2048) (r % 2048) k, ext2 w, ext1 ag, ext1 g⟩

/-- The norm's factor of row `r` of an array of 1024 columns. -/
def rowScale (f : ℕ → ℕ → EReal) (r : ℕ) : EReal :=
  Ideal.rsqrt (Ideal.div (∑ p : Fin 1024, f r p * f r p) (Ideal.ofBits .f32 0x44800000#32) + Ideal.ofBits .f32 0x358637BD#32)

variable (A : OArgs)

/-- The normed attention output. -/
def on (r k : ℕ) : EReal := A.o r k * rowScale A.o r * A.ag k
/-- The residual stream with the projection of both branches added. -/
def ox1 (r q : ℕ) : EReal := A.x r q + ∑ k : Fin 1024, A.y r k * A.w k q + ∑ k : Fin 1024, on A r k * A.w (1024 + k) q
/-- The norm of that. -/
def oh2 (r q : ℕ) : EReal := ox1 A r q * rowScale (ox1 A) r * A.g q

/-- The two branches side by side. -/
def ocat (r k : ℕ) : EReal := if k < 1024 then A.y r k else on A r (k - 1024)

/-- A sum over both branches is the sum over each. -/
theorem ocat_sum (r q : ℕ) : A.x r q + ∑ k : Fin 2048, ocat A r k * A.w k q = ox1 A r q := by
  have e : (∑ k : Fin 2048, ocat A r k * A.w k q) = ∑ k : Fin (1024 + 1024), ocat A r k * A.w k q := rfl
  rw [e, Fin.sum_univ_add, ox1, add_assoc]
  refine congrArg _ (congrArg₂ _ (Finset.sum_congr rfl fun k _ => ?_) (Finset.sum_congr rfl fun k _ => ?_))
  · rw [ocat, if_pos (by rw [Fin.val_castAdd]; exact k.isLt), Fin.val_castAdd]
  · rw [ocat, if_neg (by rw [Fin.val_natAdd]; omega), Fin.val_natAdd, Nat.add_sub_cancel_left]

end Cert.Out

end
-- ==== Proof.Ssd.Pay.lean ====
/- The kernel's named payloads, each read at one element: what every store of the chunk's body holds there. -/
module

public import proofs.«01_k».proof.Proof.Gen.KernelIdeal.Skeleton
public import proofs.«01_k».proof.Proof.Ssd.Spec

@[expose] public section

set_option maxRecDepth 16384

noncomputable section

open Idealize.ShloMosaic Idealize.ShloMosaic.TcCoe Idealize.SL.Sem

namespace Cert.KernelIdeal.Value
open Cert.KernelIdeal Cert.KernelIdeal.Gen Cert.Ssd

variable (A : Args) (b c : ℕ)

/-- The kernel's convolution payload is the causal convolution. -/
theorem pay5_at (x : FVec Ideal S136x1536 .f32) (cb w3 w0 w1 w2 : FVec Ideal S1x1536 .f32)
    (hx : ∀ (i : Fin 136) (q : Fin 1536), x (ix2 i q) = xp A b (128 * c + i) q)
    (hcb : ∀ q : Fin 1536, cb (ix2 0 q) = A.cb q) (h3 : ∀ q : Fin 1536, w3 (ix2 0 q) = A.cw 3 q)
    (h0 : ∀ q : Fin 1536, w0 (ix2 0 q) = A.cw 0 q) (h1 : ∀ q : Fin 1536, w1 (ix2 0 q) = A.cw 1 q)
    (h2 : ∀ q : Fin 1536, w2 (ix2 0 q) = A.cw 2 q) (l : Fin 128) (q : Fin 1536) :
    k0_pay5 (F := Ideal) x cb w3 w0 w1 w2 (ix2 l q) = conv A b (128 * c + l) q := by
  pointwise [k0_pay5]
  simp only [hx, hcb, h0, h1, h2, h3, conv]
  have e3 : 128 * c + (8 + l.val + 136 - 3) % 136 = 5 + (128 * c + l) := by omega
  have e2 : 128 * c + (8 + l.val + 136 - 2) % 136 = 6 + (128 * c + l) := by omega
  have e1 : 128 * c + (8 + l.val + 136 - 1) % 136 = 7 + (128 * c + l) := by omega
  have e0 : 128 * c + (8 + l.val) = 8 + (128 * c + l) := by omega
  rw [e0, e1, e2, e3]

section conv
variable (v : FVec Ideal S128x1536 .f32) (hv : ∀ (l : Fin 128) (q : Fin 1536), v (ix2 l q) = conv A b (128 * c + l) q)
include hv
/-- The activated inner channels. -/
theorem pay8_at (l : Fin 128) (q : Fin 1024) : k0_pay8 (F := Ideal) v (ix2 l q) = xs A b c l q := by
  pointwise [k0_pay8, k0_pay7]
  simp only [hv]; rfl
/-- The activated `B` channels of both groups. -/
theorem pay9_at (l : Fin 128) (q : Fin 256) : k0_pay9 (F := Ideal) v (ix2 l q) = u A b (128 * c + l) (1024 + q) := by
  pointwise [k0_pay9, k0_pay7]
  simp only [hv]; rfl
/-- The activated `C` channels of both groups. -/
theorem pay10_at (l : Fin 128) (q : Fin 256) : k0_pay10 (F := Ideal) v (ix2 l q) = u A b (128 * c + l) (1280 + q) := by
  pointwise [k0_pay10, k0_pay7]
  simp only [hv]; rfl
end conv

/-- The step sizes, positions down the rows. -/
theorem pay11_at (v : FVec Ideal S128x16 .f32) (w : FVec Ideal S1x16 .f32)
    (hv : ∀ (l : Fin 128) (h : Fin 16), v (ix2 l h) = A.dt b (128 * c + l) h) (hw : ∀ h : Fin 16, w (ix2 0 h) = A.dtb h)
    (l : Fin 128) (h : Fin 16) :
    k0_pay11 (F := Ideal) v w (ix2 l h) = dtv A b (128 * c + l) h := by
  pointwise [k0_pay11]
  simp only [hv, hw, Ideal.absf_def]; rfl
/-- The step sizes, positions along the lanes. -/
theorem pay12_at (v : FVec Ideal S16x128 .f32) (w : FVec Ideal S16x1 .f32)
    (hv : ∀ (l : Fin 128) (h : Fin 16), v (ix2 h l) = A.dt b (128 * c + l) h) (hw : ∀ h : Fin 16, w (ix2 h 0) = A.dtb h)
    (l : Fin 128) (h : Fin 16) :
    k0_pay12 (F := Ideal) v w (ix2 h l) = dtv A b (128 * c + l) h := by
  pointwise [k0_pay12]
  simp only [hv, hw, Ideal.absf_def]; rfl

theorem pay13_at (v : FVec Ideal S1x16 .f32) (h : Fin 16) : k0_pay13 (F := Ideal) v (ix2 0 h) = v (ix2 0 h) := by
  pointwise [k0_pay13]

/-- The comparison of two positions, as a word. -/
theorem sle_word : ∀ x l : Fin 128, IntOp.cmpi .sle (BitVec.ofNat 32 x.val) (BitVec.ofNat 32 l.val) = if x.val ≤ l.val then 1#1 else 0#1 := by
  decide +kernel

/-- The same as a float. -/
theorem sle_float (x l : Fin 128) : (FloatOps.sitofp FTy.f32
    (BitVec.setWidth 32 (IntOp.cmpi .sle (BitVec.ofNat 32 x.val) (BitVec.ofNat 32 l.val))) : Ideal .f32) = if x.val ≤ l.val then (1 : EReal) else 0 := by
  rw [sle_word]
  split
  · show (((BitVec.setWidth 32 1#1).toInt : ℝ) : EReal) = 1
    have : (BitVec.setWidth 32 1#1).toInt = 1 := by decide
    rw [this]; norm_num
  · show (((BitVec.setWidth 32 0#1).toInt : ℝ) : EReal) = 0
    have : (BitVec.setWidth 32 0#1).toInt = 0 := by decide
    rw [this]; norm_num

/-- The triangle mask. -/
theorem pay14_at (x l : Fin 128) : k0_pay14 (ix2 l x) = if x.val ≤ l.val then 1#1 else 0#1 := by
  pointwise [k0_pay14]
  exact sle_word x l

/-- The summed log decays, positions down the rows. -/
theorem pay15_at (v : FVec Ideal S128x16 .f32) (w : FVec Ideal S1x16 .f32)
    (hv : ∀ (l : Fin 128) (h : Fin 16), v (ix2 l h) = dtv A b (128 * c + l) h) (hw : ∀ h : Fin 16, w (ix2 0 h) = A.al h)
    (l : Fin 128) (h : Fin 16) :
    k0_pay15 (F := Ideal) v w (ix2 l h) = acs A b c l h := by
  pointwise [k0_pay15, k0_pay14]
  refine Finset.sum_congr rfl fun x _ => ?_
  rw [sle_float, hv, hw, ite_mul, one_mul, zero_mul]
  rfl
/-- The summed log decays, positions along the lanes. -/
theorem pay16_at (v : FVec Ideal S16x128 .f32) (w : FVec Ideal S16x1 .f32)
    (hv : ∀ (l : Fin 128) (h : Fin 16), v (ix2 h l) = dtv A b (128 * c + l) h) (hw : ∀ h : Fin 16, w (ix2 h 0) = A.al h)
    (l : Fin 128) (h : Fin 16) :
    k0_pay16 (F := Ideal) v w (ix2 h l) = acs A b c l h := by
  pointwise [k0_pay16]
  refine Finset.sum_congr rfl fun x _ => ?_
  rw [sle_float, hv, hw, mul_ite, mul_one, mul_zero]
  rfl

section decay
variable (v : FVec Ideal S128x16 .f32) (w : FVec Ideal S1x16 .f32)
    (hv : ∀ (l : Fin 128) (h : Fin 16), v (ix2 l h) = dtv A b (128 * c + l) h) (hw : ∀ h : Fin 16, w (ix2 0 h) = A.al h)
include hv hw
theorem pay17_at (h : Fin 16) : k0_pay17 (F := Ideal) v w (ix2 0 h) = acs A b c 127 h := by
  pointwise [k0_pay17]
  exact pay15_at A b c v w hv hw ⟨127, by omega⟩ h
theorem pay18_at (l : Fin 128) (h : Fin 16) : k0_pay18 (F := Ideal) v w (ix2 l h) = wst A b c l h := by
  pointwise [k0_pay18]
  rw [pay15_at A b c v w hv hw, pay17_at A b c v w hv hw, hv]
  rfl
theorem pay19_at (l : Fin 128) (h : Fin 16) : k0_pay19 (F := Ideal) v w (ix2 l h) = Ideal.exp (acs A b c l h) := by
  pointwise [k0_pay19]
  rw [pay15_at A b c v w hv hw]
theorem pay20_at (h : Fin 16) : k0_pay20 (F := Ideal) v w (ix2 0 h) = Ideal.exp (acs A b c 127 h) := by
  pointwise [k0_pay20]
  rw [pay17_at A b c v w hv hw]
end decay

end Cert.KernelIdeal.Value

end
-- ==== Proof.Ssd.Spread.lean ====
/- One product spreads the per-head numbers over their lanes: a row of sixteen numbers against the 0/1 matrix of which
   lane belongs to which head, the numbers split in three parts of which the last two are zero over the reals. -/
module

public import proofs.«01_k».proof.Proof.Ssd.Pay

@[expose] public section

set_option maxRecDepth 16384

noncomputable section

open Idealize.ShloMosaic Idealize.ShloMosaic.TcCoe Idealize.SL.Sem

namespace Cert.KernelIdeal.Value
open Cert.KernelIdeal Cert.KernelIdeal.Gen Cert.Ssd

/-- The lane's head, as the kernel's integer division computes it. -/
theorem head_word : ∀ q : Fin 1024,
    Scalar.select
      (IntOp.andi
        (IntOp.cmpi CmpIPredicate.ne
          (IntOp.subi (BitVec.setWidth 32 (IntOp.cmpi CmpIPredicate.sgt (BitVec.ofNat 32 q.val) 0#32))
            (BitVec.setWidth 32 (IntOp.cmpi CmpIPredicate.slt (BitVec.ofNat 32 q.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 q.val) 64#32) 0#32))
      (IntOp.subi (IntOp.divsi ArithUnit.vector (BitVec.ofNat 32 q.val) 64#32) 1#32)
      (IntOp.divsi ArithUnit.vector (BitVec.ofNat 32 q.val) 64#32) = BitVec.ofNat 32 (q.val / 64) := by
  decide +kernel

theorem eq_word : ∀ a h : Fin 16, IntOp.cmpi CmpIPredicate.eq (BitVec.ofNat 32 a.val) (BitVec.ofNat 32 h.val) = if a.val = h.val then 1#1 else 0#1 := by
  decide +kernel

/-- The 0/1 matrix: lane `q` belongs to head `q / 64`. -/
def expandM : FVec Ideal S16x1024 .f32 := fun i => if (i 1).val / 64 = (i 0).val then 1 else 0

theorem spread_core (P : FVec Ideal S392x16 .f32) (E : FVec Ideal S16x1024 .f32) (hP : ∀ (i : Fin 392) (h : Fin 16), Real' (P (ix2 i h)))
    (hE : ∀ (h : Fin 16) (q : Fin 1024), E (ix2 h q) = if q.val / 64 = h.val then 1 else 0) (i : Fin 392) (q : Fin 1024) :
    matmul dot_S392x48_S48x1024_S392x1024_1_0_0_1_n_n none
      (concatenate S392x48 1 [⟨S392x16, truncf .bf16 P bitsLt_bf16_f32⟩,
        ⟨S392x16, truncf .bf16 (subf P (extf .f32 (truncf .bf16 P bitsLt_bf16_f32 : FVec Ideal S392x16 .bf16) bitsLt_bf16_f32)) bitsLt_bf16_f32⟩,
        ⟨S392x16, truncf .bf16 (subf (subf P (extf .f32 (truncf .bf16 P bitsLt_bf16_f32 : FVec Ideal S392x16 .bf16) bitsLt_bf16_f32))
          (extf .f32 (truncf .bf16 (subf P (extf .f32 (truncf .bf16 P bitsLt_bf16_f32 : FVec Ideal S392x16 .bf16) bitsLt_bf16_f32)) bitsLt_bf16_f32 : FVec Ideal S392x16 .bf16) bitsLt_bf16_f32)) bitsLt_bf16_f32⟩]
        concatenates_S392x16_S392x16_S392x16_S392x48_d1 : FVec Ideal S392x48 .bf16)
      (concatenate S48x1024 0 [⟨S16x1024, truncf .bf16 E bitsLt_bf16_f32⟩, ⟨S16x1024, truncf .bf16 E bitsLt_bf16_f32⟩, ⟨S16x1024, truncf .bf16 E bitsLt_bf16_f32⟩]
        concatenates_S16x1024_S16x1024_S16x1024_S48x1024_d0 : FVec Ideal S48x1024 .bf16)
      (constant S392x1024 .f32 0x00000000#32 : FVec Ideal S392x1024 .f32) (ix2 i q)
    = P (ix2 i ⟨q.val / 64, by omega⟩) := by
  have hz : ∀ (i : Fin 392) (h : Fin 16), P (ix2 i h) - P (ix2 i h) = 0 := fun i h => (hP i h).sub_self
  pointwise
  rw [Fin.sum_univ_tiles 3 16 rfl, Fin.sum_univ_three]
  have e0 : ∀ t : Fin 16, ((0 : Fin 3).val * 16 + t.val) < 16 := fun t => by have := t.isLt; simp
  have e1 : ∀ t : Fin 16, ¬ ((1 : Fin 3).val * 16 + t.val) < 16 := fun t => by simp
  have e1' : ∀ t : Fin 16, ((1 : Fin 3).val * 16 + t.val) - 16 < 16 := fun t => by have := t.isLt; simp
  have e2 : ∀ t : Fin 16, ¬ ((2 : Fin 3).val * 16 + t.val) < 16 := fun t => by simp; omega
  have e2' : ∀ t : Fin 16, ¬ ((2 : Fin 3).val * 16 + t.val) - 16 < 16 := fun t => by simp; omega
  simp only [e0, e1, e1', e2, e2', dite_true, dite_false, hz, sub_zero, zero_mul, Finset.sum_const_zero, add_zero, hE]
  refine (Finset.sum_eq_single (⟨q.val / 64, by omega⟩ : Fin 16) ?_ fun h => absurd (Finset.mem_univ _) h).trans ?_
  · intro t _ ht
    refine (congrArg (P _ * ·) (if_neg ?_)).trans (mul_zero _)
    intro h
    exact ht (Fin.ext (by simpa using h.symm))
  · refine (congrArg (P _ * ·) (if_pos (by simp))).trans ((mul_one _).trans ?_)
    exact congrArg (fun j => P (ix2 i j)) (Fin.ext (by simp))

/-- The row of the stacked per-head numbers. -/
def stacked (dt w e : FVec Ideal S128x16 .f32) (cd dk : FVec Ideal S1x16 .f32) : FVec Ideal S392x16 .f32 :=
  concatenate S392x16 0 [⟨S128x16, dt⟩, ⟨S128x16, w⟩, ⟨S128x16, e⟩,
    ⟨S8x16, (concatenate S8x16 0 [⟨S1x16, cd⟩, ⟨S1x16, shapeCast S1x16 dk shapeCasts_S1x16_S1x16⟩,
      ⟨S6x16, broadcast S6x16 (Scalar.ofBits .f32 0x00000000#32 : Ideal .f32)⟩] concatenates_S1x16_S1x16_S6x16_S8x16_d0 : FVec Ideal S8x16 .f32)⟩]
    concatenates_S128x16_S128x16_S128x16_S8x16_S392x16_d0

section rows
variable (dt w e : FVec Ideal S128x16 .f32) (cd dk : FVec Ideal S1x16 .f32)

theorem stacked_at (i : Fin 392) (h : Fin 16) : stacked dt w e cd dk (ix2 i h) =
    if h0 : i.val < 128 then dt (ix2 ⟨i.val, h0⟩ h) else if h1 : i.val - 128 < 128 then w (ix2 ⟨i.val - 128, h1⟩ h)
    else if h2 : i.val - 128 - 128 < 128 then e (ix2 ⟨i.val - 128 - 128, h2⟩ h)
    else if h3 : i.val - 128 - 128 - 128 < 1 then cd (ix2 0 h) else if h4 : i.val - 128 - 128 - 128 - 1 < 1 then dk (ix2 0 h) else 0 := by
  pointwise [stacked]
  by_cases h0 : i.val < 128
  · rw [dif_pos h0, dif_pos h0]
  rw [dif_neg h0, dif_neg h0]
  by_cases h1 : i.val - 128 < 128
  · rw [dif_pos h1, dif_pos h1]
  rw [dif_neg h1, dif_neg h1]
  by_cases h2 : i.val - 128 - 128 < 128
  · rw [dif_pos h2, dif_pos h2]
  rw [dif_neg h2, dif_neg h2]
  by_cases h3 : i.val - 128 - 128 - 128 < 1
  · rw [dif_pos h3, dif_pos h3]
    exact congrArg (fun j => cd (ix2 j h)) (Subsingleton.elim _ _)
  rw [dif_neg h3, dif_neg h3]
  by_cases h4 : i.val - 128 - 128 - 128 - 1 < 1
  · rw [dif_pos h4, dif_pos h4]
    exact congrArg (fun j => dk (ix2 j h)) (Subsingleton.elim _ _)
  rw [dif_neg h4, dif_neg h4]

variable (hdt : ∀ (l : Fin 128) (h : Fin 16), Real' (dt (ix2 l h))) (hw : ∀ (l : Fin 128) (h : Fin 16), Real' (w (ix2 l h)))
  (he : ∀ (l : Fin 128) (h : Fin 16), Real' (e (ix2 l h))) (hcd : ∀ h : Fin 16, Real' (cd (ix2 0 h))) (hdk : ∀ h : Fin 16, Real' (dk (ix2 0 h)))
include hdt hw he hcd hdk

theorem real_stacked (i : Fin 392) (h : Fin 16) : Real' (stacked dt w e cd dk (ix2 i h)) := by
  rw [stacked_at]
  split
  · exact hdt _ _
  split
  · exact hw _ _
  split
  · exact he _ _
  split
  · exact hcd _
  split
  · exact hdk _
  · exact Real'.zero

/-- Each lane of a row of the spread is the row's number at the lane's head. -/
theorem pay24_at (i : Fin 392) (q : Fin 1024) :
    k0_pay24 dt w e cd (iota Kind.tc S16x1024 32 [0] iota_S16x1024_d0_w32) k0_pay21 k0_pay22 k0_pay23 dk (ix2 i q)
      = stacked dt w e cd dk (ix2 i ⟨q.val / 64, by omega⟩) := by
  refine spread_core (stacked dt w e cd dk) _ (real_stacked dt w e cd dk hdt hw he hcd hdk) ?_ i q
  intro h q
  pointwise [k0_pay21, k0_pay22, k0_pay23]
  rw [head_word, eq_word ⟨q.val / 64, by omega⟩ h]
  show (if (if q.val / 64 = h.val then 1#1 else 0#1) = 1#1 then (1 : EReal) else 0) = _
  by_cases hq : q.val / 64 = h.val
  · rw [if_pos hq, if_pos hq, if_pos rfl]
  · rw [if_neg hq, if_neg hq, if_neg (by decide)]
end rows

end Cert.KernelIdeal.Value

end
-- ==== Proof.Ssd.Pay2.lean ====
/- The payloads after the spread: the states' products, the heads' masked products, the gate and the norm. -/
module

public import proofs.«01_k».proof.Proof.Ssd.Spread

@[expose] public section

set_option maxRecDepth 16384

noncomputable section

open Idealize.ShloMosaic Idealize.ShloMosaic.TcCoe Idealize.SL.Sem

namespace Cert.KernelIdeal.Value
open Cert.KernelIdeal Cert.KernelIdeal.Gen Cert.Ssd

variable {A : Args} (b c : ℕ)

section spreads
variable (hA : A.Finite) (dt w e : FVec Ideal S128x16 .f32) (cd dk : FVec Ideal S1x16 .f32)
  (hdt : ∀ (l : Fin 128) (h : Fin 16), dt (ix2 l h) = dtv A b (128 * c + l) h)
  (hw : ∀ (l : Fin 128) (h : Fin 16), w (ix2 l h) = wst A b c l h)
  (he : ∀ (l : Fin 128) (h : Fin 16), e (ix2 l h) = Ideal.exp (acs A b c l h))
  (hcd : ∀ h : Fin 16, cd (ix2 0 h) = Ideal.exp (acs A b c 127 h))
  (hdk : ∀ h : Fin 16, dk (ix2 0 h) = A.ds h)
include hA hdt hw he hcd hdk

theorem spread_at (i : Fin 392) (q : Fin 1024) :
    k0_pay24 dt w e cd (iota Kind.tc S16x1024 32 [0] iota_S16x1024_d0_w32) k0_pay21 k0_pay22 k0_pay23 dk (ix2 i q)
      = stacked dt w e cd dk (ix2 i ⟨q.val / 64, by omega⟩) := by
  refine pay24_at dt w e cd dk ?_ ?_ ?_ ?_ ?_ i q
  · exact fun l h => hdt l h ▸ real_dtv b hA _ _
  · exact fun l h => hw l h ▸ real_wst b c hA _ _
  · exact fun l h => he l h ▸ (real_acs b c hA _ _).exp
  · exact fun h => hcd h ▸ (real_acs b c hA _ _).exp
  · exact fun h => hdk h ▸ hA.ds _

/-- The decay over the whole chunk, per lane. -/
theorem pay25_at (q : Fin 1024) :
    k0_pay25 dt w e cd (iota Kind.tc S16x1024 32 [0] iota_S16x1024_d0_w32) k0_pay21 k0_pay22 k0_pay23 dk (ix2 0 q)
      = Ideal.exp (acs A b c 127 (q.val / 64)) := by
  pointwise [k0_pay25]
  refine (spread_at b c hA dt w e cd dk hdt hw he hcd hdk _ _).trans ((stacked_at dt w e cd dk _ _).trans ?_)
  simp [hcd]
/-- The skip's weight, per lane. -/
theorem pay26_at (q : Fin 1024) :
    k0_pay26 dt w e cd (iota Kind.tc S16x1024 32 [0] iota_S16x1024_d0_w32) k0_pay21 k0_pay22 k0_pay23 dk (ix2 0 q)
      = A.ds (q.val / 64) := by
  pointwise [k0_pay26]
  refine (spread_at b c hA dt w e cd dk hdt hw he hcd hdk _ _).trans ((stacked_at dt w e cd dk _ _).trans ?_)
  simp [hdk]
theorem pay29_at (l : Fin 128) (q : Fin 1024) :
    k0_pay29 dt w e cd (iota Kind.tc S16x1024 32 [0] iota_S16x1024_d0_w32) k0_pay21 k0_pay22 k0_pay23 dk (ix2 l q)
      = Ideal.exp (acs A b c l (q.val / 64)) := by
  pointwise [k0_pay29]
  refine (spread_at b c hA dt w e cd dk hdt hw he hcd hdk _ _).trans ((stacked_at dt w e cd dk _ _).trans ?_)
  have h0 : ¬ 256 + l.val < 128 := by omega
  have h1 : ¬ 256 + l.val - 128 < 128 := by omega
  have h2 : 256 + l.val - 128 - 128 < 128 := by omega
  rw [dif_neg h0, dif_neg h1, dif_pos h2, he]
  exact congrArg (fun n => Ideal.exp (acs A b c n (q.val / 64))) (show 256 + l.val - 128 - 128 = l.val by omega)

variable (x : FVec Ideal S128x1024 .f32) (hx : ∀ (l : Fin 128) (q : Fin 1024), x (ix2 l q) = xs A b c l q)
include hx
/-- Inputs times step sizes. -/
theorem pay27_at (l : Fin 128) (q : Fin 1024) :
    k0_pay27 x dt w e cd (iota Kind.tc S16x1024 32 [0] iota_S16x1024_d0_w32) k0_pay21 k0_pay22 k0_pay23 dk (ix2 l q)
      = xdt A b c l q := by
  pointwise [k0_pay27]
  refine congr (congrArg _ (hx l q)) ((spread_at b c hA dt w e cd dk hdt hw he hcd hdk _ _).trans ((stacked_at dt w e cd dk _ _).trans ?_))
  have h0 : 0 + l.val < 128 := by omega
  rw [dif_pos (by first | exact l.isLt | exact h0), hdt]
/-- Inputs times step sizes times the decay to the chunk's end. -/
theorem pay28_at (l : Fin 128) (q : Fin 1024) :
    k0_pay28 x dt w e cd (iota Kind.tc S16x1024 32 [0] iota_S16x1024_d0_w32) k0_pay21 k0_pay22 k0_pay23 dk (ix2 l q)
      = xs A b c l q * wst A b c l (q.val / 64) := by
  pointwise [k0_pay28]
  refine congr (congrArg _ (hx l q)) ((spread_at b c hA dt w e cd dk hdt hw he hcd hdk _ _).trans ((stacked_at dt w e cd dk _ _).trans ?_))
  have h0 : ¬ 128 + l.val < 128 := by omega
  have h1 : 128 + l.val - 128 < 128 := by omega
  rw [dif_neg h0, dif_pos h1, hw]
  exact congrArg (fun n => wst A b c n (q.val / 64)) (show 128 + l.val - 128 = l.val by omega)
end spreads

section groups
variable (B C : FVec Ideal S128x256 .f32)
  (hB : ∀ (l : Fin 128) (n : Fin 256), B (ix2 l n) = u A b (128 * c + l) (1024 + n))
  (hC : ∀ (l : Fin 128) (n : Fin 256), C (ix2 l n) = u A b (128 * c + l) (1280 + n))
include hB in
theorem pay30_at (l n : Fin 128) : k0_pay30 B (ix2 l n) = bm A b c 0 l n := by
  pointwise [k0_pay30]
  refine (hB _ _).trans ?_
  simp [bm]
include hB in
theorem pay47_at (l n : Fin 128) : k0_pay47 B (ix2 l n) = bm A b c 1 l n := by
  pointwise [k0_pay47]
  exact (hB _ _).trans (congrArg (u A b _) (show 1024 + (128 + n.val) = 1024 + 128 * 1 + n.val by omega))
include hC in
theorem pay31_at (l n : Fin 128) : k0_pay31 C (ix2 l n) = cm A b c 0 l n := by
  pointwise [k0_pay31]
  refine (hC _ _).trans ?_
  simp [cm]
include hC in
theorem pay48_at (l n : Fin 128) : k0_pay48 C (ix2 l n) = cm A b c 1 l n := by
  pointwise [k0_pay48]
  exact (hC _ _).trans (congrArg (u A b _) (show 1280 + (128 + n.val) = 1280 + 128 * 1 + n.val by omega))
include hB hC in
theorem pay32_at (l k : Fin 128) : k0_pay32 B C (ix2 l k) = cbm A b c 0 l k := by
  pointwise [k0_pay32]
  exact Finset.sum_congr rfl fun n _ => congr (congrArg _ (pay31_at b c C hC l n)) (pay30_at b c B hB k n)
include hB hC in
theorem pay49_at (l k : Fin 128) : k0_pay49 B C (ix2 l k) = cbm A b c 1 l k := by
  pointwise [k0_pay49]
  exact Finset.sum_congr rfl fun n _ => congr (congrArg _ (pay48_at b c C hC l n)) (pay47_at b c B hB k n)

variable (st : FVec Ideal S128x512 .f32)

section off
variable (ex : FVec Ideal S128x1024 .f32) (hex : ∀ (l : Fin 128) (q : Fin 1024), ex (ix2 l q) = Ideal.exp (acs A b c l (q.val / 64)))
include hC hex in
/-- What the state entering the chunk contributes, second group. -/
theorem pay50_at (hst : ∀ (n : Fin 128) (q : Fin 512), st (ix2 n q) = state A b c n (512 + q)) (l : Fin 128) (q : Fin 512) :
    k0_pay50 C ex st (ix2 l q) = yoff A b c l (512 + q) := by
  have hq : (512 + q.val) / 512 = 1 := by omega
  pointwise [k0_pay50]
  rw [hex, yoff, hq]
  exact congrArg (· * _) (Finset.sum_congr rfl fun n _ => congr (congrArg _ (pay48_at b c C hC l n)) (hst n q))
include hC in
/-- What the state entering the chunk contributes, first group. -/
theorem pay33_at (hA : A.Finite) (dt w e : FVec Ideal S128x16 .f32) (cd dk : FVec Ideal S1x16 .f32)
    (hdt : ∀ (l : Fin 128) (h : Fin 16), dt (ix2 l h) = dtv A b (128 * c + l) h)
    (hw : ∀ (l : Fin 128) (h : Fin 16), w (ix2 l h) = wst A b c l h)
    (he : ∀ (l : Fin 128) (h : Fin 16), e (ix2 l h) = Ideal.exp (acs A b c l h))
    (hcd : ∀ h : Fin 16, cd (ix2 0 h) = Ideal.exp (acs A b c 127 h))
    (hdk : ∀ h : Fin 16, dk (ix2 0 h) = A.ds h)
    (hst : ∀ (n : Fin 128) (q : Fin 512), st (ix2 n q) = state A b c n q) (l : Fin 128) (q : Fin 512) :
    k0_pay33 C dt w e cd (iota Kind.tc S16x1024 32 [0] iota_S16x1024_d0_w32) k0_pay21 k0_pay22 k0_pay23 dk st (ix2 l q) = yoff A b c l q := by
  have hq : q.val / 512 = 0 := by omega
  rw [yoff, hq]
  pointwise! [k0_pay33]
  refine congr (congrArg _ (Finset.sum_congr rfl fun n _ => congr (congrArg _ (pay31_at b c C hC l n)) (hst n q))) ?_
  refine (pay29_at b c hA dt w e cd dk hdt hw he hcd hdk _ _).trans ?_
  simp
end off

section upd
variable (cdv : FVec Ideal S1x1024 .f32) (hcdv : ∀ q : Fin 1024, cdv (ix2 0 q) = Ideal.exp (acs A b c 127 (q.val / 64)))
  (dx : FVec Ideal S128x1024 .bf16) (hdx : ∀ (l : Fin 128) (q : Fin 1024), dx (ix2 l q) = xs A b c l q * wst A b c l (q.val / 64))
include hcdv hdx
/-- The state leaving the chunk, first group. -/
theorem pay35_at (V : FVec Ideal S128x128 .f32) (hV : ∀ l n : Fin 128, V (ix2 l n) = bm A b c 0 l n)
    (hst : ∀ (n : Fin 128) (q : Fin 512), st (ix2 n q) = state A b c n q) (n : Fin 128) (q : Fin 512) :
    k0_pay35 cdv dx V st (ix2 n q) = state A b (c + 1) n q := by
  have hq : q.val / 512 = 0 := by omega
  rw [state, hq]
  pointwise [k0_pay35]
  rw [hst]
  refine congr (congrArg _ (congrArg _ ((hcdv _).trans ?_))) (Finset.sum_congr rfl fun l _ => congr (congrArg _ (hV l n)) ((hdx _ _).trans ?_))
  · simp
  · simp
include hB
/-- The state leaving the chunk, second group. -/
theorem pay51_at (hst : ∀ (n : Fin 128) (q : Fin 512), st (ix2 n q) = state A b c n (512 + q)) (n : Fin 128) (q : Fin 512) :
    k0_pay51 B cdv dx st (ix2 n q) = state A b (c + 1) n (512 + q) := by
  have hq : (512 + q.val) / 512 = 1 := by omega
  rw [state, hq]
  pointwise [k0_pay51]
  rw [hst]
  refine congr (congrArg _ (congrArg _ (hcdv _))) (Finset.sum_congr rfl fun l _ => congr (congrArg _ (pay47_at b c B hB l n)) (hdx _ _))
end upd
end groups

end Cert.KernelIdeal.Value

end
-- ==== Proof.Ssd.Heads.lean ====
/- The sixteen heads' masked products. -/
module

public import proofs.«01_k».proof.Proof.Ssd.Pay2

@[expose] public section

set_option maxRecDepth 16384

noncomputable section

open Idealize.ShloMosaic Idealize.ShloMosaic.TcCoe Idealize.SL.Sem

namespace Cert.KernelIdeal.Value
open Cert.KernelIdeal Cert.KernelIdeal.Gen Cert.Ssd

variable {A : Args} (b c : ℕ)

theorem select_one {α : Type} (w : BitVec 1) (x y : α) : Scalar.select w x y = if w = 1#1 then x else y := rfl

/-- One masked decay. -/
theorem seg_at (h : ℕ) (l x : Fin 128) (s : EReal) (hs : s = acs A b c l h - acs A b c x h) :
    Ideal.exp (Scalar.select (k0_pay14 (ix2 l x)) s (Ideal.ofBits .f32 4286578688#32)) = seg A b c h l x := by
  rw [pay14_at, hs, seg]
  have hb : Ideal.ofBits .f32 4286578688#32 = ⊥ := by simp [Ideal.ofBits, Ideal.ieee]
  rw [hb]
  by_cases hx : x.val ≤ l.val
  · rw [if_pos hx, if_pos hx]; rfl
  · rw [if_neg hx, if_neg hx]; rfl

section heads
variable (a : FVec Ideal S128x16 .f32) (t : FVec Ideal S16x128 .f32) (xd : FVec Ideal S128x1024 .bf16) (cb : FVec Ideal S128x128 .f32)
  (v : FVec Ideal S128x64 .f32)
  (ha : ∀ (l : Fin 128) (h : Fin 16), a (ix2 l h) = acs A b c l h)
  (ht : ∀ (l : Fin 128) (h : Fin 16), t (ix2 h l) = acs A b c l h)
  (hxd : ∀ (l : Fin 128) (q : Fin 1024), xd (ix2 l q) = xdt A b c l q)
include ha ht hxd

/-- One head's masked product at one position and lane, added to what the state contributes. -/
theorem head_core (h : Fin 16) (g : ℕ) (hcb : ∀ l k : Fin 128, cb (ix2 l k) = cbm A b c g l k) (l : Fin 128) (q : Fin 1024)
    (hh : q.val / 64 = h.val) (hg : q.val / 512 = g) (w : EReal) (hw : w = yoff A b c l q.val) :
    w + ∑ x : Fin 128, cb (ix2 l x) * Ideal.exp (Scalar.select (k0_pay14 (ix2 l x)) (a (ix2 l h) - t (ix2 h x)) (Ideal.ofBits .f32 4286578688#32)) * xd (ix2 x q)
      = yoff A b c l q.val + ydiag A b c l q.val := by
  rw [ydiag, hh, hg, hw]
  refine congrArg _ (Finset.sum_congr rfl fun x _ => ?_)
  exact congr (congrArg _ (congr (congrArg _ (hcb l x)) (seg_at b c h.val l x _ (congr (congrArg _ (ha _ _)) (ht _ _))))) (hxd _ _)

/-- Head 0. -/
theorem head0_at (hcb : ∀ l k : Fin 128, cb (ix2 l k) = cbm A b c 0 l k)
    (hv : ∀ (l : Fin 128) (p : Fin 64), v (ix2 l p) = yoff A b c l (0 + p.val)) (l : Fin 128) (p : Fin 64) :
    k0_pay36 k0_pay14 a t xd cb v (ix2 l p) = yoff A b c l (0 + p.val) + ydiag A b c l (0 + p.val) := by
  simp only [Nat.zero_add] at hv ⊢
  pointwise [k0_pay36]
  exact head_core b c a t xd cb ha ht hxd 0 0 hcb l ⟨p.val, by omega⟩ (show (p.val) / 64 = 0 by omega) (show (p.val) / 512 = 0 by omega) _ (hv l p)
/-- Head 1. -/
theorem head1_at (hcb : ∀ l k : Fin 128, cb (ix2 l k) = cbm A b c 0 l k)
    (hv : ∀ (l : Fin 128) (p : Fin 64), v (ix2 l p) = yoff A b c l (64 + p.val)) (l : Fin 128) (p : Fin 64) :
    k0_pay38 (k0_pay37 k0_pay14 a t xd cb v) (ix2 l p) = yoff A b c l (64 + p.val) + ydiag A b c l (64 + p.val) := by
  pointwise [k0_pay38, k0_pay37]
  exact head_core b c a t xd cb ha ht hxd 1 0 hcb l ⟨64 + p.val, by omega⟩ (show (64 + p.val) / 64 = 1 by omega) (show (64 + p.val) / 512 = 0 by omega) _ (hv l p)
/-- Head 2. -/
theorem head2_at (hcb : ∀ l k : Fin 128, cb (ix2 l k) = cbm A b c 0 l k)
    (hv : ∀ (l : Fin 128) (p : Fin 64), v (ix2 l p) = yoff A b c l (128 + p.val)) (l : Fin 128) (p : Fin 64) :
    k0_pay39 k0_pay14 a t xd cb v (ix2 l p) = yoff A b c l (128 + p.val) + ydiag A b c l (128 + p.val) := by
  pointwise [k0_pay39]
  exact head_core b c a t xd cb ha ht hxd 2 0 hcb l ⟨128 + p.val, by omega⟩ (show (128 + p.val) / 64 = 2 by omega) (show (128 + p.val) / 512 = 0 by omega) _ (hv l p)
/-- Head 3. -/
theorem head3_at (hcb : ∀ l k : Fin 128, cb (ix2 l k) = cbm A b c 0 l k)
    (hv : ∀ (l : Fin 128) (p : Fin 64), v (ix2 l p) = yoff A b c l (192 + p.val)) (l : Fin 128) (p : Fin 64) :
    k0_pay40 k0_pay14 a t xd cb v (ix2 l p) = yoff A b c l (192 + p.val) + ydiag A b c l (192 + p.val) := by
  pointwise [k0_pay40]
  exact head_core b c a t xd cb ha ht hxd 3 0 hcb l ⟨192 + p.val, by omega⟩ (show (192 + p.val) / 64 = 3 by omega) (show (192 + p.val) / 512 = 0 by omega) _ (hv l p)
/-- Head 4. -/
theorem head4_at (hcb : ∀ l k : Fin 128, cb (ix2 l k) = cbm A b c 0 l k)
    (hv : ∀ (l : Fin 128) (p : Fin 64), v (ix2 l p) = yoff A b c l (256 + p.val)) (l : Fin 128) (p : Fin 64) :
    k0_pay42 k0_pay14 xd cb (k0_pay41 a t) (Scalar.ofBits .f32 0xFF800000#32 : Ideal .f32) v (ix2 l p) = yoff A b c l (256 + p.val) + ydiag A b c l (256 + p.val) := by
  pointwise [k0_pay42, k0_pay41]
  exact head_core b c a t xd cb ha ht hxd 4 0 hcb l ⟨256 + p.val, by omega⟩ (show (256 + p.val) / 64 = 4 by omega) (show (256 + p.val) / 512 = 0 by omega) _ (hv l p)
/-- Head 5. -/
theorem head5_at (hcb : ∀ l k : Fin 128, cb (ix2 l k) = cbm A b c 0 l k)
    (hv : ∀ (l : Fin 128) (p : Fin 64), v (ix2 l p) = yoff A b c l (320 + p.val)) (l : Fin 128) (p : Fin 64) :
    k0_pay43 k0_pay14 a t xd cb v (ix2 l p) = yoff A b c l (320 + p.val) + ydiag A b c l (320 + p.val) := by
  pointwise [k0_pay43]
  exact head_core b c a t xd cb ha ht hxd 5 0 hcb l ⟨320 + p.val, by omega⟩ (show (320 + p.val) / 64 = 5 by omega) (show (320 + p.val) / 512 = 0 by omega) _ (hv l p)
/-- Head 6. -/
theorem head6_at (hcb : ∀ l k : Fin 128, cb (ix2 l k) = cbm A b c 0 l k)
    (hv : ∀ (l : Fin 128) (p : Fin 64), v (ix2 l p) = yoff A b c l (384 + p.val)) (l : Fin 128) (p : Fin 64) :
    k0_pay45 (k0_pay44 k0_pay14 a t xd cb v) (ix2 l p) = yoff A b c l (384 + p.val) + ydiag A b c l (384 + p.val) := by
  pointwise [k0_pay45, k0_pay44]
  exact head_core b c a t xd cb ha ht hxd 6 0 hcb l ⟨384 + p.val, by omega⟩ (show (384 + p.val) / 64 = 6 by omega) (show (384 + p.val) / 512 = 0 by omega) _ (hv l p)
/-- Head 7. -/
theorem head7_at (hcb : ∀ l k : Fin 128, cb (ix2 l k) = cbm A b c 0 l k)
    (hv : ∀ (l : Fin 128) (p : Fin 64), v (ix2 l p) = yoff A b c l (448 + p.val)) (l : Fin 128) (p : Fin 64) :
    k0_pay46 k0_pay14 a t xd cb v (ix2 l p) = yoff A b c l (448 + p.val) + ydiag A b c l (448 + p.val) := by
  pointwise [k0_pay46]
  exact head_core b c a t xd cb ha ht hxd 7 0 hcb l ⟨448 + p.val, by omega⟩ (show (448 + p.val) / 64 = 7 by omega) (show (448 + p.val) / 512 = 0 by omega) _ (hv l p)
/-- Head 8. -/
theorem head8_at (hcb : ∀ l k : Fin 128, cb (ix2 l k) = cbm A b c 1 l k)
    (hv : ∀ (l : Fin 128) (p : Fin 64), v (ix2 l p) = yoff A b c l (512 + p.val)) (l : Fin 128) (p : Fin 64) :
    k0_pay53 k0_pay14 a t xd cb v (ix2 l p) = yoff A b c l (512 + p.val) + ydiag A b c l (512 + p.val) := by
  pointwise [k0_pay53]
  exact head_core b c a t xd cb ha ht hxd 8 1 hcb l ⟨512 + p.val, by omega⟩ (show (512 + p.val) / 64 = 8 by omega) (show (512 + p.val) / 512 = 1 by omega) _ (hv l p)
/-- Head 9. -/
theorem head9_at (hcb : ∀ l k : Fin 128, cb (ix2 l k) = cbm A b c 1 l k)
    (hv : ∀ (l : Fin 128) (p : Fin 64), v (ix2 l p) = yoff A b c l (576 + p.val)) (l : Fin 128) (p : Fin 64) :
    k0_pay54 k0_pay14 a t xd cb v (ix2 l p) = yoff A b c l (576 + p.val) + ydiag A b c l (576 + p.val) := by
  pointwise [k0_pay54]
  exact head_core b c a t xd cb ha ht hxd 9 1 hcb l ⟨576 + p.val, by omega⟩ (show (576 + p.val) / 64 = 9 by omega) (show (576 + p.val) / 512 = 1 by omega) _ (hv l p)
/-- Head 10. -/
theorem head10_at (hcb : ∀ l k : Fin 128, cb (ix2 l k) = cbm A b c 1 l k)
    (hv : ∀ (l : Fin 128) (p : Fin 64), v (ix2 l p) = yoff A b c l (640 + p.val)) (l : Fin 128) (p : Fin 64) :
    k0_pay57 k0_pay14 xd cb (k0_pay55 a t) k0_pay56 v (ix2 l p) = yoff A b c l (640 + p.val) + ydiag A b c l (640 + p.val) := by
  pointwise [k0_pay57, k0_pay56, k0_pay55]
  exact head_core b c a t xd cb ha ht hxd 10 1 hcb l ⟨640 + p.val, by omega⟩ (show (640 + p.val) / 64 = 10 by omega) (show (640 + p.val) / 512 = 1 by omega) _ (hv l p)
/-- Head 11. -/
theorem head11_at (hcb : ∀ l k : Fin 128, cb (ix2 l k) = cbm A b c 1 l k)
    (hv : ∀ (l : Fin 128) (p : Fin 64), v (ix2 l p) = yoff A b c l (704 + p.val)) (l : Fin 128) (p : Fin 64) :
    k0_pay58 k0_pay14 a t xd cb v (ix2 l p) = yoff A b c l (704 + p.val) + ydiag A b c l (704 + p.val) := by
  pointwise [k0_pay58]
  exact head_core b c a t xd cb ha ht hxd 11 1 hcb l ⟨704 + p.val, by omega⟩ (show (704 + p.val) / 64 = 11 by omega) (show (704 + p.val) / 512 = 1 by omega) _ (hv l p)
/-- Head 12. -/
theorem head12_at (hcb : ∀ l k : Fin 128, cb (ix2 l k) = cbm A b c 1 l k)
    (hv : ∀ (l : Fin 128) (p : Fin 64), v (ix2 l p) = yoff A b c l (768 + p.val)) (l : Fin 128) (p : Fin 64) :
    k0_pay60 (k0_pay59 k0_pay14 a t xd cb v) (ix2 l p) = yoff A b c l (768 + p.val) + ydiag A b c l (768 + p.val) := by
  pointwise [k0_pay60, k0_pay59]
  exact head_core b c a t xd cb ha ht hxd 12 1 hcb l ⟨768 + p.val, by omega⟩ (show (768 + p.val) / 64 = 12 by omega) (show (768 + p.val) / 512 = 1 by omega) _ (hv l p)
/-- Head 13. -/
theorem head13_at (hcb : ∀ l k : Fin 128, cb (ix2 l k) = cbm A b c 1 l k)
    (hv : ∀ (l : Fin 128) (p : Fin 64), v (ix2 l p) = yoff A b c l (832 + p.val)) (l : Fin 128) (p : Fin 64) :
    k0_pay61 k0_pay14 a t xd cb v (ix2 l p) = yoff A b c l (832 + p.val) + ydiag A b c l (832 + p.val) := by
  pointwise [k0_pay61]
  exact head_core b c a t xd cb ha ht hxd 13 1 hcb l ⟨832 + p.val, by omega⟩ (show (832 + p.val) / 64 = 13 by omega) (show (832 + p.val) / 512 = 1 by omega) _ (hv l p)
/-- Head 14. -/
theorem head14_at (hcb : ∀ l k : Fin 128, cb (ix2 l k) = cbm A b c 1 l k)
    (hv : ∀ (l : Fin 128) (p : Fin 64), v (ix2 l p) = yoff A b c l (896 + p.val)) (l : Fin 128) (p : Fin 64) :
    k0_pay62 k0_pay14 a t xd cb v (ix2 l p) = yoff A b c l (896 + p.val) + ydiag A b c l (896 + p.val) := by
  pointwise [k0_pay62]
  exact head_core b c a t xd cb ha ht hxd 14 1 hcb l ⟨896 + p.val, by omega⟩ (show (896 + p.val) / 64 = 14 by omega) (show (896 + p.val) / 512 = 1 by omega) _ (hv l p)
/-- Head 15. -/
theorem head15_at (hcb : ∀ l k : Fin 128, cb (ix2 l k) = cbm A b c 1 l k)
    (hv : ∀ (l : Fin 128) (p : Fin 64), v (ix2 l p) = yoff A b c l (960 + p.val)) (l : Fin 128) (p : Fin 64) :
    k0_pay65 k0_pay14 xd cb (k0_pay63 a t) k0_pay64 v (ix2 l p) = yoff A b c l (960 + p.val) + ydiag A b c l (960 + p.val) := by
  pointwise [k0_pay65, k0_pay64, k0_pay63]
  exact head_core b c a t xd cb ha ht hxd 15 1 hcb l ⟨960 + p.val, by omega⟩ (show (960 + p.val) / 64 = 15 by omega) (show (960 + p.val) / 512 = 1 by omega) _ (hv l p)
end heads

/-- The gate and the norm. -/
theorem pay66_at (x : FVec Ideal S128x1024 .f32) (dk : FVec Ideal S1x1024 .f32) (v z : FVec Ideal S128x1024 .f32)
    (hx : ∀ (l : Fin 128) (q : Fin 1024), x (ix2 l q) = xs A b c l q) (hdk : ∀ q : Fin 1024, dk (ix2 0 q) = A.ds (q.val / 64))
    (hv : ∀ (l : Fin 128) (q : Fin 1024), v (ix2 l q) = yoff A b c l q + ydiag A b c l q)
    (hz : ∀ (l : Fin 128) (q : Fin 1024), z (ix2 l q) = silu (A.z b (128 * c + l) q)) (ng : FVec Ideal S1x1024 .f32)
    (hng : ∀ q : Fin 1024, ng (ix2 0 q) = A.ng q) (l : Fin 128) (q : Fin 1024) :
    k0_pay1 (k0_pay66 x dk v z) ng (ix2 l q) = out A b c l q := by
  have hy : ∀ q : Fin 1024, (v (ix2 l q) + x (ix2 l q) * dk (ix2 0 q)) * z (ix2 l q) = y A b c l q := fun q => by
    rw [hv, hx, hdk, hz]; rfl
  pointwise [k0_pay1, k0_pay66]
  simp only [hy, hng]
  rw [out]
  by_cases hq : q.val < 512
  · rw [dif_pos hq, show q.val / 512 = 0 by omega]
    simp only [Nat.mul_zero, Nat.zero_add]
  · rw [dif_neg hq, show q.val / 512 = 1 by omega, show 512 + (q.val - 512) = q.val by omega]

end Cert.KernelIdeal.Value

end
-- ==== Proof.Ssd.Cols.lean ====
/- Reading a plane that was stored in column ranges: which store an index reads, and the running invariant of the
   output buffer while the heads add their products one after another. -/
module

public import proofs.«01_k».proof.Proof.Ssd.Heads

@[expose] public section

set_option maxRecDepth 16384

noncomputable section

open Idealize.ShloMosaic Idealize.ShloMosaic.TcCoe Idealize.SL.Sem

namespace Cert.Ssd

/-- A plane of the given height and width. -/
abbrev Plane (m n : ℕ) : Shape := ⟨2, ![m, n]⟩

/-- A whole buffer's rectangle read, at one element. -/
theorem read_at {sig : RefSig} {κ : Kind} {sp : Space} {F : FTy → Type} [FloatOps F] {e : EltTy} {m n m' w a b : ℕ}
    (arg : Memref sig κ sp (Plane m n) e) (harg : arg.IsWhole) (X : (Plane m n).Idx → Elt F e)
    (inb : ∀ i, (![a, b] : Fin 2 → ℕ) i + (![m', w] : Fin 2 → ℕ) i ≤ (Plane m n).size i) (l : Fin m') (p : Fin w)
    (hl : a + l.val < m) (hp : b + p.val < n) :
    View.readAt (Elt F) arg.view (Rect.unit (s := Plane m n) ![a, b] ![m', w] inb).toLoadRect (harg.unread X) (ix2 l p)
      = X (ix2 ⟨a + l.val, hl⟩ ⟨b + p.val, hp⟩) := by
  rw [View.readAt_eq_ld, harg.read_unread]
  refine congrArg X (funext fun i => Fin.ext ?_)
  match i with
  | ⟨0, _⟩ => exact congrArg (a + ·) (Nat.one_mul _)
  | ⟨1, _⟩ => exact congrArg (b + ·) (Nat.one_mul _)

section rects
variable {m n m' w a b : ℕ} {e : EltTy} {Val : EltTy → Type} [∀ e, Nonempty (Val e)]
  (inb : ∀ i, (![a, b] : Fin 2 → ℕ) i + (![m', w] : Fin 2 → ℕ) i ≤ (Plane m n).size i)

theorem emb_at (l : Fin m') (p : Fin w) (hl : a + l.val < m) (hp : b + p.val < n) :
    (Rect.unit (s := Plane m n) ![a, b] ![m', w] inb).emb (ix2 l p) = ix2 ⟨a + l.val, hl⟩ ⟨b + p.val, hp⟩ := by
  refine funext fun i => Fin.ext ?_
  match i with
  | ⟨0, _⟩ => exact congrArg (a + ·) (Nat.one_mul _)
  | ⟨1, _⟩ => exact congrArg (b + ·) (Nat.one_mul _)

/-- Inside the last store's rectangle its payload is read. -/
theorem canon_in (P : (Rect.unit (s := Plane m n) ![a, b] ![m', w] inb).shape.Idx → Val e) (L : List (View.Piece Val (Plane m n) e))
    (l : Fin m') (p : Fin w) (hl : a + l.val < m) (hp : b + p.val < n) :
    View.canon (⟨Rect.unit (s := Plane m n) ![a, b] ![m', w] inb, P⟩ :: L) (ix2 ⟨a + l.val, hl⟩ ⟨b + p.val, hp⟩) = P (ix2 l p) :=
  (congrArg _ (emb_at inb l p hl hp)).symm.trans (View.canon_cons_emb _ P L (ix2 l p))

theorem not_mem_unit (i : Fin m) (j : Fin n) (h : i.val < a ∨ a + m' ≤ i.val ∨ j.val < b ∨ b + w ≤ j.val) :
    ix2 i j ∉ (Rect.unit (s := Plane m n) ![a, b] ![m', w] inb).set := by
  intro hm
  obtain ⟨x, hx⟩ := (Rect.unit (s := Plane m n) ![a, b] ![m', w] inb).exists_idx_of_mem hm
  have h0 : a + 1 * (x 0).val = i.val := congrArg (fun y : (Plane m n).Idx => (y 0).val) hx
  have h1 : b + 1 * (x 1).val = j.val := congrArg (fun y : (Plane m n).Idx => (y 1).val) hx
  have l0 : (x 0).val < m' := (x 0).isLt
  have l1 : (x 1).val < w := (x 1).isLt
  omega

/-- Outside the last store's rectangle the earlier stores are read. -/
theorem canon_out (P : (Rect.unit (s := Plane m n) ![a, b] ![m', w] inb).shape.Idx → Val e) (L : List (View.Piece Val (Plane m n) e))
    (i : Fin m) (j : Fin n) (h : i.val < a ∨ a + m' ≤ i.val ∨ j.val < b ∨ b + w ≤ j.val) :
    View.canon (⟨Rect.unit (s := Plane m n) ![a, b] ![m', w] inb, P⟩ :: L) (ix2 i j) = View.canon L (ix2 i j) :=
  View.canon_cons_of_not_mem ⟨_, P⟩ L (not_mem_unit inb i j h)
/-- The last store's payload, at an index of the whole buffer. -/
theorem canon_of (P : (Rect.unit (s := Plane m n) ![a, b] ![m', w] inb).shape.Idx → Val e) (L : List (View.Piece Val (Plane m n) e))
    (i : Fin m) (j : Fin n) (hi : a ≤ i.val) (hi' : i.val - a < m') (hj : b ≤ j.val) (hj' : j.val - b < w) :
    View.canon (⟨Rect.unit (s := Plane m n) ![a, b] ![m', w] inb, P⟩ :: L) (ix2 i j) = P (ix2 ⟨i.val - a, hi'⟩ ⟨j.val - b, hj'⟩) := by
  have hl : a + (i.val - a) < m := by have := i.isLt; omega
  have hp : b + (j.val - b) < n := by have := j.isLt; omega
  refine Eq.trans (congrArg _ ?_) (canon_in inb P L ⟨i.val - a, hi'⟩ ⟨j.val - b, hj'⟩ hl hp)
  exact congr (congrArg ix2 (Fin.ext (show i.val = a + (i.val - a) by omega))) (Fin.ext (show j.val = b + (j.val - b) by omega))
end rects

/-- The stores read as `f` in the columns from `lo` to `hi`. -/
def Cols (L : List (View.Piece (Elt Ideal) (Plane 128 1024) .f32)) (lo hi : ℕ) (f : ℕ → ℕ → EReal) : Prop :=
  ∀ (l : Fin 128) (q : Fin 1024), lo ≤ q.val → q.val < hi → (View.canon L (ix2 l q) : EReal) = f l q

section cols
variable {L : List (View.Piece (Elt Ideal) (Plane 128 1024) .f32)} {f : ℕ → ℕ → EReal} {o w lo hi : ℕ}

theorem Cols.head (inb : ∀ i, (![0, o] : Fin 2 → ℕ) i + (![128, w] : Fin 2 → ℕ) i ≤ (Plane 128 1024).size i)
    (P : (Rect.unit (s := Plane 128 1024) ![0, o] ![128, w] inb).shape.Idx → Elt Ideal .f32)
    (hP : ∀ (l : Fin 128) (p : Fin w), (P (ix2 l p) : EReal) = f l (o + p.val)) :
    Cols (⟨Rect.unit (s := Plane 128 1024) ![0, o] ![128, w] inb, P⟩ :: L) o (o + w) f := by
  intro l q h1 h2
  have e : (ix2 l q : (Plane 128 1024).Idx) = ix2 ⟨0 + l.val, by omega⟩ ⟨o + (⟨q.val - o, by omega⟩ : Fin w).val, by have := q.isLt; simp; omega⟩ :=
    congr (congrArg ix2 (Fin.ext (Nat.zero_add _).symm)) (Fin.ext (by simp; omega))
  rw [e]
  refine (canon_in inb P L l ⟨q.val - o, by omega⟩ _ _).trans ((hP _ _).trans ?_)
  exact congrArg (f l) (show o + (q.val - o) = q.val by omega)

theorem Cols.tail (inb : ∀ i, (![0, o] : Fin 2 → ℕ) i + (![128, w] : Fin 2 → ℕ) i ≤ (Plane 128 1024).size i)
    (P : (Rect.unit (s := Plane 128 1024) ![0, o] ![128, w] inb).shape.Idx → Elt Ideal .f32)
    (h : Cols L lo hi f) (hd : hi ≤ o ∨ o + w ≤ lo) :
    Cols (⟨Rect.unit (s := Plane 128 1024) ![0, o] ![128, w] inb, P⟩ :: L) lo hi f := by
  intro l q h1 h2
  rw [canon_out inb P L l q (by omega)]
  exact h l q h1 h2

theorem Cols.sub (h : Cols L lo hi f) {lo' hi' : ℕ} (h1 : lo ≤ lo') (h2 : hi' ≤ hi) : Cols L lo' hi' f :=
  fun l q a b => h l q (h1.trans a) (b.trans_le h2)

theorem Cols.join (h : Cols L lo hi f) {hi' : ℕ} (h' : Cols L hi hi' f) : Cols L lo hi' f :=
  fun l q a b => (Nat.lt_or_ge q.val hi).elim (fun c => h l q a c) (fun c => h' l q c b)

/-- A load of a column range reads the stores. -/
theorem Cols.read {sig : RefSig} {κ : Kind} {sp : Space} (v : View sig κ sp (Plane 128 1024) .f32) (h : Cols L lo hi f)
    (inb : ∀ i, (![0, o] : Fin 2 → ℕ) i + (![128, w] : Fin 2 → ℕ) i ≤ (Plane 128 1024).size i) (h1 : lo ≤ o) (h2 : o + w ≤ hi) (h3 : o + w ≤ 1024)
    (l : Fin 128) (p : Fin w) :
    (v.readCov L (Rect.unit (s := Plane 128 1024) ![0, o] ![128, w] inb).toLoadRect (ix2 l p) : EReal) = f l (o + p.val) := by
  rw [View.readCov_eq_canon']
  refine (congrArg (View.canon L) (emb_at inb l p (by omega) (by omega))).trans ?_
  refine (h _ _ (by show lo ≤ o + p.val; omega) (by show o + p.val < hi; omega)).trans ?_
  exact congrArg (fun n => f n (o + p.val)) (Nat.zero_add _)
end cols

/-- The output buffer after the first `k` heads: the heads done hold both contributions, the others (up to column `hi`) the
    state's alone. -/
def Done (A : Args) (b c : ℕ) (k hi : ℕ) (L : List (View.Piece (Elt Ideal) (Plane 128 1024) .f32)) : Prop :=
  Cols L 0 (64 * k) (fun l q => yoff A b c l q + ydiag A b c l q) ∧ Cols L (64 * k) hi (yoff A b c)

theorem Done.step {A : Args} {b c k hi : ℕ} {L : List (View.Piece (Elt Ideal) (Plane 128 1024) .f32)} (h : Done A b c k hi L) (o : ℕ) (ho : o = 64 * k)
    (inb : ∀ i, (![0, o] : Fin 2 → ℕ) i + (![128, 64] : Fin 2 → ℕ) i ≤ (Plane 128 1024).size i)
    (P : (Rect.unit (s := Plane 128 1024) ![0, o] ![128, 64] inb).shape.Idx → Elt Ideal .f32)
    (hP : ∀ (l : Fin 128) (p : Fin 64), (P (ix2 l p) : EReal) = yoff A b c l (o + p.val) + ydiag A b c l (o + p.val)) :
    Done A b c (k + 1) hi (⟨Rect.unit (s := Plane 128 1024) ![0, o] ![128, 64] inb, P⟩ :: L) := by
  subst ho
  refine ⟨?_, ?_⟩
  · have h1 := Cols.tail inb P h.1 (.inl (le_refl _))
    exact h1.join (Cols.head inb P hP)
  · refine Cols.tail inb P (h.2.sub (show 64 * k ≤ 64 * (k + 1) by omega) le_rfl) (.inr (by omega))

/-- Head 7, then the state's share of the second half of the lanes. -/
theorem Done.mid {A : Args} {b c : ℕ} {L : List (View.Piece (Elt Ideal) (Plane 128 1024) .f32)} (h : Done A b c 7 512 L)
    (inb7 : ∀ i, (![0, 448] : Fin 2 → ℕ) i + (![128, 64] : Fin 2 → ℕ) i ≤ (Plane 128 1024).size i)
    (inb : ∀ i, (![0, 512] : Fin 2 → ℕ) i + (![128, 512] : Fin 2 → ℕ) i ≤ (Plane 128 1024).size i)
    (P7 : (Rect.unit (s := Plane 128 1024) ![0, 448] ![128, 64] inb7).shape.Idx → Elt Ideal .f32)
    (P : (Rect.unit (s := Plane 128 1024) ![0, 512] ![128, 512] inb).shape.Idx → Elt Ideal .f32)
    (h7 : ∀ (l : Fin 128) (p : Fin 64), (P7 (ix2 l p) : EReal) = yoff A b c l (448 + p.val) + ydiag A b c l (448 + p.val))
    (hP : ∀ (l : Fin 128) (p : Fin 512), (P (ix2 l p) : EReal) = yoff A b c l (512 + p.val)) :
    Done A b c 8 1024 (⟨Rect.unit (s := Plane 128 1024) ![0, 512] ![128, 512] inb, P⟩
      :: ⟨Rect.unit (s := Plane 128 1024) ![0, 448] ![128, 64] inb7, P7⟩ :: L) :=
  ⟨(h.step 448 rfl inb7 P7 h7).1.tail inb P (.inl (by omega)), Cols.head inb P hP⟩

end Cert.Ssd

end
-- ==== Proof.Ssd.Window.lean ====
module

public import Idealize.ShloMosaic.Lib.ValueIdxRank6
public import Idealize.ShloMosaic.Lib.Pipeline.ValueKit

/-!
# A running sum as a window

The reference's cumulative sum along the last axis is printed as a window of 128 positions padded low by 127; its entry at `l` is the sum of the
entries up to `l`.
-/

@[expose] public section

noncomputable section

open Idealize.ShloMosaic

namespace Cert.Ssd

/-- A left fold of additions is the start plus the sum. -/
theorem foldl_add_eq {ι : Type} (f : ι → EReal) (l : List ι) (v : EReal) : l.foldl (fun r n => r + f n) v = v + (l.map f).sum := by
  induction l generalizing v with
  | nil => simp
  | cons a l ih => rw [List.foldl_cons, ih, List.map_cons, List.sum_cons, add_assoc]

/-- The window's positions, as many as its last axis. -/
theorem numel_w : (⟨5, ![1, 1, 1, 1, 128]⟩ : Shape).numel = 128 := by decide

/-- Positions of the window against entries. -/
def rot (l : Fin 128) : Fin 128 ≃ Fin 128 where
  toFun n := ⟨(n.val + l.val + 1) % 128, Nat.mod_lt _ (by decide)⟩
  invFun k := ⟨(k.val + 127 - l.val) % 128, Nat.mod_lt _ (by decide)⟩
  left_inv n := Fin.ext (by
    have := l.isLt
    have := n.isLt
    show ((n.val + l.val + 1) % 128 + 127 - l.val) % 128 = n.val
    omega)
  right_inv n := Fin.ext (by
    have := l.isLt
    have := n.isLt
    show ((n.val + 127 - l.val) % 128 + l.val + 1) % 128 = n.val
    omega)

/-- The window at `l` read backwards is the prefix up to `l`. -/
theorem sum_prefix (f : ℕ → EReal) (l : Fin 128) :
    ∑ n : Fin 128, (if 127 ≤ l.val + n.val then f (l.val + n.val - 127) else 0) = ∑ k : Fin 128, if k.val ≤ l.val then f k else 0 := by
  refine Fintype.sum_equiv (rot l) _ _ fun n => ?_
  show _ = if (n.val + l.val + 1) % 128 ≤ l.val then f ((n.val + l.val + 1) % 128) else 0
  have hl := l.isLt
  have hn := n.isLt
  by_cases h : 127 ≤ l.val + n.val
  · rw [if_pos h, if_pos (by omega), show (n.val + l.val + 1) % 128 = l.val + n.val - 127 by omega]
  · rw [if_neg h, if_neg (by omega)]

/-- The cumulative sum along the last of five axes. -/
theorem cumsum5 {n0 n1 n2 n3 : ℕ} (x : (⟨5, ![n0, n1, n2, n3, 128]⟩ : Shape).Idx → EReal) {u : Shape} (init : u.Idx → EReal)
    (h : (⟨5, ![n0, n1, n2, n3, 128]⟩ : Shape).ReduceWindows (![1, 1, 1, 1, 128] : Fin 5 → ℕ) ![1, 1, 1, 1, 1] ![0, 0, 0, 0, 127] ![0, 0, 0, 0, 0]
      (⟨5, ![n0, n1, n2, n3, 128]⟩ : Shape)) (hu : 0 < u.numel) (hi : init (Shape.Idx.first hu) = 0)
    (b : Fin n0) (c : Fin n1) (g : Fin n2) (k : Fin n3) (l : Fin 128) :
    Host.reduceWindow (· + ·) (![1, 1, 1, 1, 128] : Fin 5 → ℕ) ![1, 1, 1, 1, 1] ![0, 0, 0, 0, 127] ![0, 0, 0, 0, 0] x init h hu (ix5 b c g k l)
      = ∑ p : Fin 128, if p.val ≤ l.val then x (ix5 b c g k p) else 0 := by
  unfold Host.reduceWindow
  dsimp only
  rw [foldl_add_eq, hi, zero_add, ← Fin.sum_univ_def]
  have hf : ∀ p : Fin 128, x (ix5 b c g k p) = (fun i : ℕ => if hi : i < 128 then x (ix5 b c g k ⟨i, hi⟩) else 0) p.val := fun p => by
    show _ = if hi : p.val < 128 then x (ix5 b c g k ⟨p.val, hi⟩) else 0
    rw [dif_pos p.isLt]
  refine Eq.trans ?_ ((sum_prefix (fun i : ℕ => if hi : i < 128 then x (ix5 b c g k ⟨i, hi⟩) else 0) l).trans
    (Finset.sum_congr rfl fun p _ => by rw [hf p]))
  refine Fintype.sum_equiv (finCongr numel_w) _ _ fun n => ?_
  have hw : ((⟨5, ![1, 1, 1, 1, 128]⟩ : Shape).rowMajor.symm n 4).val = n.val ∧ ((⟨5, ![1, 1, 1, 1, 128]⟩ : Shape).rowMajor.symm n 0).val = 0
      ∧ ((⟨5, ![1, 1, 1, 1, 128]⟩ : Shape).rowMajor.symm n 1).val = 0 ∧ ((⟨5, ![1, 1, 1, 1, 128]⟩ : Shape).rowMajor.symm n 2).val = 0
      ∧ ((⟨5, ![1, 1, 1, 1, 128]⟩ : Shape).rowMajor.symm n 3).val = 0 := by
    have e := Shape.rowMajor_val_five ((⟨5, ![1, 1, 1, 1, 128]⟩ : Shape).rowMajor.symm n)
    rw [Equiv.apply_symm_apply] at e
    have h0 := ((⟨5, ![1, 1, 1, 1, 128]⟩ : Shape).rowMajor.symm n 0).isLt
    have h1 := ((⟨5, ![1, 1, 1, 1, 128]⟩ : Shape).rowMajor.symm n 1).isLt
    have h2 := ((⟨5, ![1, 1, 1, 1, 128]⟩ : Shape).rowMajor.symm n 2).isLt
    have h3 := ((⟨5, ![1, 1, 1, 1, 128]⟩ : Shape).rowMajor.symm n 3).isLt
    change _ < 1 at h0 h1 h2 h3
    change n.val = (((_ * 1 + _) * 1 + _) * 1 + _) * 128 + _ at e
    omega
  obtain ⟨h4, h0, h1, h2, h3⟩ := hw
  have hn : n.val < 128 := (finCongr numel_w n).isLt
  have hl := l.isLt
  rw [show ((finCongr numel_w) n).val = n.val from rfl]
  split
  · next hin =>
    have h := hin 4
    change 127 ≤ l.val * 1 + ((⟨5, ![1, 1, 1, 1, 128]⟩ : Shape).rowMajor.symm n 4).val
      ∧ l.val * 1 + ((⟨5, ![1, 1, 1, 1, 128]⟩ : Shape).rowMajor.symm n 4).val - 127 < 128 at h
    rw [h4] at h
    rw [if_pos (by omega), dif_pos (by omega)]
    refine congrArg x (funext fun a => Fin.ext ?_)
    match a with
    | ⟨0, _⟩ => show b.val * 1 + ((⟨5, ![1, 1, 1, 1, 128]⟩ : Shape).rowMajor.symm n 0).val - 0 = b.val; omega
    | ⟨1, _⟩ => show c.val * 1 + ((⟨5, ![1, 1, 1, 1, 128]⟩ : Shape).rowMajor.symm n 1).val - 0 = c.val; omega
    | ⟨2, _⟩ => show g.val * 1 + ((⟨5, ![1, 1, 1, 1, 128]⟩ : Shape).rowMajor.symm n 2).val - 0 = g.val; omega
    | ⟨3, _⟩ => show k.val * 1 + ((⟨5, ![1, 1, 1, 1, 128]⟩ : Shape).rowMajor.symm n 3).val - 0 = k.val; omega
    | ⟨4, _⟩ => show l.val * 1 + ((⟨5, ![1, 1, 1, 1, 128]⟩ : Shape).rowMajor.symm n 4).val - 127 = l.val + n.val - 127; omega
  · next hin =>
    rw [if_neg fun hle => hin fun a => ?_]
    · match a with
      | ⟨0, _⟩ => show 0 ≤ b.val * 1 + ((⟨5, ![1, 1, 1, 1, 128]⟩ : Shape).rowMajor.symm n 0).val ∧ b.val * 1 + ((⟨5, ![1, 1, 1, 1, 128]⟩ : Shape).rowMajor.symm n 0).val - 0 < n0; have := b.isLt; omega
      | ⟨1, _⟩ => show 0 ≤ c.val * 1 + ((⟨5, ![1, 1, 1, 1, 128]⟩ : Shape).rowMajor.symm n 1).val ∧ c.val * 1 + ((⟨5, ![1, 1, 1, 1, 128]⟩ : Shape).rowMajor.symm n 1).val - 0 < n1; have := c.isLt; omega
      | ⟨2, _⟩ => show 0 ≤ g.val * 1 + ((⟨5, ![1, 1, 1, 1, 128]⟩ : Shape).rowMajor.symm n 2).val ∧ g.val * 1 + ((⟨5, ![1, 1, 1, 1, 128]⟩ : Shape).rowMajor.symm n 2).val - 0 < n2; have := g.isLt; omega
      | ⟨3, _⟩ => show 0 ≤ k.val * 1 + ((⟨5, ![1, 1, 1, 1, 128]⟩ : Shape).rowMajor.symm n 3).val ∧ k.val * 1 + ((⟨5, ![1, 1, 1, 1, 128]⟩ : Shape).rowMajor.symm n 3).val - 0 < n3; have := k.isLt; omega
      | ⟨4, _⟩ => show 127 ≤ l.val * 1 + ((⟨5, ![1, 1, 1, 1, 128]⟩ : Shape).rowMajor.symm n 4).val ∧ l.val * 1 + ((⟨5, ![1, 1, 1, 1, 128]⟩ : Shape).rowMajor.symm n 4).val - 127 < 128; omega

/-- The same, as the host's operation. -/
theorem hostCumsum5 {n0 n1 n2 n3 : ℕ} (x : FVec Ideal (⟨5, ![n0, n1, n2, n3, 128]⟩ : Shape) .f32) {u : Shape} (init : FVec Ideal u .f32)
    (h : (⟨5, ![n0, n1, n2, n3, 128]⟩ : Shape).ReduceWindows (![1, 1, 1, 1, 128] : Fin 5 → ℕ) ![1, 1, 1, 1, 1] ![0, 0, 0, 0, 127] ![0, 0, 0, 0, 0]
      (⟨5, ![n0, n1, n2, n3, 128]⟩ : Shape)) (hu : 0 < u.numel) (hi : init (Shape.Idx.first hu) = (0 : EReal))
    (b : Fin n0) (c : Fin n1) (g : Fin n2) (k : Fin n3) (l : Fin 128) :
    (Host.reduceWindowAdd (![1, 1, 1, 1, 128] : Fin 5 → ℕ) ![1, 1, 1, 1, 1] ![0, 0, 0, 0, 127] ![0, 0, 0, 0, 0] x init h hu (ix5 b c g k l) : EReal)
      = (∑ p : Fin 128, if p.val ≤ l.val then (x (ix5 b c g k p) : EReal) else 0 : EReal) :=
  Eq.trans (by unfold Host.reduceWindowAdd; rfl) (cumsum5 x init h hu hi b c g k l)

end Cert.Ssd

end
-- ==== Proof.Out.Point.lean ====
/- What one grid point of the output projection's kernel computes, entry by entry. -/
module

public import proofs.«01_k».proof.Proof.Out.Spec
public import proofs.«01_k».proof.Proof.Ssd.Cols
public import proofs.«01_k».proof.Proof.Ssd.Window
public import proofs.«01_k».proof.Proof.Gen.Kernel3Ideal.Frame
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Kernel3Ideal.Value
open Cert.Kernel3Ideal Cert.Kernel3Ideal.Gen Cert.Out
open Cert.Ssd (Plane canon_of)

/-- The residual stream with the projection added, at an entry. -/
theorem x1_at (A : OArgs) (t : ℕ) (o : FVec Ideal S1024x1024 .bf16) (ag : FVec Ideal S1x1024 .f32) (x : FVec Ideal S1024x1024 .f32)
    (y w w' : FVec Ideal S1024x1024 .bf16)
    (ho : ∀ (l : Fin 1024) (k : Fin 1024), o (ix2 l k) = A.o (1024 * t + l) k) (hag : ∀ k : Fin 1024, ag (ix2 0 k) = A.ag k)
    (hx : ∀ (l : Fin 1024) (k : Fin 1024), x (ix2 l k) = A.x (1024 * t + l) k)
    (hy : ∀ (l : Fin 1024) (k : Fin 1024), y (ix2 l k) = A.y (1024 * t + l) k)
    (hw : ∀ (k : Fin 1024) (q : Fin 1024), w (ix2 k q) = A.w k q) (hw' : ∀ (k : Fin 1024) (q : Fin 1024), w' (ix2 k q) = A.w (1024 + k) q)
    (l : Fin 1024) (q : Fin 1024) :
    k0_pay2 (F := Ideal) o ag x y w w' (ix2 l q) = ox1 A (1024 * t + l) q := by
  pointwise [k0_pay2]
  simp only [ho, hag, hx, hy, hw, hw']
  rfl

/-- The norm of it, at an entry. -/
theorem h2_at (A : OArgs) (t : ℕ) (X : FVec Ideal S1024x1024 .f32) (g : FVec Ideal S1x1024 .f32)
    (hX : ∀ (l : Fin 1024) (q : Fin 1024), X (ix2 l q) = ox1 A (1024 * t + l) q) (hg : ∀ k : Fin 1024, g (ix2 0 k) = A.g k) (l : Fin 1024) (q : Fin 1024) :
    k0_pay1 (F := Ideal) X (k0_pay3 g)
      (shapeCast S1024x1 (multiReduction .add [1] S1024 (mulf X X) 0x00000000#32 reduces_S1024x1024_S1024 (.inl rfl) rfl) shapeCasts_S1024_S1024x1)
      (k0_pay5 (F := Ideal)) (ix2 l q) = oh2 A (1024 * t + l) q := by
  pointwise [k0_pay1, k0_pay3, k0_pay5]
  simp only [hX, hg]
  rfl

/-- The input windows of grid point `t`. -/
structure PtIn (A : OArgs) (t : ℕ) (x0 x1 : FVec Ideal S1024x1024 .bf16) (x2 : FVec Ideal S1024x1024 .f32) (x3 : FVec Ideal S2048x1024 .bf16)
    (x4 x5 : FVec Ideal S1x1024 .f32) : Prop where
  x0 : ∀ (l : Fin 1024) (k : Fin 1024), x0 (ix2 l k) = A.y (1024 * t + l) k
  x1 : ∀ (l : Fin 1024) (k : Fin 1024), x1 (ix2 l k) = A.o (1024 * t + l) k
  x2 : ∀ (l : Fin 1024) (k : Fin 1024), x2 (ix2 l k) = A.x (1024 * t + l) k
  x3 : ∀ (k : Fin 2048) (q : Fin 1024), x3 (ix2 k q) = A.w k q
  x4 : ∀ (r : Fin 1) (k : Fin 1024), x4 (ix2 r k) = A.ag k
  x5 : ∀ (r : Fin 1) (k : Fin 1024), x5 (ix2 r k) = A.g k

/-- A load of a block of rows. -/
theorem ld_at {m n m' n' a : ℕ} {e : EltTy} (X : (Plane m n).Idx → Elt Ideal e)
    (inb : ∀ i, (![a, 0] : Fin 2 → ℕ) i + (![m', n'] : Fin 2 → ℕ) i ≤ (Plane m n).size i) (l : Fin m') (q : Fin n')
    (hl : a + l.val < m) (hq : q.val < n) :
    View.ld (Val := Elt Ideal) X (Rect.unit (s := Plane m n) ![a, 0] ![m', n'] inb) (ix2 l q) = X (ix2 ⟨a + l.val, hl⟩ ⟨q.val, hq⟩) := by
  refine congrArg X ?_
  funext d
  match d with
  | ⟨0, _⟩ => exact Fin.ext (show a + 1 * l.val = a + l.val by omega)
  | ⟨1, _⟩ => exact Fin.ext (show 0 + 1 * q.val = q.val by omega)

variable {A : OArgs} {t : ℕ} {x0 x1 : FVec Ideal S1024x1024 .bf16} {x2 : FVec Ideal S1024x1024 .f32} {x3 : FVec Ideal S2048x1024 .bf16}
    {x4 x5 : FVec Ideal S1x1024 .f32} (H : PtIn A t x0 x1 x2 x3 x4 x5)
include H

/-- The sum at a grid point, from its windows. -/
theorem x1_win (l : Fin 1024) (q : Fin 1024) :
    k0_pay2 (F := Ideal) (View.ld x1 r0_0) (View.ld x4 r0_1) (View.ld x2 r0_0) (View.ld x0 r0_0) (View.ld x3 r0_2) (View.ld x3 r0_3) (ix2 l q)
      = ox1 A (1024 * t + l) q := by
  refine x1_at A t _ _ _ _ _ _ (fun l k => ?_) (fun k => ?_) (fun l k => ?_) (fun l k => ?_) (fun k q => ?_) (fun k q => ?_) l q
  · exact (ld_at (e := .bf16) x1 inb_S1024x1024_S1024x1024_0_0 l k (by omega) (by omega)).trans ((H.x1 _ _).trans (by simp only [Nat.zero_add]))
  · exact (ld_at (e := .f32) x4 inb_S1x1024_S1x1024_0_0 0 k (by show 0 + 0 < 1; omega) (by omega)).trans (H.x4 _ _)
  · exact (ld_at (e := .f32) x2 inb_S1024x1024_S1024x1024_0_0 l k (by omega) (by omega)).trans ((H.x2 _ _).trans (by simp only [Nat.zero_add]))
  · exact (ld_at (e := .bf16) x0 inb_S1024x1024_S1024x1024_0_0 l k (by omega) (by omega)).trans ((H.x0 _ _).trans (by simp only [Nat.zero_add]))
  · exact (ld_at (e := .bf16) x3 inb_S2048x1024_S1024x1024_0_0 k q (by omega) (by omega)).trans ((H.x3 _ _).trans (by simp only [Nat.zero_add]))
  · exact (ld_at (e := .bf16) x3 inb_S2048x1024_S1024x1024_1024_0 k q (by omega) (by omega)).trans (H.x3 _ _)

/-- The first result at a grid point. -/
theorem out6_at (l : Fin 1024) (q : Fin 1024) : (out0_6 (F := Ideal) x0 x1 x2 x3 x4 x5 (ix2 l q) : EReal) = ox1 A (1024 * t + l) q :=
  (canon_of (Val := Elt Ideal) (e := .f32) (a := 0) (b := 0) (m' := 1024) (w := 1024) inb_S1024x1024_S1024x1024_0_0 _ [] l q (by omega) (by omega) (by omega) (by omega)).trans
    (x1_win H l q)

/-- The second result at a grid point. -/
theorem out7_at (l : Fin 1024) (q : Fin 1024) : (out0_7 (F := Ideal) x0 x1 x2 x3 x4 x5 (ix2 l q) : EReal) = oh2 A (1024 * t + l) q :=
  (canon_of (Val := Elt Ideal) (e := .bf16) (a := 0) (b := 0) (m' := 1024) (w := 1024) inb_S1024x1024_S1024x1024_0_0 _ [] l q (by omega) (by omega) (by omega) (by omega)).trans
    (h2_at A t _ _ (x1_win H)
      (fun k => (ld_at (e := .f32) x5 inb_S1x1024_S1x1024_0_0 0 k (by show 0 + 0 < 1; omega) (by omega)).trans (H.x5 _ _)) l q)

end Cert.Kernel3Ideal.Value

end
-- ==== Proof.Out.Sweep.lean ====
/- The output projection's result arrays after the whole run. -/
module

public import proofs.«01_k».proof.Proof.Out.Point
public import proofs.«01_k».proof.Proof.Gen.Kernel3Ideal.Value
public import Idealize.ShloMosaic.Lib.Claim
import Idealize.ShloMosaic.Lib.ValueIdxRank6
import Idealize.ShloMosaic.Lib.StableHlo.ReadAt

@[expose] public section

set_option maxRecDepth 16384

noncomputable section

open Idealize.ShloMosaic Idealize.ShloMosaic.TcCoe Idealize.SL.Sem

namespace Cert.Kernel3Ideal.Value
open Cert.Kernel3Ideal Cert.Kernel3Ideal.Gen Cert.Out
open Cert.Ssd (ext1 ext2 ext3 ext1_eq ext2_at ext3_eq)

variable (m : (ℓ : Loc nD τ sig) → Buf (Elt Ideal) ℓ) (c : Dev nD)

/-- The kernel program's arguments. -/
def args : OArgs := oargsOf (m (c, Proc.tc.devRef main_arg0)) (m (c, Proc.tc.devRef main_arg1)) (m (c, Proc.tc.devRef main_arg2))
  (m (c, Proc.tc.devRef main_arg3)) (m (c, Proc.tc.devRef main_arg4)) (m (c, Proc.tc.devRef main_arg5))

/-- Where the block of the state-space branch lies. -/
theorem idx0 : ∀ t : Fin grid0.N, win0_0.index t = ![t.val, 0] := (by decide +kernel : ∀ t : Fin grid0.N, _)
/-- Window 0 at a grid point. -/
theorem win0_at (t : Fin grid0.N) (l : Fin 1024) (q : Fin 1024) : (iblk m c 0 t : FVec Ideal S1024x1024 .bf16) (ix2 l q) = (args m c).y (1024 * t.val + l) q := by
  have i0 : win0_0.index t 0 = t.val := by rw [idx0]; rfl
  have i1 : win0_0.index t 1 = 0 := by rw [idx0]; rfl
  have ht : t.val < 16 := t.isLt
  blk_simp [iblk]
  entry_read
  pointwise
  refine ext2_at _ _ ?_ ?_
  · show (win0_0.index t 0 * 1024 + 1 * l.val) = 1024 * t.val + l.val; rw [i0]; omega
  · show (win0_0.index t 1 * 1024 + 1 * q.val) = q.val; rw [i1]; omega
/-- Where the block of the attention branch lies. -/
theorem idx1 : ∀ t : Fin grid0.N, win0_1.index t = ![t.val, 0] := (by decide +kernel : ∀ t : Fin grid0.N, _)
/-- Window 1 at a grid point. -/
theorem win1_at (t : Fin grid0.N) (l : Fin 1024) (q : Fin 1024) : (iblk m c 1 t : FVec Ideal S1024x1024 .bf16) (ix2 l q) = (args m c).o (1024 * t.val + l) q := by
  have i0 : win0_1.index t 0 = t.val := by rw [idx1]; rfl
  have i1 : win0_1.index t 1 = 0 := by rw [idx1]; rfl
  have ht : t.val < 16 := t.isLt
  blk_simp [iblk]
  entry_read
  pointwise
  refine ext2_at _ _ ?_ ?_
  · show (win0_1.index t 0 * 1024 + 1 * l.val) = 1024 * t.val + l.val; rw [i0]; omega
  · show (win0_1.index t 1 * 1024 + 1 * q.val) = q.val; rw [i1]; omega
/-- Where the block of the residual stream lies. -/
theorem idx2 : ∀ t : Fin grid0.N, win0_2.index t = ![t.val, 0] := (by decide +kernel : ∀ t : Fin grid0.N, _)
/-- Window 2 at a grid point. -/
theorem win2_at (t : Fin grid0.N) (l : Fin 1024) (q : Fin 1024) : (iblk m c 2 t : FVec Ideal S1024x1024 .f32) (ix2 l q) = (args m c).x (1024 * t.val + l) q := by
  have i0 : win0_2.index t 0 = t.val := by rw [idx2]; rfl
  have i1 : win0_2.index t 1 = 0 := by rw [idx2]; rfl
  have ht : t.val < 16 := t.isLt
  blk_simp [iblk]
  entry_read
  pointwise
  refine ext3_eq _ _ _ _ ?_ ?_ ?_
  · show (win0_2.index t 0 * 1024 + 1 * l.val) / 2048 = (1024 * t.val + l.val) / 2048; rw [i0]; congr 1; omega
  · show (win0_2.index t 0 * 1024 + 1 * l.val) % 2048 = (1024 * t.val + l.val) % 2048; rw [i0]; congr 1; omega
  · show (win0_2.index t 1 * 1024 + 1 * q.val) = q.val; rw [i1]; omega
/-- Where the block of the weights lies. -/
theorem idx3 : ∀ t : Fin grid0.N, win0_3.index t = ![0, 0] := (by decide +kernel : ∀ t : Fin grid0.N, _)
/-- Window 3 at a grid point. -/
theorem win3_at (t : Fin grid0.N) (l : Fin 2048) (q : Fin 1024) : (iblk m c 3 t : FVec Ideal S2048x1024 .bf16) (ix2 l q) = (args m c).w l q := by
  have i0 : win0_3.index t 0 = 0 := by rw [idx3]; rfl
  have i1 : win0_3.index t 1 = 0 := by rw [idx3]; rfl
  have ht : t.val < 16 := t.isLt
  blk_simp [iblk]
  entry_read
  pointwise
  refine ext2_at _ _ ?_ ?_
  · show (win0_3.index t 0 * 2048 + 1 * l.val) = l.val; rw [i0]; omega
  · show (win0_3.index t 1 * 1024 + 1 * q.val) = q.val; rw [i1]; omega
/-- Where the block of the attention norm's gain lies. -/
theorem idx4 : ∀ t : Fin grid0.N, win0_4.index t = ![0, 0] := (by decide +kernel : ∀ t : Fin grid0.N, _)
/-- Window 4 at a grid point. -/
theorem win4_at (t : Fin grid0.N) (l : Fin 1) (q : Fin 1024) : (iblk m c 4 t : FVec Ideal S1x1024 .f32) (ix2 l q) = (args m c).ag q := by
  have i0 : win0_4.index t 0 = 0 := by rw [idx4]; rfl
  have i1 : win0_4.index t 1 = 0 := by rw [idx4]; rfl
  have ht : t.val < 16 := t.isLt
  blk_simp [iblk]
  entry_read
  pointwise
  refine ext1_eq _ _ ?_
  show (win0_4.index t 1 * 1024 + 1 * q.val) = q.val; rw [i1]; omega
/-- Where the block of the second norm's gain lies. -/
theorem idx5 : ∀ t : Fin grid0.N, win0_5.index t = ![0, 0] := (by decide +kernel : ∀ t : Fin grid0.N, _)
/-- Window 5 at a grid point. -/
theorem win5_at (t : Fin grid0.N) (l : Fin 1) (q : Fin 1024) : (iblk m c 5 t : FVec Ideal S1x1024 .f32) (ix2 l q) = (args m c).g q := by
  have i0 : win0_5.index t 0 = 0 := by rw [idx5]; rfl
  have i1 : win0_5.index t 1 = 0 := by rw [idx5]; rfl
  have ht : t.val < 16 := t.isLt
  blk_simp [iblk]
  entry_read
  pointwise
  refine ext1_eq _ _ ?_
  show (win0_5.index t 1 * 1024 + 1 * q.val) = q.val; rw [i1]; omega

/-- The windows of one grid point, together. -/
theorem ptIn (t : Fin grid0.N) : PtIn (args m c) t.val (iblk m c 0 t) (iblk m c 1 t) (iblk m c 2 t) (iblk m c 3 t) (iblk m c 4 t) (iblk m c 5 t) where
  x0 := win0_at m c t
  x1 := win1_at m c t
  x2 := win2_at m c t
  x3 := win3_at m c t
  x4 := win4_at m c t
  x5 := win5_at m c t

/-- Where the first result's block lies. -/
theorem idx6 : ∀ t : Fin grid0.N, win0_6.index t = ![t.val, 0] := (by decide +kernel : ∀ t : Fin grid0.N, _)
/-- The first result is written back at every grid point. -/
theorem flush6 : ∀ t : Fin grid0.N, win0_6.flush t = true := (by decide +kernel : ∀ t : Fin grid0.N, _)

/-- The first result as one array. -/
def res6 : Buf (Elt Ideal) ((c : Thread nD τ).loc main_v4_0) := fun i => (ox1 (args m c) (i 0).val (i 1).val : EReal)

/-- What each grid point writes back is its block of the first result. -/
theorem flushed6_eq (t : Fin cfg0.N) : (dats m 0 c).flushed 6 t = ((cfg0.win 6).blk t).view.read (Elt Ideal) (res6 m c) := by
  rw [flushed6]
  funext y
  have hb0 : (((cfg0.win 6).blk t).view.emb y 0).val = win0_6.index t (0 : Fin 2) * 1024 + 1 * (y 0).val := rfl
  have hb1 : (((cfg0.win 6).blk t).view.emb y 1).val = win0_6.index t (1 : Fin 2) * 1024 + 1 * (y 1).val := rfl
  have i0 : win0_6.index t 0 = t.val := by rw [idx6]; rfl
  have i1 : win0_6.index t 1 = 0 := by rw [idx6]; rfl
  have hy : ((cfg0.win 6).xinj (grid0.coords t) y : S1024x1024.Idx) = ix2 (y 0) (y 1) := by
    funext a
    match a with
    | ⟨0, _⟩ => rfl
    | ⟨1, _⟩ => rfl
  show out0_6 (F := Ideal) (iblk m c 0 t) (iblk m c 1 t) (iblk m c 2 t) (iblk m c 3 t) (iblk m c 4 t) (iblk m c 5 t) ((cfg0.win 6).xinj (grid0.coords t) y)
    = res6 m c (((cfg0.win 6).blk t).view.emb y)
  rw [hy]
  refine (out6_at (ptIn m c t) (y 0) (y 1)).trans ?_
  exact congr (congrArg (ox1 (args m c)) (by rw [hb0, i0]; omega)) (by rw [hb1, i1]; omega)

/-- An index of the first result is in point `t`'s block iff each coordinate is in the block's range. -/
theorem mem_blk6 (t : Fin cfg0.N) (i : S16384x1024.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v4_0).slice (win0_6.rect t)).set ↔ _
  rw [View.set_slice_whole, Rect.mem_set_unit]
  exact Iff.rfl

/-- The first result's array after the run. -/
theorem final6 : (dats m 0 c).arrAt 6 cfg0.N = res6 m c :=
  (dats m 0 c).arrAt_eq_of_cover 6 _ (fun t _ => flushed6_eq m c t) (fun i => by
    have h0 : (i 0).val < 16384 := (i 0).isLt
    have h1 : (i 1).val < 1024 := (i 1).isLt
    have hN : (i 0).val / 1024 < grid0.N := by show (i 0).val / 1024 < 16; omega
    have i0 : win0_6.index ⟨(i 0).val / 1024, hN⟩ 0 = (i 0).val / 1024 := by rw [idx6]; rfl
    have i1 : win0_6.index ⟨(i 0).val / 1024, hN⟩ 1 = 0 := by rw [idx6]; rfl
    refine ⟨⟨(i 0).val / 1024, hN⟩, flush6 _, ?_⟩
    rw [mem_blk6]
    intro a
    match a with
    | ⟨0, _⟩ => show win0_6.index ⟨(i 0).val / 1024, hN⟩ (0 : Fin 2) * 1024 ≤ (i 0).val ∧ (i 0).val < win0_6.index ⟨(i 0).val / 1024, hN⟩ (0 : Fin 2) * 1024 + 1024; omega
    | ⟨1, _⟩ => show win0_6.index ⟨(i 0).val / 1024, hN⟩ (1 : Fin 2) * 1024 ≤ (i 1).val ∧ (i 1).val < win0_6.index ⟨(i 0).val / 1024, hN⟩ (1 : Fin 2) * 1024 + 1024; omega)

/-- Where the second result's block lies. -/
theorem idx7 : ∀ t : Fin grid0.N, win0_7.index t = ![t.val, 0] := (by decide +kernel : ∀ t : Fin grid0.N, _)
/-- The second result is written back at every grid point. -/
theorem flush7 : ∀ t : Fin grid0.N, win0_7.flush t = true := (by decide +kernel : ∀ t : Fin grid0.N, _)

/-- The second result as one array. -/
def res7 : Buf (Elt Ideal) ((c : Thread nD τ).loc main_v4_1) := fun i => (oh2 (args m c) (i 0).val (i 1).val : EReal)

/-- What each grid point writes back is its block of the second result. -/
theorem flushed7_eq (t : Fin cfg0.N) : (dats m 0 c).flushed 7 t = ((cfg0.win 7).blk t).view.read (Elt Ideal) (res7 m c) := by
  rw [flushed7]
  funext y
  have hb0 : (((cfg0.win 7).blk t).view.emb y 0).val = win0_7.index t (0 : Fin 2) * 1024 + 1 * (y 0).val := rfl
  have hb1 : (((cfg0.win 7).blk t).view.emb y 1).val = win0_7.index t (1 : Fin 2) * 1024 + 1 * (y 1).val := rfl
  have i0 : win0_7.index t 0 = t.val := by rw [idx7]; rfl
  have i1 : win0_7.index t 1 = 0 := by rw [idx7]; rfl
  have hy : ((cfg0.win 7).xinj (grid0.coords t) y : S1024x1024.Idx) = ix2 (y 0) (y 1) := by
    funext a
    match a with
    | ⟨0, _⟩ => rfl
    | ⟨1, _⟩ => rfl
  show out0_7 (F := Ideal) (iblk m c 0 t) (iblk m c 1 t) (iblk m c 2 t) (iblk m c 3 t) (iblk m c 4 t) (iblk m c 5 t) ((cfg0.win 7).xinj (grid0.coords t) y)
    = res7 m c (((cfg0.win 7).blk t).view.emb y)
  rw [hy]
  refine (out7_at (ptIn m c t) (y 0) (y 1)).trans ?_
  exact congr (congrArg (oh2 (args m c)) (by rw [hb0, i0]; omega)) (by rw [hb1, i1]; omega)

/-- An index of the second result is in point `t`'s block iff each coordinate is in the block's range. -/
theorem mem_blk7 (t : Fin cfg0.N) (i : S16384x1024.Idx) :
    i ∈ ((cfg0.win 7).blk t).view.set ↔ ∀ a : Fin 2, win0_7.index t a * S1024x1024.size a ≤ (i a).val ∧ (i a).val < win0_7.index t a * S1024x1024.size a + S1024x1024.size a := by
  show i ∈ ((View.whole main_v4_1).slice (win0_7.rect t)).set ↔ _
  rw [View.set_slice_whole, Rect.mem_set_unit]
  exact Iff.rfl

/-- The second result's array after the run. -/
theorem final7 : (dats m 0 c).arrAt 7 cfg0.N = res7 m c :=
  (dats m 0 c).arrAt_eq_of_cover 7 _ (fun t _ => flushed7_eq m c t) (fun i => by
    have h0 : (i 0).val < 16384 := (i 0).isLt
    have h1 : (i 1).val < 1024 := (i 1).isLt
    have hN : (i 0).val / 1024 < grid0.N := by show (i 0).val / 1024 < 16; omega
    have i0 : win0_7.index ⟨(i 0).val / 1024, hN⟩ 0 = (i 0).val / 1024 := by rw [idx7]; rfl
    have i1 : win0_7.index ⟨(i 0).val / 1024, hN⟩ 1 = 0 := by rw [idx7]; rfl
    refine ⟨⟨(i 0).val / 1024, hN⟩, flush7 _, ?_⟩
    rw [mem_blk7]
    intro a
    match a with
    | ⟨0, _⟩ => show win0_7.index ⟨(i 0).val / 1024, hN⟩ (0 : Fin 2) * 1024 ≤ (i 0).val ∧ (i 0).val < win0_7.index ⟨(i 0).val / 1024, hN⟩ (0 : Fin 2) * 1024 + 1024; omega
    | ⟨1, _⟩ => show win0_7.index ⟨(i 0).val / 1024, hN⟩ (1 : Fin 2) * 1024 ≤ (i 1).val ∧ (i 1).val < win0_7.index ⟨(i 0).val / 1024, hN⟩ (1 : Fin 2) * 1024 + 1024; omega)

end Cert.Kernel3Ideal.Value

end
-- ==== Proof.Out.Ref.lean ====
/- The reference's output projection, entry by entry: the closed forms `Cert.Out.ox1` and `Cert.Out.oh2` of its arguments. -/
module

public import proofs.«01_k».proof.Proof.Out.Spec
public import proofs.«01_k».proof.Proof.Gen.Reference3Ideal.Run
public import Idealize.ShloMosaic.Lib.Claim
public import Idealize.ShloMosaic.Lib.KernelVsHost
public import Idealize.ShloMosaic.Lib.ValueIdxRank6
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem

namespace Cert.Reference3Ideal.Value
open Cert.Reference3Ideal Cert.Reference3Ideal.Gen Cert.Out

/-- The norm's factor of each row. -/
def Rrs (y : FVec Ideal S8x2048x1024 .f32) : FVec Ideal S8x2048x1 .f32 :=
  Host.rsqrt (addf (Host.divf (broadcastInDim S8x2048x1 ![0, 1] bcast_S8x2048_S8x2048x1_0_1 (Host.reduceAdd (mulf y y) (constant S_ .f32 0x00000000#32) reducesTo_S8x2048x1024_S8x2048_d2 h_S_))
      (broadcastInDim S8x2048x1 ![] bcast_S_S8x2048x1 (constant S_ .f32 0x44800000#32))) (broadcastInDim S8x2048x1 ![] bcast_S_S8x2048x1 (constant S_ .f32 0x358637BD#32)))
/-- The norm. -/
def Rnorm (y : FVec Ideal S8x2048x1024 .f32) (g : FVec Ideal S1024 .f32) : FVec Ideal S8x2048x1024 .f32 :=
  mulf (mulf y (broadcastInDim S8x2048x1024 ![0, 1, 2] bcast_S8x2048x1_S8x2048x1024_0_1_2 (Rrs y)))
    (broadcastInDim S8x2048x1024 ![0, 1, 2] bcast_S1x1x1024_S8x2048x1024_0_1_2 (broadcastInDim S1x1x1024 ![2] bcast_S1024_S1x1x1024_2 g))
/-- Rows split into sequences. -/
def Rrows (y : FVec Ideal S16384x1024 .bf16) : FVec Ideal S8x2048x1024 .f32 :=
  shapeCast _ (extf .f32 y bitsLt_bf16_f32) shapeCasts_S16384x1024_S8x2048x1024
/-- Both branches side by side. -/
def Rcat (y o : FVec Ideal S8x2048x1024 .f32) : FVec Ideal S8x2048x2048 .f32 :=
  concatenate S8x2048x2048 2 [⟨S8x2048x1024, y⟩, ⟨S8x2048x1024, o⟩] concatenates_S8x2048x1024_S8x2048x1024_S8x2048x2048_d2
/-- The residual stream with the projection added. -/
def Rx1 (x : FVec Ideal S8x2048x1024 .f32) (v : FVec Ideal S8x2048x2048 .f32) (w : FVec Ideal S2048x1024 .f32) : FVec Ideal S8x2048x1024 .f32 :=
  addf x (Host.dotGeneral dot_S8x2048x2048_S2048x1024_S8x2048x1024_2_0_01_1_n_n none v w)

section at_
variable (A : OArgs)

/-- The norm at an entry. -/
theorem Rnorm_at (f : ℕ → ℕ → EReal) (h : ℕ → EReal) (y : FVec Ideal S8x2048x1024 .f32) (g : FVec Ideal S1024 .f32)
    (hy : ∀ (b : Fin 8) (s : Fin 2048) (q : Fin 1024), y (ix3 b s q) = f (2048 * b + s) q) (hg : ∀ q : Fin 1024, g (ix1 q) = h q)
    (b : Fin 8) (s : Fin 2048) (q : Fin 1024) : Rnorm y g (ix3 b s q) = f (2048 * b + s) q * rowScale f (2048 * b + s) * h q := by
  pointwise [Rnorm, Rrs]
  simp only [hy, hg]
  rfl
/-- A row of an argument. -/
theorem Rrows_at (f : ℕ → ℕ → EReal) (y : FVec Ideal S16384x1024 .bf16) (hy : ∀ (r : Fin 16384) (q : Fin 1024), y (ix2 r q) = f r q)
    (b : Fin 8) (s : Fin 2048) (q : Fin 1024) : Rrows y (ix3 b s q) = f (2048 * b + s) q := by
  pointwise [Rrows]
  simp only [hy, Nat.mul_comm b.val 2048]
/-- The branches side by side at an entry. -/
theorem Rcat_at (y o : FVec Ideal S8x2048x1024 .f32) (hy : ∀ (b : Fin 8) (s : Fin 2048) (q : Fin 1024), y (ix3 b s q) = A.y (2048 * b + s) q)
    (ho : ∀ (b : Fin 8) (s : Fin 2048) (q : Fin 1024), o (ix3 b s q) = on A (2048 * b + s) q) (b : Fin 8) (s : Fin 2048) (q : Fin 2048) :
    Rcat y o (ix3 b s q) = ocat A (2048 * b + s) q := by
  pointwise [Rcat]
  by_cases c : q.val < 1024
  · exact (dif_pos c).trans ((hy b s ⟨q.val, c⟩).trans (if_pos c).symm)
  · exact (dif_neg c).trans ((ho b s ⟨q.val - 1024, by omega⟩).trans (if_neg c).symm)
/-- The sum at an entry. -/
theorem Rx1_at (x : FVec Ideal S8x2048x1024 .f32) (v : FVec Ideal S8x2048x2048 .f32) (w : FVec Ideal S2048x1024 .f32)
    (hx : ∀ (b : Fin 8) (s : Fin 2048) (q : Fin 1024), x (ix3 b s q) = A.x (2048 * b + s) q)
    (hv : ∀ (b : Fin 8) (s : Fin 2048) (k : Fin 2048), v (ix3 b s k) = ocat A (2048 * b + s) k)
    (hw : ∀ (k : Fin 2048) (q : Fin 1024), w (ix2 k q) = A.w k q) (b : Fin 8) (s : Fin 2048) (q : Fin 1024) :
    Rx1 x v w (ix3 b s q) = ox1 A (2048 * b + s) q := by
  refine Eq.trans ?_ (ocat_sum A _ _)
  pointwise [Rx1]
  simp only [hx, hv, hw]
/-- Sequences joined into rows, at an entry. -/
theorem flat_at (f : ℕ → ℕ → EReal) (y : FVec Ideal S8x2048x1024 .f32) (hy : ∀ (b : Fin 8) (s : Fin 2048) (q : Fin 1024), y (ix3 b s q) = f (2048 * b + s) q)
    (r : Fin 16384) (q : Fin 1024) : (shapeCast S16384x1024 y shapeCasts_S8x2048x1024_S16384x1024 : FVec Ideal S16384x1024 .f32) (ix2 r q) = f r q := by
  pointwise
  simp only [hy]
  have e : 2048 * (r.val / 2048) + r.val % 2048 = r.val := by omega
  rw [e]
/-- The same after the last cast. -/
theorem flat16_at (f : ℕ → ℕ → EReal) (y : FVec Ideal S8x2048x1024 .f32) (hy : ∀ (b : Fin 8) (s : Fin 2048) (q : Fin 1024), y (ix3 b s q) = f (2048 * b + s) q)
    (r : Fin 16384) (q : Fin 1024) :
    (truncf .bf16 (shapeCast S16384x1024 y shapeCasts_S8x2048x1024_S16384x1024) bitsLt_bf16_f32 : FVec Ideal S16384x1024 .bf16) (ix2 r q) = f r q :=
  flat_at f y hy r q
end at_

/-- The arguments as functions. -/
def args (m : (ℓ : Loc nD τ sig) → Buf (Elt Ideal) ℓ) (c : Dev nD) : OArgs :=
  oargsOf (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5))

/-- The sum, as those stages. -/
def X1 (m : (ℓ : Loc nD τ sig) → Buf (Elt Ideal) ℓ) (c : Dev nD) : FVec Ideal S8x2048x1024 .f32 :=
  Rx1 (m ((c.tc : Thread nD τ).loc main_arg2)) (Rcat (Rrows (m ((c.tc : Thread nD τ).loc main_arg0))) (Rnorm (Rrows (m ((c.tc : Thread nD τ).loc main_arg1))) (m ((c.tc : Thread nD τ).loc main_arg4))))
    (m ((c.tc : Thread nD τ).loc main_arg3))

/-- The sum at an entry. -/
theorem X1_at (m : (ℓ : Loc nD τ sig) → Buf (Elt Ideal) ℓ) (c : Dev nD) (b : Fin 8) (s : Fin 2048) (q : Fin 1024) :
    X1 m c (ix3 b s q) = ox1 (args m c) (2048 * b + s) q :=
  Rx1_at (args m c) _ _ _ (fun b s q => Cert.Ssd.ext3_eq _ b s q (by omega) (by omega) rfl)
    (Rcat_at (args m c) _ _ (Rrows_at _ _ fun r k => Cert.Ssd.ext2_eq _ r k rfl rfl)
      (Rnorm_at _ _ _ _ (Rrows_at _ _ fun r k => Cert.Ssd.ext2_eq _ r k rfl rfl) (fun q => Cert.Ssd.ext1_eq _ q rfl)))
    (fun k q => Cert.Ssd.ext2_eq _ k q rfl rfl) b s q

/-- The reference's first result is the sum. -/
def res0 (m : (ℓ : Loc nD τ sig) → Buf (Elt Ideal) ℓ) (c : Dev nD) : FVec Ideal S16384x1024 .f32 :=
  shapeCast S16384x1024 (X1 m c) shapeCasts_S8x2048x1024_S16384x1024

/-- The reference's second result is the sum's norm. -/
theorem res1_stages (m : (ℓ : Loc nD τ sig) → Buf (Elt Ideal) ℓ) (c : Dev nD) :
    res_main_v35 m c = truncf .bf16 (shapeCast S16384x1024 (Rnorm (X1 m c) (m ((c.tc : Thread nD τ).loc main_arg5))) shapeCasts_S8x2048x1024_S16384x1024) bitsLt_bf16_f32 := rfl

/-- The first result at an entry. -/
theorem res0_at (m : (ℓ : Loc nD τ sig) → Buf (Elt Ideal) ℓ) (c : Dev nD) (r : Fin 16384) (q : Fin 1024) :
    (res0 m c (ix2 r q) : EReal) = ox1 (args m c) r q := flat_at _ _ (X1_at m c) r q

/-- The second result at an entry. -/
theorem res1_at (m : (ℓ : Loc nD τ sig) → Buf (Elt Ideal) ℓ) (c : Dev nD) (r : Fin 16384) (q : Fin 1024) :
    (res_main_v35 m c (ix2 r q) : EReal) = oh2 (args m c) r q := by
  rw [res1_stages]
  exact flat16_at (oh2 (args m c)) _ (Rnorm_at _ _ _ _ (X1_at m c) (fun q => Cert.Ssd.ext1_eq _ q rfl)) r q

end Cert.Reference3Ideal.Value

end
-- ==== Proof.Ffn.Spec.lean ====
/- The closed form of the feed-forward call: each result row from the rows of the arguments, over the extended reals. -/
module

public import proofs.«01_k».proof.Proof.Ssd.Ext

@[expose] public section

noncomputable section

open Idealize.ShloMosaic

namespace Cert.Ffn
open Cert.Ssd (Real' ext1 ext2 silu)

/-- The seven arguments, as functions of natural numbers. -/
structure FArgs where
  h : ℕ → ℕ → EReal
  x1 : ℕ → ℕ → EReal
  wu : ℕ → ℕ → EReal
  cw : ℕ → ℕ → EReal
  cb : ℕ → EReal
  wd : ℕ → ℕ → EReal
  g : ℕ → EReal

/-- The arguments the precondition tests are real. -/
structure FArgs.Finite (A : FArgs) : Prop where
  h : ∀ r k, Real' (A.h r k)
  wu : ∀ k n, Real' (A.wu k n)
  cw : ∀ d n, Real' (A.cw d n)
  cb : ∀ n, Real' (A.cb n)

/-- The seven argument arrays, as functions. -/
def fargsOf (h x1 : (⟨2, ![16384, 1024]⟩ : Shape).Idx → EReal) (wu : (⟨2, ![1024, 5632]⟩ : Shape).Idx → EReal)
    (cw : (⟨2, ![3, 5632]⟩ : Shape).Idx → EReal) (cb : (⟨1, ![5632]⟩ : Shape).Idx → EReal)
    (wd : (⟨2, ![2816, 1024]⟩ : Shape).Idx → EReal) (g : (⟨1, ![1024]⟩ : Shape).Idx → EReal) : FArgs :=
  ⟨ext2 h, ext2 x1, ext2 wu, ext2 cw, ext1 cb, ext2 wd, ext1 g⟩

variable (A : FArgs)

/-- The up-projection of row `r`. -/
def fu (r n : ℕ) : EReal := ∑ k : Fin 1024, A.h r k * A.wu k n
/-- The up-projection `d` rows earlier in the same sequence, zero before its start. -/
def fup (r d n : ℕ) : EReal := if d ≤ r % 2048 then fu A (r - d) n else 0
/-- The causal convolution of three taps. -/
def fconv (r n : ℕ) : EReal := A.cb n + A.cw 2 n * fu A r n + A.cw 0 n * fup A r 2 n + A.cw 1 n * fup A r 1 n
/-- The gated activation. -/
def fact (r j : ℕ) : EReal := silu (fconv A r j) * fconv A r (2816 + j)
/-- The residual stream with the down-projection added. -/
def fy (r q : ℕ) : EReal := A.x1 r q + ∑ j : Fin 2816, fact A r j * A.wd j q
/-- The norm's factor of a row. -/
def frs (r : ℕ) : EReal :=
  Ideal.rsqrt (Ideal.div (∑ p : Fin 1024, fy A r p * fy A r p) (Ideal.ofBits .f32 0x44800000#32) + Ideal.ofBits .f32 0x358637BD#32)
/-- The result. -/
def fout (r q : ℕ) : EReal := fy A r q * frs A r * A.g q

variable {A}

/-- The convolution of real arguments is real. -/
theorem FArgs.Finite.conv (hA : A.Finite) (r n : ℕ) : Real' (fconv A r n) := by
  have hu : ∀ s : ℕ, Real' (fu A s n) := fun s => Real'.sum _ _ fun k => (hA.h s k).mul (hA.wu k n)
  have hp : ∀ d : ℕ, Real' (fup A r d n) := fun d => Real'.ite (hu _) Real'.zero
  exact (((hA.cb n).add ((hA.cw 2 n).mul (hu r))).add ((hA.cw 0 n).mul (hp 2))).add ((hA.cw 1 n).mul (hp 1))

variable (A)

/-- The rows one grid point of the kernel projects: 16 earlier rows, zeros at the start of a sequence, and its 512 rows. -/
def hcv (t i k : ℕ) : EReal := if i < 16 ∧ t % 4 = 0 then 0 else A.h (512 * t + i - 16) k

/-- Those rows' up-projection, `d` rows back. -/
theorem hcv_sum (t l d n i : ℕ) (hl : l < 512) (hd : d ≤ 2) (hi : i = 16 + l - d) :
    (∑ k : Fin 1024, hcv A t i k * A.wu k n) = fup A (512 * t + l) d n := by
  subst hi
  unfold fup fu
  by_cases c : d ≤ (512 * t + l) % 2048
  · rw [if_pos c]
    refine Finset.sum_congr rfl fun k _ => ?_
    rw [hcv, if_neg (by omega)]
    have e : 512 * t + (16 + l - d) - 16 = 512 * t + l - d := by omega
    rw [e]
  · rw [if_neg c]
    refine Finset.sum_eq_zero fun k _ => ?_
    rw [hcv, if_pos (by omega), zero_mul]

/-- No rows back is the row itself. -/
theorem fup_zero (r n : ℕ) : fup A r 0 n = fu A r n := by
  rw [fup, if_pos (Nat.zero_le _), Nat.sub_zero]

end Cert.Ffn

end
-- ==== Proof.Ffn.Pre.lean ====
/- The precondition of the feed-forward call's statements, read: every entry it tests is a real number. -/
module

public import proofs.«01_k».proof.Defs
public import proofs.«01_k».proof.Proof.Ffn.Spec

@[expose] public section

noncomputable section

open Idealize.ShloMosaic

namespace Cert.Pre_ffn_inputs_finite
open Cert.Ffn
open Cert.Ssd (Real' real_ext1 real_ext2)

/-- The side conditions of the precondition. -/
theorem facts : Facts where
  bitsLt_bf16_f32 := by decide
  bcast_S_S16384x1024 := by decide
  bcast_S_S1024x5632 := by decide
  bcast_S_S3x5632 := by decide
  bcast_S_S5632 := by decide

/-- The pattern the absolute values are compared with is infinity. -/
theorem inf_eq : Ideal.ofBits .f32 0x7F800000#32 = (⊤ : EReal) := by
  simp [Ideal.ofBits, Ideal.ieee]

/-- An array whose absolute values all test below infinity has real entries. -/
theorem real_of_test {S : Shape} (hb : S_.BroadcastsInDim S (![] : Fin 0 → Fin S.rank)) (X : FVec Ideal S .f32)
    (h : cmpf .olt (Host.absf X) (broadcastInDim S ![] hb (constant S_ .f32 0x7F800000#32)) = fun _ => 1#1) (i : S.Idx) : Real' (X i) := by
  have e : Ideal.cmp .olt (max (X i : EReal) (-(X i : EReal))) (Ideal.ofBits .f32 0x7F800000#32) = 1#1 := congrFun h i
  rw [inf_eq] at e
  refine Real'.of_abs_lt ?_
  by_contra hn
  simp [Ideal.cmp, hn] at e

/-- The tested arguments of the closed form are real. -/
theorem finite_of [Facts] (h : FVec Ideal S16384x1024 .bf16) (x1 : FVec Ideal S16384x1024 .f32) (wu : FVec Ideal S1024x5632 .f32)
    (cw : FVec Ideal S3x5632 .f32) (cb : FVec Ideal S5632 .f32) (wd : FVec Ideal S2816x1024 .f32) (g : FVec Ideal S1024 .f32)
    (hp : (fn (F := Ideal) h x1 wu cw cb wd g).1 = (fun _ => 1#1)
      ∧ (fn (F := Ideal) h x1 wu cw cb wd g).2.1 = (fun _ => 1#1)
      ∧ (fn (F := Ideal) h x1 wu cw cb wd g).2.2.1 = (fun _ => 1#1)
      ∧ (fn (F := Ideal) h x1 wu cw cb wd g).2.2.2 = (fun _ => 1#1)) :
    (fargsOf h x1 wu cw cb wd g).Finite := by
  obtain ⟨h0, h1, h2, h3⟩ := hp
  exact ⟨real_ext2 (real_of_test _ (extf .f32 h Facts.bitsLt_bf16_f32) h0), real_ext2 (real_of_test _ wu h1), real_ext2 (real_of_test _ cw h2),
    real_ext1 (real_of_test _ cb h3)⟩

end Cert.Pre_ffn_inputs_finite

end
-- ==== Proof.Ffn.Body.lean ====
/- The eleven column blocks of the kernel's activation: one shape, read entry by entry. -/
module

public import proofs.«01_k».proof.Proof.Ffn.Spec
public import proofs.«01_k».proof.Proof.Gen.Kernel2Ideal.Frame
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Kernel2Ideal.Value
open Cert.Kernel2Ideal Cert.Kernel2Ideal.Gen Cert.Ffn
open Cert.Ssd (silu)

/-- One block of the up-projection, for 16 earlier rows and the tile's rows. -/
def Uw (h : FVec Ideal S528x1024 .bf16) (w : FVec Ideal S1024x256 .bf16) : FVec Ideal S528x256 .f32 :=
  matmul dot_S528x1024_S1024x256_S528x256_1_0_0_1_n_n none h (shapeCast S1024x256 w shapeCasts_S1024x256_S1024x256) (constant S528x256 .f32 0x00000000#32)
/-- Its convolution. -/
def Br (h : FVec Ideal S528x1024 .bf16) (w : FVec Ideal S1024x256 .bf16) (cb c2 c0 c1 : FVec Ideal S1x256 .f32) : FVec Ideal S512x256 .f32 :=
  addf (addf (addf (broadcastTo S512x256 (shapeCast S1x256 cb shapeCasts_S1x256_S1x256) broadcasts_S1x256_S512x256)
      (mulf (broadcastTo S512x256 c2 broadcasts_S1x256_S512x256) (extractStridedSlice S512x256 ![16, 0] (Uw h w) slices_S528x256_o16_0_S512x256)))
      (mulf (broadcastTo S512x256 c0 broadcasts_S1x256_S512x256) (extractStridedSlice S512x256 ![16, 0] (dynamicRotate 0 2#32 none (Uw h w) rotates_S528x256_d0) slices_S528x256_o16_0_S512x256)))
    (mulf (broadcastTo S512x256 c1 broadcasts_S1x256_S512x256) (extractStridedSlice S512x256 ![16, 0] (dynamicRotate 0 1#32 none (Uw h w) rotates_S528x256_d0) slices_S528x256_o16_0_S512x256))
/-- Half of a block. -/
def Hf (b : FVec Ideal S512x256 .f32) : FVec Ideal S512x256 .f32 := mulf (broadcast S512x256 (Scalar.ofBits .f32 0x3F000000#32)) b
/-- The gate of one block times another. -/
def Gt (b b' : FVec Ideal S512x256 .f32) : FVec Ideal S512x256 .bf16 :=
  shapeCast S512x256 (truncf .bf16 (mulf (addf (Hf b) (mulf (Hf b) (tanh (Hf b)))) b') bitsLt_bf16_f32) shapeCasts_S512x256_S512x256
/-- One block of the activation. -/
def Act (h : FVec Ideal S528x1024 .bf16) (w : FVec Ideal S1024x256 .bf16) (cb c2 c0 c1 : FVec Ideal S1x256 .f32)
    (w' : FVec Ideal S1024x256 .bf16) (cb' c2' c0' c1' : FVec Ideal S1x256 .f32) : FVec Ideal S512x256 .bf16 :=
  Gt (Br h w cb c2 c0 c1) (Br h w' cb' c2' c0' c1')

section blocks
variable (i : grid0.Coords) (v0 : FVec Ideal S16x1024 .bf16) (v14 : FVec Ideal S512x1024 .bf16) (h : FVec Ideal S528x1024 .bf16)
  (w w' : FVec Ideal S1024x256 .bf16) (cb c2 c0 c1 cb' c2' c0' c1' : FVec Ideal S1x256 .f32)
/-- Block 0. -/
theorem blk0 : k0_pay6 (k0_pay2 i v0 v14) (k0_pay4 i v0 v14 w cb c2 c0) (k0_pay5 i v0 v14 w) c1 w' cb' c2' c0' c1' = Act (k0_pay2 i v0 v14) w cb c2 c0 c1 w' cb' c2' c0' c1' := rfl
/-- Block 1. -/
theorem blk1 : k0_pay12 (k0_pay8 h (k0_pay7 w) (constant S528x256 .f32 0x00000000#32) cb c2 c0 c1) (k0_pay9 h w') (k0_pay10 h w' cb' c2') (k0_pay11 h w') c0' c1' = Act h w cb c2 c0 c1 w' cb' c2' c0' c1' := rfl
/-- Block 2. -/
theorem blk2 : k0_pay14 h (k0_pay13 h w cb c2 c0 c1) w' cb' c2' c0' c1' = Act h w cb c2 c0 c1 w' cb' c2' c0' c1' := rfl
/-- Block 3. -/
theorem blk3 : k0_pay21 (k0_pay17 (k0_pay15 h w) (k0_pay16 cb) c2 c0 c1) (k0_pay19 h w' cb' c2' c0') (k0_pay20 h w') c1' = Act h w cb c2 c0 c1 w' cb' c2' c0' c1' := rfl
/-- Block 4. -/
theorem blk4 : k0_pay24 h (k0_pay22 h w cb c2 c0 c1) (k0_pay23 w') (constant S528x256 .f32 0x00000000#32) cb' c2' c0' c1' = Act h w cb c2 c0 c1 w' cb' c2' c0' c1' := rfl
/-- Block 5. -/
theorem blk5 : k0_pay29 (k0_pay28 h (k0_pay25 h w) (k0_pay26 h w cb c2) (k0_pay27 h w) c0 c1 w' cb' c2' c0' c1') = Act h w cb c2 c0 c1 w' cb' c2' c0' c1' := rfl
/-- Block 6. -/
theorem blk6 : k0_pay33 (k0_pay30 h w cb c2 c0 c1) (k0_pay31 h w') (k0_pay32 cb') c2' c0' c1' = Act h w cb c2 c0 c1 w' cb' c2' c0' c1' := rfl
/-- Block 7. -/
theorem blk7 : k0_pay37 h (k0_pay35 h w cb c2 c0) (k0_pay36 h w) c1 w' cb' c2' c0' c1' = Act h w cb c2 c0 c1 w' cb' c2' c0' c1' := rfl
/-- Block 8. -/
theorem blk8 : k0_pay42 (k0_pay38 h w cb c2 c0 c1) (k0_pay39 h w') (k0_pay40 h w' cb' c2') (k0_pay41 h w') c0' c1' = Act h w cb c2 c0 c1 w' cb' c2' c0' c1' := rfl
/-- Block 9. -/
theorem blk9 : k0_pay44 h (k0_pay43 h w cb c2 c0 c1) (FloatOps.ofBits .f32 0x3F000000#32 : Ideal .f32) w' cb' c2' c0' c1' = Act h w cb c2 c0 c1 w' cb' c2' c0' c1' := rfl
/-- Block 10. -/
theorem blk10 : k0_pay51 (k0_pay47 (k0_pay45 h w) (k0_pay46 cb) c2 c0 c1) (k0_pay49 h w' cb' c2' c0') (k0_pay50 h w') c1' = Act h w cb c2 c0 c1 w' cb' c2' c0' c1' := rfl
end blocks

section at_
variable (A : FArgs) (t : ℕ) (h : FVec Ideal S528x1024 .bf16) (hh : ∀ (i : Fin 528) (k : Fin 1024), h (ix2 i k) = hcv A t i k)
include hh

/-- The convolution of one block, at one entry. -/
theorem Br_at (o : ℕ) (w : FVec Ideal S1024x256 .bf16) (cb c2 c0 c1 : FVec Ideal S1x256 .f32)
    (hw : ∀ (k : Fin 1024) (p : Fin 256), w (ix2 k p) = A.wu k (o + p)) (hcb : ∀ p : Fin 256, cb (ix2 0 p) = A.cb (o + p))
    (h2 : ∀ p : Fin 256, c2 (ix2 0 p) = A.cw 2 (o + p)) (h0 : ∀ p : Fin 256, c0 (ix2 0 p) = A.cw 0 (o + p))
    (h1 : ∀ p : Fin 256, c1 (ix2 0 p) = A.cw 1 (o + p)) (l : Fin 512) (p : Fin 256) :
    Br h w cb c2 c0 c1 (ix2 l p) = fconv A (512 * t + l) (o + p) := by
  pointwise [Br, Uw]
  simp only [hh, hw, hcb, h0, h1, h2]
  rw [hcv_sum A t l 0 (o + p) _ l.isLt (by omega) (by omega), hcv_sum A t l 2 (o + p) _ l.isLt (by omega) (by omega),
    hcv_sum A t l 1 (o + p) _ l.isLt (by omega) (by omega), fup_zero]
  rfl
/-- The gate, at one entry. -/
theorem Gt_at (b b' : FVec Ideal S512x256 .f32) (f f' : Fin 512 → Fin 256 → EReal) (hb : ∀ (l : Fin 512) (p : Fin 256), b (ix2 l p) = f l p)
    (hb' : ∀ (l : Fin 512) (p : Fin 256), b' (ix2 l p) = f' l p) (l : Fin 512) (p : Fin 256) :
    Gt b b' (ix2 l p) = silu (f l p) * f' l p := by
  pointwise [Gt, Hf]
  simp only [hb, hb']
  rfl
/-- One block of the activation, at one entry. -/
theorem Act_at (o : ℕ) (w w' : FVec Ideal S1024x256 .bf16) (cb c2 c0 c1 cb' c2' c0' c1' : FVec Ideal S1x256 .f32)
    (hw : ∀ (k : Fin 1024) (p : Fin 256), w (ix2 k p) = A.wu k (o + p)) (hcb : ∀ p : Fin 256, cb (ix2 0 p) = A.cb (o + p))
    (h2 : ∀ p : Fin 256, c2 (ix2 0 p) = A.cw 2 (o + p)) (h0 : ∀ p : Fin 256, c0 (ix2 0 p) = A.cw 0 (o + p))
    (h1 : ∀ p : Fin 256, c1 (ix2 0 p) = A.cw 1 (o + p))
    (hw' : ∀ (k : Fin 1024) (p : Fin 256), w' (ix2 k p) = A.wu k (2816 + o + p)) (hcb' : ∀ p : Fin 256, cb' (ix2 0 p) = A.cb (2816 + o + p))
    (h2' : ∀ p : Fin 256, c2' (ix2 0 p) = A.cw 2 (2816 + o + p)) (h0' : ∀ p : Fin 256, c0' (ix2 0 p) = A.cw 0 (2816 + o + p))
    (h1' : ∀ p : Fin 256, c1' (ix2 0 p) = A.cw 1 (2816 + o + p)) (l : Fin 512) (p : Fin 256) :
    Act h w cb c2 c0 c1 w' cb' c2' c0' c1' (ix2 l p) = fact A (512 * t + l) (o + p) := by
  refine (Gt_at A t h hh _ _ _ _ (Br_at A t h hh o w cb c2 c0 c1 hw hcb h2 h0 h1) (Br_at A t h hh (2816 + o) w' cb' c2' c0' c1' hw' hcb' h2' h0' h1') l p).trans ?_
  rw [fact, Nat.add_assoc]
end at_

/-- Whether a grid point starts a sequence, as the kernel computes it. -/
def topWord (a : BitVec 32) : BitVec 1 :=
  let v2 : BitVec 32 := Scalar.select (Scalar.cmpi .eq 4#32 0#32) 1#32 4#32
  let v3 : BitVec 32 := Scalar.remsi a v2
  Scalar.cmpi .eq (Scalar.select (Scalar.andi (Scalar.xori (Scalar.cmpi .slt v3 0#32) (Scalar.cmpi .slt v2 0#32)) (Scalar.cmpi .ne v3 0#32)) (Scalar.addi v3 v2) v3) 0#32
/-- It is one exactly at every fourth grid point. -/
theorem topWord_eq : ∀ n : Fin 32, topWord (BitVec.ofNat 32 n.val) = if n.val % 4 = 0 then 1#1 else 0#1 := by decide

/-- The rows before the tile and the tile. -/
def Hc (a : FVec Ideal S16x1024 .bf16) (b : FVec Ideal S512x1024 .bf16) : FVec Ideal S528x1024 .bf16 :=
  concatenate S528x1024 0 [⟨S16x1024, a⟩, ⟨S512x1024, b⟩] concatenates_S16x1024_S512x1024_S528x1024_d0
/-- The kernel's joined rows: zeros or the earlier rows, then the tile. -/
theorem pay2_eq (i : grid0.Coords) (v0 : FVec Ideal S16x1024 .bf16) (v14 : FVec Ideal S512x1024 .bf16) :
    k0_pay2 (F := Ideal) i v0 v14
      = Hc (Scalar.select (topWord (BitVec.ofNat 32 (i 0).val)) (broadcast S16x1024 (Scalar.ofBits .bf16 0x0000#16)) v0) v14 := rfl

/-- Those rows are the arguments' rows, or zeros before a sequence's start. -/
theorem hc_at (A : FArgs) (i : grid0.Coords) (t : ℕ) (ht : (i 0).val = t) (v0 : FVec Ideal S16x1024 .bf16) (v14 : FVec Ideal S512x1024 .bf16)
    (h0 : t % 4 ≠ 0 → ∀ (r : Fin 16) (k : Fin 1024), v0 (ix2 r k) = A.h (512 * t + r - 16) k)
    (h14 : ∀ (r : Fin 512) (k : Fin 1024), v14 (ix2 r k) = A.h (512 * t + r) k) (r : Fin 528) (k : Fin 1024) :
    k0_pay2 (F := Ideal) i v0 v14 (ix2 r k) = hcv A t r k := by
  rw [pay2_eq, topWord_eq (i 0), ht, hcv]
  by_cases c : t % 4 = 0
  · rw [if_pos c]
    have e : (Scalar.select 1#1 (broadcast S16x1024 (Scalar.ofBits .bf16 0x0000#16) : FVec Ideal S16x1024 .bf16) v0) = broadcast S16x1024 (Scalar.ofBits .bf16 0x0000#16) := rfl
    rw [e]
    pointwise [Hc]
    by_cases c2 : r.val < 16
    · exact (dif_pos c2).trans (if_pos ⟨c2, c⟩).symm
    · refine (dif_neg c2).trans ((h14 ⟨r.val - 16, by omega⟩ k).trans (Eq.trans ?_ (if_neg (fun x => c2 x.1)).symm))
      exact congrArg (fun n => A.h n k) (show 512 * t + (r.val - 16) = 512 * t + r.val - 16 by omega)
  · rw [if_neg c]
    have e : (Scalar.select 0#1 (broadcast S16x1024 (Scalar.ofBits .bf16 0x0000#16) : FVec Ideal S16x1024 .bf16) v0) = v0 := rfl
    rw [e]
    pointwise [Hc]
    by_cases c2 : r.val < 16
    · exact (dif_pos c2).trans ((h0 c ⟨r.val, c2⟩ k).trans (if_neg (fun x => c x.2)).symm)
    · refine (dif_neg c2).trans ((h14 ⟨r.val - 16, by omega⟩ k).trans (Eq.trans ?_ (if_neg (fun x => c2 x.1)).symm))
      exact congrArg (fun n => A.h n k) (show 512 * t + (r.val - 16) = 512 * t + r.val - 16 by omega)

end Cert.Kernel2Ideal.Value

end
-- ==== Proof.Ffn.Point.lean ====
/- What the windows of the feed-forward call hold at one grid point, and what its body leaves there. -/
module

public import proofs.«01_k».proof.Proof.Ffn.Body
public import proofs.«01_k».proof.Proof.Ssd.Cols

@[expose] public section

set_option maxRecDepth 16384

noncomputable section

open Idealize.ShloMosaic Idealize.ShloMosaic.TcCoe Idealize.SL.Sem

namespace Cert.Kernel2Ideal.Value
open Cert.Kernel2Ideal Cert.Kernel2Ideal.Gen Cert.Ffn
open Cert.Ssd (Plane read_at emb_at canon_out canon_of)

/-- The input windows of grid point `t`. -/
structure PtIn (A : FArgs) (t : ℕ) (x0 : FVec Ideal S512x1024 .bf16) (x1 : FVec Ideal S16x1024 .bf16) (x2 : FVec Ideal S512x1024 .f32)
    (x3 : FVec Ideal S1024x5632 .bf16) (x4 : FVec Ideal S3x5632 .f32) (x5 : FVec Ideal S1x5632 .f32) (x6 : FVec Ideal S2816x1024 .bf16)
    (x7 : FVec Ideal S1x1024 .f32) : Prop where
  x0 : ∀ (l : Fin 512) (k : Fin 1024), x0 (ix2 l k) = A.h (512 * t + l) k
  x1 : t % 4 ≠ 0 → ∀ (r : Fin 16) (k : Fin 1024), x1 (ix2 r k) = A.h (512 * t + r - 16) k
  x2 : ∀ (l : Fin 512) (q : Fin 1024), x2 (ix2 l q) = A.x1 (512 * t + l) q
  x3 : ∀ (k : Fin 1024) (n : Fin 5632), x3 (ix2 k n) = A.wu k n
  x4 : ∀ (d : Fin 3) (n : Fin 5632), x4 (ix2 d n) = A.cw d n
  x5 : ∀ (r : Fin 1) (n : Fin 5632), x5 (ix2 r n) = A.cb n
  x6 : ∀ (j : Fin 2816) (q : Fin 1024), x6 (ix2 j q) = A.wd j q
  x7 : ∀ (r : Fin 1) (q : Fin 1024), x7 (ix2 r q) = A.g q

/-- The activation's buffer holds the activation in the columns below `hi`. -/
def Acts (A : FArgs) (t : ℕ) (L : List (View.Piece (Elt Ideal) (Plane 512 2816) .bf16)) (hi : ℕ) : Prop :=
  ∀ (l : Fin 512) (q : Fin 2816), q.val < hi → (View.canon L (ix2 l q) : EReal) = fact A (512 * t + l) q

/-- Nothing is claimed of no columns. -/
theorem Acts.zero (A : FArgs) (t : ℕ) (L : List (View.Piece (Elt Ideal) (Plane 512 2816) .bf16)) : Acts A t L 0 :=
  fun l q h => absurd h (Nat.not_lt_zero _)

/-- One more block of 256 columns. -/
theorem Acts.step {A : FArgs} {t : ℕ} {L : List (View.Piece (Elt Ideal) (Plane 512 2816) .bf16)} {hi : ℕ} (h : Acts A t L hi) (o : ℕ) (ho : hi = o)
    (inb : ∀ i, (![0, o] : Fin 2 → ℕ) i + (![512, 256] : Fin 2 → ℕ) i ≤ (Plane 512 2816).size i)
    (P : (Rect.unit (s := Plane 512 2816) ![0, o] ![512, 256] inb).shape.Idx → Elt Ideal .bf16)
    (hP : ∀ (l : Fin 512) (p : Fin 256), (P (ix2 l p) : EReal) = fact A (512 * t + l) (o + p.val)) :
    Acts A t (⟨Rect.unit (s := Plane 512 2816) ![0, o] ![512, 256] inb, P⟩ :: L) (o + 256) := by
  subst ho
  intro l q hq
  by_cases c : q.val < hi
  · rw [canon_out inb P L l q (by omega)]
    exact h l q c
  · refine (canon_of inb P L l q (Nat.zero_le _) (by omega) (by omega) (by omega)).trans ((hP _ _).trans ?_)
    exact congr (congrArg (fact A) (show 512 * t + (l.val - 0) = 512 * t + l.val by omega)) (show hi + (q.val - hi) = q.val by omega)

namespace PtIn
variable {A : FArgs} {t : ℕ} {x0 : FVec Ideal S512x1024 .bf16} {x1 : FVec Ideal S16x1024 .bf16} {x2 : FVec Ideal S512x1024 .f32}
    {x3 : FVec Ideal S1024x5632 .bf16} {x4 : FVec Ideal S3x5632 .f32} {x5 : FVec Ideal S1x5632 .f32} {x6 : FVec Ideal S2816x1024 .bf16}
    {x7 : FVec Ideal S1x1024 .f32} (H : PtIn A t x0 x1 x2 x3 x4 x5 x6 x7)
include H

/-- A read of the tile. -/
theorem rd0 (arg : Memref sig .tc .vmem S512x1024 .bf16) (harg : arg.IsWhole) (inb) (l : Fin 512) (k : Fin 1024) :
    (View.readAt (Elt Ideal) arg.view (Rect.unit (s := S512x1024) ![0, 0] S512x1024.size inb).toLoadRect (harg.unread x0) (ix2 l k) : EReal) = A.h (512 * t + l) k := by
  refine (read_at (F := Ideal) arg harg x0 inb l k (by omega) (by omega)).trans ((H.x0 _ _).trans ?_)
  simp only [Nat.zero_add]
/-- A read of the rows before the tile. -/
theorem rd1 (ht : t % 4 ≠ 0) (arg : Memref sig .tc .vmem S16x1024 .bf16) (harg : arg.IsWhole) (inb) (r : Fin 16) (k : Fin 1024) :
    (View.readAt (Elt Ideal) arg.view (Rect.unit (s := S16x1024) ![0, 0] S16x1024.size inb).toLoadRect (harg.unread x1) (ix2 r k) : EReal) = A.h (512 * t + r - 16) k := by
  refine (read_at (F := Ideal) arg harg x1 inb r k (by omega) (by omega)).trans ((H.x1 ht _ _).trans ?_)
  simp only [Nat.zero_add]
/-- A read of the residual stream. -/
theorem rd2 (arg : Memref sig .tc .vmem S512x1024 .f32) (harg : arg.IsWhole) (inb) (l : Fin 512) (q : Fin 1024) :
    (View.readAt (Elt Ideal) arg.view (Rect.unit (s := S512x1024) ![0, 0] S512x1024.size inb).toLoadRect (harg.unread x2) (ix2 l q) : EReal) = A.x1 (512 * t + l) q := by
  refine (read_at (F := Ideal) arg harg x2 inb l q (by omega) (by omega)).trans ((H.x2 _ _).trans ?_)
  simp only [Nat.zero_add]
/-- A read of a column block of the up projection's weights. -/
theorem rd3 (arg : Memref sig .tc .vmem S1024x5632 .bf16) (harg : arg.IsWhole) (o : ℕ) (ho : o + 256 ≤ 5632) (inb) (k : Fin 1024) (p : Fin 256) :
    (View.readAt (Elt Ideal) arg.view (Rect.unit (s := S1024x5632) ![0, o] S1024x256.size inb).toLoadRect (harg.unread x3) (ix2 k p) : EReal) = A.wu k (o + p) := by
  refine (read_at (F := Ideal) arg harg x3 inb k p (by omega) (by omega)).trans ((H.x3 _ _).trans ?_)
  simp only [Nat.zero_add]
/-- A read of a column block of one of the convolution's weight rows. -/
theorem rd4 (arg : Memref sig .tc .vmem S3x5632 .f32) (harg : arg.IsWhole) (d : ℕ) (hd : d < 3) (o : ℕ) (ho : o + 256 ≤ 5632) (inb) (p : Fin 256) :
    (View.readAt (Elt Ideal) arg.view (Rect.unit (s := S3x5632) ![d, o] S1x256.size inb).toLoadRect (harg.unread x4) (ix2 0 p) : EReal) = A.cw d (o + p) := by
  refine (read_at (F := Ideal) arg harg x4 inb 0 p (by show d + 0 < 3; omega) (by omega)).trans ((H.x4 _ _).trans ?_)
  rfl
/-- A read of a column block of the convolution's bias. -/
theorem rd5 (arg : Memref sig .tc .vmem S1x5632 .f32) (harg : arg.IsWhole) (o : ℕ) (ho : o + 256 ≤ 5632) (inb) (p : Fin 256) :
    (View.readAt (Elt Ideal) arg.view (Rect.unit (s := S1x5632) ![0, o] S1x256.size inb).toLoadRect (harg.unread x5) (ix2 0 p) : EReal) = A.cb (o + p) := by
  exact (read_at (F := Ideal) arg harg x5 inb 0 p (by show 0 + 0 < 1; omega) (by omega)).trans (H.x5 _ _)
/-- A read of the down projection's weights. -/
theorem rd6 (arg : Memref sig .tc .vmem S2816x1024 .bf16) (harg : arg.IsWhole) (inb) (j : Fin 2816) (q : Fin 1024) :
    (View.readAt (Elt Ideal) arg.view (Rect.unit (s := S2816x1024) ![0, 0] S2816x1024.size inb).toLoadRect (harg.unread x6) (ix2 j q) : EReal) = A.wd j q := by
  refine (read_at (F := Ideal) arg harg x6 inb j q (by omega) (by omega)).trans ((H.x6 _ _).trans ?_)
  simp only [Nat.zero_add]
/-- A read of the norm's gain. -/
theorem rd7 (arg : Memref sig .tc .vmem S1x1024 .f32) (harg : arg.IsWhole) (inb) (q : Fin 1024) :
    (View.readAt (Elt Ideal) arg.view (Rect.unit (s := S1x1024) ![0, 0] S1x1024.size inb).toLoadRect (harg.unread x7) (ix2 0 q) : EReal) = A.g q := by
  refine (read_at (F := Ideal) arg harg x7 inb 0 q (by show 0 + 0 < 1; omega) (by omega)).trans ((H.x7 _ _).trans ?_)
  simp only [Nat.zero_add]
end PtIn

/-- The down-projection added to the residual stream. -/
theorem y_at (A : FArgs) (t : ℕ) (v : FVec Ideal S512x2816 .bf16) (w : FVec Ideal S2816x1024 .bf16) (x : FVec Ideal S512x1024 .f32)
    (hv : ∀ (l : Fin 512) (j : Fin 2816), v (ix2 l j) = fact A (512 * t + l) j) (hw : ∀ (j : Fin 2816) (q : Fin 1024), w (ix2 j q) = A.wd j q)
    (hx : ∀ (l : Fin 512) (q : Fin 1024), x (ix2 l q) = A.x1 (512 * t + l) q) (l : Fin 512) (q : Fin 1024) :
    k0_pay52 (F := Ideal) v w x (ix2 l q) = fy A (512 * t + l) q := by
  pointwise [k0_pay52]
  simp only [hv, hw, hx]
  rfl

/-- The norm of that. -/
theorem norm_at (A : FArgs) (t : ℕ) (y : FVec Ideal S512x1024 .f32) (hy : ∀ (l : Fin 512) (q : Fin 1024), y (ix2 l q) = fy A (512 * t + l) q)
    (l : Fin 512) (q : Fin 1024) :
    (broadcastTo S512x1024 (rsqrt (addf (divf (shapeCast S512x1 (multiReduction .add [1] S512 (mulf y y) 0x00000000#32 reduces_S512x1024_S512 (.inl rfl) rfl) shapeCasts_S512_S512x1)
        (broadcast S512x1 (Scalar.ofBits .f32 0x44800000#32))) (broadcast S512x1 (Scalar.ofBits .f32 0x358637BD#32)))) broadcasts_S512x1_S512x1024 : FVec Ideal S512x1024 .f32) (ix2 l q)
      = frs A (512 * t + l) := by
  pointwise
  simp only [hy]
  rfl

/-- The result of one grid point. -/
theorem out_pay (A : FArgs) (t : ℕ) (v : FVec Ideal S512x2816 .bf16) (w : FVec Ideal S2816x1024 .bf16) (x : FVec Ideal S512x1024 .f32) (g : FVec Ideal S1x1024 .f32)
    (hv : ∀ (l : Fin 512) (j : Fin 2816), v (ix2 l j) = fact A (512 * t + l) j) (hw : ∀ (j : Fin 2816) (q : Fin 1024), w (ix2 j q) = A.wd j q)
    (hx : ∀ (l : Fin 512) (q : Fin 1024), x (ix2 l q) = A.x1 (512 * t + l) q) (hg : ∀ q : Fin 1024, g (ix2 0 q) = A.g q) (l : Fin 512) (q : Fin 1024) :
    k0_pay1 (F := Ideal) (k0_pay52 v w x) (k0_pay53 g) (k0_pay54 v w x) (ix2 l q) = fout A (512 * t + l) q := by
  have hy := y_at A t v w x hv hw hx
  have hn : ∀ (l : Fin 512) (q : Fin 1024), k0_pay54 (F := Ideal) v w x (ix2 l q) = frs A (512 * t + l) := norm_at A t _ hy
  generalize k0_pay54 (F := Ideal) v w x = n at hn
  generalize k0_pay52 (F := Ideal) v w x = y at hy
  pointwise [k0_pay1, k0_pay53]
  simp only [hy, hn, hg]
  rfl

section body
variable {A : FArgs} {t : ℕ} {c : Dev nD} {i : grid0.Coords}
  {arg1 : Memref sig .tc .vmem S512x1024 .bf16} {harg1 : arg1.IsWhole}
  {arg2 : Memref sig .tc .vmem S16x1024 .bf16} {harg2 : arg2.IsWhole}
  {arg3 : Memref sig .tc .vmem S512x1024 .f32} {harg3 : arg3.IsWhole}
  {arg4 : Memref sig .tc .vmem S1024x5632 .bf16} {harg4 : arg4.IsWhole}
  {arg5 : Memref sig .tc .vmem S3x5632 .f32} {harg5 : arg5.IsWhole}
  {arg6 : Memref sig .tc .vmem S1x5632 .f32} {harg6 : arg6.IsWhole}
  {arg7 : Memref sig .tc .vmem S2816x1024 .bf16} {harg7 : arg7.IsWhole}
  {arg8 : Memref sig .tc .vmem S1x1024 .f32} {harg8 : arg8.IsWhole}
  {arg9 : Memref sig .tc .vmem S512x1024 .f32} {harg9 : arg9.IsWhole}
  {arg10 : Memref sig .tc .vmem S512x2816 .bf16} {harg10 : arg10.IsWhole}
  {x0 : FVec Ideal S512x1024 .bf16} {x1 : FVec Ideal S16x1024 .bf16} {x2 : FVec Ideal S512x1024 .f32}
  {x3 : FVec Ideal S1024x5632 .bf16} {x4 : FVec Ideal S3x5632 .f32} {x5 : FVec Ideal S1x5632 .f32} {x6 : FVec Ideal S2816x1024 .bf16}
  {x7 : FVec Ideal S1x1024 .f32} (H : PtIn A t x0 x1 x2 x3 x4 x5 x6 x7) (hi : (i 0).val = t)
include H hi

/-- The rows projected. -/
theorem K_r : ∀ (r : Fin 528) (k : Fin 1024), (kernelRun0_A.sl.r (F := Ideal) c i arg1 harg1 arg2 harg2 x0 x1 (ix2 r k) : EReal) = hcv A t r k :=
  hc_at A i t hi _ _ (fun h r k => H.rd1 h _ _ _ r k) (fun l k => H.rd0 _ _ _ l k)

/-- The activation's buffer after all its blocks. -/
theorem K_acts : Acts A t (kernelRun0_A.sl.HS0_11 (F := Ideal) c i arg1 harg1 arg2 harg2 arg4 harg4 arg5 harg5 arg6 harg6 x0 x1 x3 x4 x5) 2816 := by
  unfold kernelRun0_A.sl.HS0_11
  refine Acts.step ?_ 2560 rfl _ _ (fun l p => ?_)
  refine Acts.step ?_ 2304 rfl _ _ (fun l p => ?_)
  refine Acts.step ?_ 2048 rfl _ _ (fun l p => ?_)
  refine Acts.step ?_ 1792 rfl _ _ (fun l p => ?_)
  refine Acts.step ?_ 1536 rfl _ _ (fun l p => ?_)
  refine Acts.step ?_ 1280 rfl _ _ (fun l p => ?_)
  refine Acts.step ?_ 1024 rfl _ _ (fun l p => ?_)
  refine Acts.step ?_ 768 rfl _ _ (fun l p => ?_)
  refine Acts.step ?_ 512 rfl _ _ (fun l p => ?_)
  refine Acts.step ?_ 256 rfl _ _ (fun l p => ?_)
  refine Acts.step ?_ 0 rfl _ _ (fun l p => ?_)
  · exact Acts.zero A t _
  · refine (congrFun (blk0 _ _ _ _ _ _ _ _ _ _ _ _ _) (ix2 l p)).trans ?_
    exact Act_at A t _ (K_r H hi) 0 _ _ _ _ _ _ _ _ _ _ (fun k p => H.rd3 _ _ 0 (by omega) _ k p) (fun p => H.rd5 _ _ 0 (by omega) _ p) (fun p => H.rd4 _ _ 2 (by omega) 0 (by omega) _ p) (fun p => H.rd4 _ _ 0 (by omega) 0 (by omega) _ p) (fun p => H.rd4 _ _ 1 (by omega) 0 (by omega) _ p) (fun k p => H.rd3 _ _ 2816 (by omega) _ k p) (fun p => H.rd5 _ _ 2816 (by omega) _ p) (fun p => H.rd4 _ _ 2 (by omega) 2816 (by omega) _ p) (fun p => H.rd4 _ _ 0 (by omega) 2816 (by omega) _ p) (fun p => H.rd4 _ _ 1 (by omega) 2816 (by omega) _ p) l p
  · refine (congrFun (blk1 _ _ _ _ _ _ _ _ _ _ _) (ix2 l p)).trans ?_
    exact Act_at A t _ (K_r H hi) 256 _ _ _ _ _ _ _ _ _ _ (fun k p => H.rd3 _ _ 256 (by omega) _ k p) (fun p => H.rd5 _ _ 256 (by omega) _ p) (fun p => H.rd4 _ _ 2 (by omega) 256 (by omega) _ p) (fun p => H.rd4 _ _ 0 (by omega) 256 (by omega) _ p) (fun p => H.rd4 _ _ 1 (by omega) 256 (by omega) _ p) (fun k p => H.rd3 _ _ 3072 (by omega) _ k p) (fun p => H.rd5 _ _ 3072 (by omega) _ p) (fun p => H.rd4 _ _ 2 (by omega) 3072 (by omega) _ p) (fun p => H.rd4 _ _ 0 (by omega) 3072 (by omega) _ p) (fun p => H.rd4 _ _ 1 (by omega) 3072 (by omega) _ p) l p
  · refine (congrFun (blk2 _ _ _ _ _ _ _ _ _ _ _) (ix2 l p)).trans ?_
    exact Act_at A t _ (K_r H hi) 512 _ _ _ _ _ _ _ _ _ _ (fun k p => H.rd3 _ _ 512 (by omega) _ k p) (fun p => H.rd5 _ _ 512 (by omega) _ p) (fun p => H.rd4 _ _ 2 (by omega) 512 (by omega) _ p) (fun p => H.rd4 _ _ 0 (by omega) 512 (by omega) _ p) (fun p => H.rd4 _ _ 1 (by omega) 512 (by omega) _ p) (fun k p => H.rd3 _ _ 3328 (by omega) _ k p) (fun p => H.rd5 _ _ 3328 (by omega) _ p) (fun p => H.rd4 _ _ 2 (by omega) 3328 (by omega) _ p) (fun p => H.rd4 _ _ 0 (by omega) 3328 (by omega) _ p) (fun p => H.rd4 _ _ 1 (by omega) 3328 (by omega) _ p) l p
  · refine (congrFun (blk3 _ _ _ _ _ _ _ _ _ _ _) (ix2 l p)).trans ?_
    exact Act_at A t _ (K_r H hi) 768 _ _ _ _ _ _ _ _ _ _ (fun k p => H.rd3 _ _ 768 (by omega) _ k p) (fun p => H.rd5 _ _ 768 (by omega) _ p) (fun p => H.rd4 _ _ 2 (by omega) 768 (by omega) _ p) (fun p => H.rd4 _ _ 0 (by omega) 768 (by omega) _ p) (fun p => H.rd4 _ _ 1 (by omega) 768 (by omega) _ p) (fun k p => H.rd3 _ _ 3584 (by omega) _ k p) (fun p => H.rd5 _ _ 3584 (by omega) _ p) (fun p => H.rd4 _ _ 2 (by omega) 3584 (by omega) _ p) (fun p => H.rd4 _ _ 0 (by omega) 3584 (by omega) _ p) (fun p => H.rd4 _ _ 1 (by omega) 3584 (by omega) _ p) l p
  · refine (congrFun (blk4 _ _ _ _ _ _ _ _ _ _ _) (ix2 l p)).trans ?_
    exact Act_at A t _ (K_r H hi) 1024 _ _ _ _ _ _ _ _ _ _ (fun k p => H.rd3 _ _ 1024 (by omega) _ k p) (fun p => H.rd5 _ _ 1024 (by omega) _ p) (fun p => H.rd4 _ _ 2 (by omega) 1024 (by omega) _ p) (fun p => H.rd4 _ _ 0 (by omega) 1024 (by omega) _ p) (fun p => H.rd4 _ _ 1 (by omega) 1024 (by omega) _ p) (fun k p => H.rd3 _ _ 3840 (by omega) _ k p) (fun p => H.rd5 _ _ 3840 (by omega) _ p) (fun p => H.rd4 _ _ 2 (by omega) 3840 (by omega) _ p) (fun p => H.rd4 _ _ 0 (by omega) 3840 (by omega) _ p) (fun p => H.rd4 _ _ 1 (by omega) 3840 (by omega) _ p) l p
  · refine (congrFun (blk5 _ _ _ _ _ _ _ _ _ _ _) (ix2 l p)).trans ?_
    exact Act_at A t _ (K_r H hi) 1280 _ _ _ _ _ _ _ _ _ _ (fun k p => H.rd3 _ _ 1280 (by omega) _ k p) (fun p => H.rd5 _ _ 1280 (by omega) _ p) (fun p => H.rd4 _ _ 2 (by omega) 1280 (by omega) _ p) (fun p => H.rd4 _ _ 0 (by omega) 1280 (by omega) _ p) (fun p => H.rd4 _ _ 1 (by omega) 1280 (by omega) _ p) (fun k p => H.rd3 _ _ 4096 (by omega) _ k p) (fun p => H.rd5 _ _ 4096 (by omega) _ p) (fun p => H.rd4 _ _ 2 (by omega) 4096 (by omega) _ p) (fun p => H.rd4 _ _ 0 (by omega) 4096 (by omega) _ p) (fun p => H.rd4 _ _ 1 (by omega) 4096 (by omega) _ p) l p
  · refine (congrFun (blk6 _ _ _ _ _ _ _ _ _ _ _) (ix2 l p)).trans ?_
    exact Act_at A t _ (K_r H hi) 1536 _ _ _ _ _ _ _ _ _ _ (fun k p => H.rd3 _ _ 1536 (by omega) _ k p) (fun p => H.rd5 _ _ 1536 (by omega) _ p) (fun p => H.rd4 _ _ 2 (by omega) 1536 (by omega) _ p) (fun p => H.rd4 _ _ 0 (by omega) 1536 (by omega) _ p) (fun p => H.rd4 _ _ 1 (by omega) 1536 (by omega) _ p) (fun k p => H.rd3 _ _ 4352 (by omega) _ k p) (fun p => H.rd5 _ _ 4352 (by omega) _ p) (fun p => H.rd4 _ _ 2 (by omega) 4352 (by omega) _ p) (fun p => H.rd4 _ _ 0 (by omega) 4352 (by omega) _ p) (fun p => H.rd4 _ _ 1 (by omega) 4352 (by omega) _ p) l p
  · refine (congrFun (blk7 _ _ _ _ _ _ _ _ _ _ _) (ix2 l p)).trans ?_
    exact Act_at A t _ (K_r H hi) 1792 _ _ _ _ _ _ _ _ _ _ (fun k p => H.rd3 _ _ 1792 (by omega) _ k p) (fun p => H.rd5 _ _ 1792 (by omega) _ p) (fun p => H.rd4 _ _ 2 (by omega) 1792 (by omega) _ p) (fun p => H.rd4 _ _ 0 (by omega) 1792 (by omega) _ p) (fun p => H.rd4 _ _ 1 (by omega) 1792 (by omega) _ p) (fun k p => H.rd3 _ _ 4608 (by omega) _ k p) (fun p => H.rd5 _ _ 4608 (by omega) _ p) (fun p => H.rd4 _ _ 2 (by omega) 4608 (by omega) _ p) (fun p => H.rd4 _ _ 0 (by omega) 4608 (by omega) _ p) (fun p => H.rd4 _ _ 1 (by omega) 4608 (by omega) _ p) l p
  · refine (congrFun (blk8 _ _ _ _ _ _ _ _ _ _ _) (ix2 l p)).trans ?_
    exact Act_at A t _ (K_r H hi) 2048 _ _ _ _ _ _ _ _ _ _ (fun k p => H.rd3 _ _ 2048 (by omega) _ k p) (fun p => H.rd5 _ _ 2048 (by omega) _ p) (fun p => H.rd4 _ _ 2 (by omega) 2048 (by omega) _ p) (fun p => H.rd4 _ _ 0 (by omega) 2048 (by omega) _ p) (fun p => H.rd4 _ _ 1 (by omega) 2048 (by omega) _ p) (fun k p => H.rd3 _ _ 4864 (by omega) _ k p) (fun p => H.rd5 _ _ 4864 (by omega) _ p) (fun p => H.rd4 _ _ 2 (by omega) 4864 (by omega) _ p) (fun p => H.rd4 _ _ 0 (by omega) 4864 (by omega) _ p) (fun p => H.rd4 _ _ 1 (by omega) 4864 (by omega) _ p) l p
  · refine (congrFun (blk9 _ _ _ _ _ _ _ _ _ _ _) (ix2 l p)).trans ?_
    exact Act_at A t _ (K_r H hi) 2304 _ _ _ _ _ _ _ _ _ _ (fun k p => H.rd3 _ _ 2304 (by omega) _ k p) (fun p => H.rd5 _ _ 2304 (by omega) _ p) (fun p => H.rd4 _ _ 2 (by omega) 2304 (by omega) _ p) (fun p => H.rd4 _ _ 0 (by omega) 2304 (by omega) _ p) (fun p => H.rd4 _ _ 1 (by omega) 2304 (by omega) _ p) (fun k p => H.rd3 _ _ 5120 (by omega) _ k p) (fun p => H.rd5 _ _ 5120 (by omega) _ p) (fun p => H.rd4 _ _ 2 (by omega) 5120 (by omega) _ p) (fun p => H.rd4 _ _ 0 (by omega) 5120 (by omega) _ p) (fun p => H.rd4 _ _ 1 (by omega) 5120 (by omega) _ p) l p
  · refine (congrFun (blk10 _ _ _ _ _ _ _ _ _ _ _) (ix2 l p)).trans ?_
    exact Act_at A t _ (K_r H hi) 2560 _ _ _ _ _ _ _ _ _ _ (fun k p => H.rd3 _ _ 2560 (by omega) _ k p) (fun p => H.rd5 _ _ 2560 (by omega) _ p) (fun p => H.rd4 _ _ 2 (by omega) 2560 (by omega) _ p) (fun p => H.rd4 _ _ 0 (by omega) 2560 (by omega) _ p) (fun p => H.rd4 _ _ 1 (by omega) 2560 (by omega) _ p) (fun k p => H.rd3 _ _ 5376 (by omega) _ k p) (fun p => H.rd5 _ _ 5376 (by omega) _ p) (fun p => H.rd4 _ _ 2 (by omega) 5376 (by omega) _ p) (fun p => H.rd4 _ _ 0 (by omega) 5376 (by omega) _ p) (fun p => H.rd4 _ _ 1 (by omega) 5376 (by omega) _ p) l p

/-- The activation read back. -/
theorem K_v632 : ∀ (l : Fin 512) (j : Fin 2816), (kernelRun0_A.sl.v632 (F := Ideal) c i arg1 harg1 arg2 harg2 arg4 harg4 arg5 harg5 arg6 harg6 arg10 x0 x1 x3 x4 x5 (ix2 l j) : EReal) = fact A (512 * t + l) j := by
  intro l j
  unfold kernelRun0_A.sl.v632
  rw [View.readCov_eq_canon']
  refine (congrArg (View.canon _) (emb_at inb_S512x2816_S512x2816_0_0 l j (by omega) (by omega))).trans ?_
  refine (K_acts H hi _ _ (by show 0 + j.val < 2816; omega)).trans ?_
  simp only [Nat.zero_add]

/-- The output window. -/
theorem K_out : ∀ (l : Fin 512) (q : Fin 1024), (out0_A_8 (F := Ideal) c i arg1 harg1 arg2 harg2 arg3 harg3 arg4 harg4 arg5 harg5 arg6 harg6 arg7 harg7 arg8 harg8 arg9 harg9 arg10 harg10 x0 x1 x2 x3 x4 x5 x6 x7 (ix2 l q) : EReal) = fout A (512 * t + l) q := by
  intro l q
  unfold out0_A_8
  rw [View.read_writes_junk_eq_canon]
  refine (canon_of (Val := Elt Ideal) (e := .f32) (a := 0) (b := 0) (m' := 512) (w := 1024) inb_S512x1024_S512x1024_0_0
    (k0_pay1 (kernelRun0_A.sl.r_39 (F := Ideal) c i arg1 harg1 arg2 harg2 arg3 harg3 arg4 harg4 arg5 harg5 arg6 harg6 arg7 harg7 arg10 x0 x1 x2 x3 x4 x5 x6)
      (kernelRun0_A.sl.r_40 (F := Ideal) c arg8 harg8 x7)
      (kernelRun0_A.sl.r_41 (F := Ideal) c i arg1 harg1 arg2 harg2 arg3 harg3 arg4 harg4 arg5 harg5 arg6 harg6 arg7 harg7 arg10 x0 x1 x2 x3 x4 x5 x6)) [] l q (by omega) (by omega) (by omega) (by omega)).trans ?_
  exact out_pay A t _ _ _ _ (K_v632 H hi) (fun j q => H.rd6 _ _ _ j q) (fun l q => H.rd2 _ _ _ l q) (fun q => H.rd7 _ _ _ q) l q
end body

end Cert.Kernel2Ideal.Value

end
-- ==== Proof.Ffn.Sweep.lean ====
/- The feed-forward call's grid: its windows at each point and its result, entry by entry. -/
module

public import proofs.«01_k».proof.Proof.Ffn.Point
public import proofs.«01_k».proof.Proof.Gen.Kernel2Ideal.Value

@[expose] public section

set_option maxRecDepth 16384

noncomputable section

open Idealize.ShloMosaic Idealize.ShloMosaic.TcCoe Idealize.SL.Sem

namespace Cert.Kernel2Ideal.Value
open Cert.Kernel2Ideal Cert.Kernel2Ideal.Gen Cert.Ffn
open Cert.Ssd (ext1 ext2 ext1_eq ext2_at)

variable (m : (ℓ : Loc nD τ sig) → Buf (Elt Ideal) ℓ) (c : Dev nD)

/-- The kernel program's arguments. -/
def args : FArgs := fargsOf (m (c, Proc.tc.devRef main_arg0)) (m (c, Proc.tc.devRef main_arg1)) (m (c, Proc.tc.devRef main_arg2))
  (m (c, Proc.tc.devRef main_arg3)) (m (c, Proc.tc.devRef main_arg4)) (m (c, Proc.tc.devRef main_arg5)) (m (c, Proc.tc.devRef main_arg6))

/-- Where the block of the tile lies. -/
theorem idx0 : ∀ t : Fin grid0.N, win0_0.index t = ![t.val, 0] := (by decide +kernel : ∀ t : Fin grid0.N, _)
/-- Window 0 at a grid point. -/
theorem win0_at (t : Fin grid0.N) (l : Fin 512) (q : Fin 1024) : (iblk m c 0 t : FVec Ideal S512x1024 .bf16) (ix2 l q) = (args m c).h (512 * t.val + l) q := by
  have i0 : win0_0.index t 0 = t.val := by rw [idx0]; rfl
  have i1 : win0_0.index t 1 = 0 := by rw [idx0]; rfl
  have ht : t.val < 32 := t.isLt
  blk_simp [iblk]
  entry_read
  pointwise
  refine ext2_at _ _ ?_ ?_
  · show (win0_0.index t 0 * 512 + 1 * l.val) = 512 * t.val + l.val; rw [i0]; omega
  · show (win0_0.index t 1 * 1024 + 1 * q.val) = q.val; rw [i1]; omega
/-- Where the block of the rows before the tile lies. -/
theorem idx1 : ∀ t : Fin grid0.N, win0_1.index t = ![32 * t.val - 1, 0] := (by decide +kernel : ∀ t : Fin grid0.N, _)
/-- Window 1 at a grid point. -/
theorem win1_at (t : Fin grid0.N) (h0 : t.val % 4 ≠ 0) (l : Fin 16) (q : Fin 1024) : (iblk m c 1 t : FVec Ideal S16x1024 .bf16) (ix2 l q) = (args m c).h (512 * t.val + l - 16) q := by
  have i0 : win0_1.index t 0 = 32 * t.val - 1 := by rw [idx1]; rfl
  have i1 : win0_1.index t 1 = 0 := by rw [idx1]; rfl
  have ht : t.val < 32 := t.isLt
  blk_simp [iblk]
  entry_read
  pointwise
  refine ext2_at _ _ ?_ ?_
  · show (win0_1.index t 0 * 16 + 1 * l.val) = 512 * t.val + l.val - 16; rw [i0]; omega
  · show (win0_1.index t 1 * 1024 + 1 * q.val) = q.val; rw [i1]; omega
/-- Where the block of the residual stream lies. -/
theorem idx2 : ∀ t : Fin grid0.N, win0_2.index t = ![t.val, 0] := (by decide +kernel : ∀ t : Fin grid0.N, _)
/-- Window 2 at a grid point. -/
theorem win2_at (t : Fin grid0.N) (l : Fin 512) (q : Fin 1024) : (iblk m c 2 t : FVec Ideal S512x1024 .f32) (ix2 l q) = (args m c).x1 (512 * t.val + l) q := by
  have i0 : win0_2.index t 0 = t.val := by rw [idx2]; rfl
  have i1 : win0_2.index t 1 = 0 := by rw [idx2]; rfl
  have ht : t.val < 32 := t.isLt
  blk_simp [iblk]
  entry_read
  pointwise
  refine ext2_at _ _ ?_ ?_
  · show (win0_2.index t 0 * 512 + 1 * l.val) = 512 * t.val + l.val; rw [i0]; omega
  · show (win0_2.index t 1 * 1024 + 1 * q.val) = q.val; rw [i1]; omega
/-- Where the block of the up projection lies. -/
theorem idx3 : ∀ t : Fin grid0.N, win0_3.index t = ![0, 0] := (by decide +kernel : ∀ t : Fin grid0.N, _)
/-- Window 3 at a grid point. -/
theorem win3_at (t : Fin grid0.N) (l : Fin 1024) (q : Fin 5632) : (iblk m c 3 t : FVec Ideal S1024x5632 .bf16) (ix2 l q) = (args m c).wu l q := by
  have i0 : win0_3.index t 0 = 0 := by rw [idx3]; rfl
  have i1 : win0_3.index t 1 = 0 := by rw [idx3]; rfl
  have ht : t.val < 32 := t.isLt
  blk_simp [iblk]
  entry_read
  pointwise
  refine ext2_at _ _ ?_ ?_
  · show (win0_3.index t 0 * 1024 + 1 * l.val) = l.val; rw [i0]; omega
  · show (win0_3.index t 1 * 5632 + 1 * q.val) = q.val; rw [i1]; omega
/-- Where the block of the convolution weights lies. -/
theorem idx4 : ∀ t : Fin grid0.N, win0_4.index t = ![0, 0] := (by decide +kernel : ∀ t : Fin grid0.N, _)
/-- Window 4 at a grid point. -/
theorem win4_at (t : Fin grid0.N) (l : Fin 3) (q : Fin 5632) : (iblk m c 4 t : FVec Ideal S3x5632 .f32) (ix2 l q) = (args m c).cw l q := by
  have i0 : win0_4.index t 0 = 0 := by rw [idx4]; rfl
  have i1 : win0_4.index t 1 = 0 := by rw [idx4]; rfl
  have ht : t.val < 32 := t.isLt
  blk_simp [iblk]
  entry_read
  pointwise
  refine ext2_at _ _ ?_ ?_
  · show (win0_4.index t 0 * 3 + 1 * l.val) = l.val; rw [i0]; omega
  · show (win0_4.index t 1 * 5632 + 1 * q.val) = q.val; rw [i1]; omega
/-- Where the block of the bias lies. -/
theorem idx5 : ∀ t : Fin grid0.N, win0_5.index t = ![0, 0] := (by decide +kernel : ∀ t : Fin grid0.N, _)
/-- Window 5 at a grid point. -/
theorem win5_at (t : Fin grid0.N) (l : Fin 1) (q : Fin 5632) : (iblk m c 5 t : FVec Ideal S1x5632 .f32) (ix2 l q) = (args m c).cb q := by
  have i0 : win0_5.index t 0 = 0 := by rw [idx5]; rfl
  have i1 : win0_5.index t 1 = 0 := by rw [idx5]; rfl
  have ht : t.val < 32 := t.isLt
  blk_simp [iblk]
  entry_read
  pointwise
  refine ext1_eq _ _ ?_
  show (win0_5.index t 1 * 5632 + 1 * q.val) = q.val; rw [i1]; omega
/-- Where the block of the down projection lies. -/
theorem idx6 : ∀ t : Fin grid0.N, win0_6.index t = ![0, 0] := (by decide +kernel : ∀ t : Fin grid0.N, _)
/-- Window 6 at a grid point. -/
theorem win6_at (t : Fin grid0.N) (l : Fin 2816) (q : Fin 1024) : (iblk m c 6 t : FVec Ideal S2816x1024 .bf16) (ix2 l q) = (args m c).wd l q := by
  have i0 : win0_6.index t 0 = 0 := by rw [idx6]; rfl
  have i1 : win0_6.index t 1 = 0 := by rw [idx6]; rfl
  have ht : t.val < 32 := t.isLt
  blk_simp [iblk]
  entry_read
  pointwise
  refine ext2_at _ _ ?_ ?_
  · show (win0_6.index t 0 * 2816 + 1 * l.val) = l.val; rw [i0]; omega
  · show (win0_6.index t 1 * 1024 + 1 * q.val) = q.val; rw [i1]; omega
/-- Where the block of the gain lies. -/
theorem idx7 : ∀ t : Fin grid0.N, win0_7.index t = ![0, 0] := (by decide +kernel : ∀ t : Fin grid0.N, _)
/-- Window 7 at a grid point. -/
theorem win7_at (t : Fin grid0.N) (l : Fin 1) (q : Fin 1024) : (iblk m c 7 t : FVec Ideal S1x1024 .f32) (ix2 l q) = (args m c).g q := by
  have i0 : win0_7.index t 0 = 0 := by rw [idx7]; rfl
  have i1 : win0_7.index t 1 = 0 := by rw [idx7]; rfl
  have ht : t.val < 32 := t.isLt
  blk_simp [iblk]
  entry_read
  pointwise
  refine ext1_eq _ _ ?_
  show (win0_7.index t 1 * 1024 + 1 * q.val) = q.val; rw [i1]; omega

/-- The windows of one grid point, together. -/
theorem ptIn (t : Fin grid0.N) : PtIn (args m c) t.val (iblk m c 0 t) (iblk m c 1 t) (iblk m c 2 t) (iblk m c 3 t) (iblk m c 4 t)
    (iblk m c 5 t) (iblk m c 6 t) (iblk m c 7 t) where
  x0 := win0_at m c t
  x1 := win1_at m c t
  x2 := win2_at m c t
  x3 := win3_at m c t
  x4 := win4_at m c t
  x5 := win5_at m c t
  x6 := win6_at m c t
  x7 := win7_at m c t

/-- A grid point's coordinate is its number. -/
theorem coord_eq : ∀ t : Fin grid0.N, (grid0.coords t 0).val = t.val := (by decide +kernel : ∀ t : Fin grid0.N, _)
/-- Where the result's block lies. -/
theorem idx8 : ∀ t : Fin grid0.N, win0_8.index t = ![t.val, 0] := (by decide +kernel : ∀ t : Fin grid0.N, _)
/-- The result is written back at every grid point. -/
theorem flush8 : ∀ t : Fin grid0.N, win0_8.flush t = true := (by decide +kernel : ∀ t : Fin grid0.N, _)

/-- The result as one array. -/
def res8 : Buf (Elt Ideal) ((c : Thread nD τ).loc main_v4) := fun i => (fout (args m c) (i 0).val (i 1).val : EReal)

/-- What each grid point writes back is its block of the result. -/
theorem flushed8_eq (t : Fin cfg0.N) : (dats m 0 c).flushed 8 t = ((cfg0.win 8).blk t).view.read (Elt Ideal) (res8 m c) := by
  rw [flushed8_A]
  funext y
  have hb0 : (((cfg0.win 8).blk t).view.emb y 0).val = win0_8.index t (0 : Fin 2) * 512 + 1 * (y 0).val := rfl
  have hb1 : (((cfg0.win 8).blk t).view.emb y 1).val = win0_8.index t (1 : Fin 2) * 1024 + 1 * (y 1).val := rfl
  have i0 : win0_8.index t 0 = t.val := by rw [idx8]; rfl
  have i1 : win0_8.index t 1 = 0 := by rw [idx8]; rfl
  have hy : ((cfg0.win 8).xinj (grid0.coords t) y : S512x1024.Idx) = ix2 (y 0) (y 1) := by
    funext a
    match a with
    | ⟨0, _⟩ => rfl
    | ⟨1, _⟩ => rfl
  show out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t) ((cfg0.win 8).xinj (grid0.coords t) y)
    = res8 m c (((cfg0.win 8).blk t).view.emb y)
  rw [hy]
  refine (K_out (ptIn m c t) (coord_eq t) (y 0) (y 1)).trans ?_
  exact congr (congrArg (fout (args m c)) (by rw [hb0, i0]; omega)) (by rw [hb1, i1]; omega)

/-- An index of the result is in point `t`'s block iff each coordinate is in the block's range. -/
theorem mem_blk8 (t : Fin cfg0.N) (i : S16384x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v4).slice (win0_8.rect t)).set ↔ _
  rw [View.set_slice_whole, Rect.mem_set_unit]
  exact Iff.rfl

/-- The array after the run is the result. -/
theorem final8 : (dats m 0 c).arrAt 8 cfg0.N = res8 m c :=
  (dats m 0 c).arrAt_eq_of_cover 8 _ (fun t _ => flushed8_eq m c t) (fun i => by
    have h0 : (i 0).val < 16384 := (i 0).isLt
    have h1 : (i 1).val < 1024 := (i 1).isLt
    have hN : (i 0).val / 512 < grid0.N := by show (i 0).val / 512 < 32; omega
    have i0 : win0_8.index ⟨(i 0).val / 512, hN⟩ 0 = (i 0).val / 512 := by rw [idx8]; rfl
    have i1 : win0_8.index ⟨(i 0).val / 512, hN⟩ 1 = 0 := by rw [idx8]; rfl
    refine ⟨⟨(i 0).val / 512, hN⟩, flush8 _, ?_⟩
    rw [mem_blk8]
    intro a
    match a with
    | ⟨0, _⟩ => show win0_8.index ⟨(i 0).val / 512, hN⟩ (0 : Fin 2) * 512 ≤ (i 0).val ∧ (i 0).val < win0_8.index ⟨(i 0).val / 512, hN⟩ (0 : Fin 2) * 512 + 512; omega
    | ⟨1, _⟩ => show win0_8.index ⟨(i 0).val / 512, hN⟩ (1 : Fin 2) * 1024 ≤ (i 1).val ∧ (i 1).val < win0_8.index ⟨(i 0).val / 512, hN⟩ (1 : Fin 2) * 1024 + 1024; omega)

end Cert.Kernel2Ideal.Value

end
-- ==== Proof.Ffn.Ref.lean ====
/- The reference's feed-forward result, entry by entry: the closed form `Cert.Ffn.fout` of its arguments. -/
module

public import proofs.«01_k».proof.Proof.Ffn.Spec
public import proofs.«01_k».proof.Proof.Ssd.Spec
public import proofs.«01_k».proof.Proof.Gen.Reference2Ideal.Run
public import Idealize.ShloMosaic.Lib.Claim
public import Idealize.ShloMosaic.Lib.KernelVsHost
public import Idealize.ShloMosaic.Lib.ValueIdxRank6
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem

namespace Cert.Reference2Ideal.Value
open Cert.Reference2Ideal Cert.Reference2Ideal.Gen Cert.Ffn
open Cert.Ssd (Real' silu silu_eq)

/-- The up-projection. -/
def Ru (h : FVec Ideal S16384x1024 .bf16) (wu : FVec Ideal S1024x5632 .f32) : FVec Ideal S8x2048x5632 .f32 :=
  Host.dotGeneral dot_S8x2048x1024_S1024x5632_S8x2048x5632_2_0_01_1_n_n none (shapeCast _ (extf .f32 h bitsLt_bf16_f32) shapeCasts_S16384x1024_S8x2048x1024) wu
/-- Two zero rows before each sequence. -/
def Rpad (u : FVec Ideal S8x2048x5632 .f32) : FVec Ideal S8x2050x5632 .f32 :=
  pad S8x2050x5632 ![0, 2, 0] ![0, 0, 0] ![0, 0, 0] u (sitofp .f32 (constantI S_ 32 0#32)) pads_S8x2048x5632_S8x2050x5632_000_200_000 h_S_
/-- A vector of channels at every row. -/
def Rch (v : FVec Ideal S5632 .f32) : FVec Ideal S8x2048x5632 .f32 :=
  broadcastInDim S8x2048x5632 ![0, 1, 2] bcast_S1x1x5632_S8x2048x5632_0_1_2 (broadcastInDim S1x1x5632 ![2] bcast_S5632_S1x1x5632_2 v)
/-- The convolution. -/
def Rconv (u : FVec Ideal S8x2048x5632 .f32) (cw : FVec Ideal S3x5632 .f32) (cb : FVec Ideal S5632 .f32) : FVec Ideal S8x2048x5632 .f32 :=
  addf (addf (addf
      (mulf (extractStridedSlice S8x2048x5632 ![0, 0, 0] (Rpad u) slices_S8x2050x5632_S8x2048x5632_0_0_0)
        (Rch (shapeCast _ (extractStridedSlice S1x5632 ![0, 0] cw slices_S3x5632_S1x5632_0_0) shapeCasts_S1x5632_S5632)))
      (mulf (extractStridedSlice S8x2048x5632 ![0, 1, 0] (Rpad u) slices_S8x2050x5632_S8x2048x5632_0_1_0)
        (Rch (shapeCast _ (extractStridedSlice S1x5632 ![1, 0] cw slices_S3x5632_S1x5632_1_0) shapeCasts_S1x5632_S5632))))
      (mulf (extractStridedSlice S8x2048x5632 ![0, 2, 0] (Rpad u) slices_S8x2050x5632_S8x2048x5632_0_2_0)
        (Rch (shapeCast _ (extractStridedSlice S1x5632 ![2, 0] cw slices_S3x5632_S1x5632_2_0) shapeCasts_S1x5632_S5632))))
    (Rch cb)
/-- The gated activation. -/
def Ract (v : FVec Ideal S8x2048x5632 .f32) : FVec Ideal S8x2048x2816 .f32 :=
  mulf (mulf (extractStridedSlice S8x2048x2816 ![0, 0, 0] v slices_S8x2048x5632_S8x2048x2816_0_0_0)
      (Host.divf (broadcastInDim S8x2048x2816 ![] bcast_S_S8x2048x2816 (constant S_ .f32 0x3F800000#32))
        (addf (broadcastInDim S8x2048x2816 ![] bcast_S_S8x2048x2816 (constant S_ .f32 0x3F800000#32))
          (Host.exp (Host.negf (extractStridedSlice S8x2048x2816 ![0, 0, 0] v slices_S8x2048x5632_S8x2048x2816_0_0_0))))))
    (extractStridedSlice S8x2048x2816 ![0, 0, 2816] v slices_S8x2048x5632_S8x2048x2816_0_0_2816)
/-- The residual stream with the down-projection added. -/
def Ry (x1 : FVec Ideal S16384x1024 .f32) (a : FVec Ideal S8x2048x2816 .f32) (wd : FVec Ideal S2816x1024 .f32) : FVec Ideal S8x2048x1024 .f32 :=
  addf (shapeCast _ x1 shapeCasts_S16384x1024_S8x2048x1024) (Host.dotGeneral dot_S8x2048x2816_S2816x1024_S8x2048x1024_2_0_01_1_n_n none a wd)
/-- The norm's factor. -/
def Rrs (y : FVec Ideal S8x2048x1024 .f32) : FVec Ideal S8x2048x1 .f32 :=
  Host.rsqrt (addf (Host.divf (broadcastInDim S8x2048x1 ![0, 1] bcast_S8x2048_S8x2048x1_0_1 (Host.reduceAdd (mulf y y) (constant S_ .f32 0x00000000#32) reducesTo_S8x2048x1024_S8x2048_d2 h_S_))
      (broadcastInDim S8x2048x1 ![] bcast_S_S8x2048x1 (constant S_ .f32 0x44800000#32))) (broadcastInDim S8x2048x1 ![] bcast_S_S8x2048x1 (constant S_ .f32 0x358637BD#32)))
/-- The result. -/
def Rout (y : FVec Ideal S8x2048x1024 .f32) (g : FVec Ideal S1024 .f32) : FVec Ideal S16384x1024 .f32 :=
  shapeCast _ (mulf (mulf y (broadcastInDim S8x2048x1024 ![0, 1, 2] bcast_S8x2048x1_S8x2048x1024_0_1_2 (Rrs y)))
    (broadcastInDim S8x2048x1024 ![0, 1, 2] bcast_S1x1x1024_S8x2048x1024_0_1_2 (broadcastInDim S1x1x1024 ![2] bcast_S1024_S1x1x1024_2 g))) shapeCasts_S8x2048x1024_S16384x1024

section at_
variable (A : FArgs)

/-- The up-projection at an entry. -/
theorem Ru_at (h : FVec Ideal S16384x1024 .bf16) (wu : FVec Ideal S1024x5632 .f32)
    (hh : ∀ (r : Fin 16384) (k : Fin 1024), h (ix2 r k) = A.h r k) (hw : ∀ (k : Fin 1024) (n : Fin 5632), wu (ix2 k n) = A.wu k n)
    (b : Fin 8) (s : Fin 2048) (n : Fin 5632) : Ru h wu (ix3 b s n) = fu A (2048 * b + s) n := by
  pointwise [Ru]
  simp only [hh, hw, Nat.mul_comm b.val 2048]
  rfl

/-- The zero before a sequence. -/
theorem pad_zero (i : S_.Idx) : (sitofp .f32 (constantI S_ 32 0#32) : FVec Ideal S_ .f32) i = 0 := by
  show (((0#32 : BitVec 32).toInt : ℝ) : EReal) = 0
  simp

/-- The padded up-projection at an entry: row `s + e` of the padded array is `d` rows before row `s`, for `e + d = 2`. -/
theorem Rpad_at (u : FVec Ideal S8x2048x5632 .f32) (hu : ∀ (b : Fin 8) (s : Fin 2048) (n : Fin 5632), u (ix3 b s n) = fu A (2048 * b + s) n)
    (b : Fin 8) (s : Fin 2048) (n : Fin 5632) (e d : ℕ) (q : Fin 2050) (hq : q.val = s.val + e) (hd : e + d = 2) :
    Rpad u (ix3 b q n) = fup A (2048 * b + s) d n := by
  by_cases c : d ≤ s.val
  · refine (pad_apply_of_inside _ _ _ u _ _ _ (ix3 b q n) (ix3 b (⟨s.val - d, by omega⟩ : Fin 2048) n) ?_).trans ?_
    · intro a
      match a with
      | ⟨0, _⟩ => show b.val = 0 + b.val * (0 + 1); omega
      | ⟨1, _⟩ => show q.val = 2 + (s.val - d) * (0 + 1); omega
      | ⟨2, _⟩ => show n.val = 0 + n.val * (0 + 1); omega
    · rw [hu, fup, if_pos (by omega)]
      exact congrArg (fun r => fu A r n) (show 2048 * b.val + (s.val - d) = 2048 * b.val + s.val - d by omega)
  · refine (pad_apply_of_not_inside _ _ _ u _ _ _ (ix3 b q n) (1 : Fin 3) ?_).trans ?_
    · show ¬(2 ≤ q.val ∧ _)
      omega
    · rw [pad_zero, fup, if_neg (by omega)]

/-- A vector of channels at an entry. -/
theorem Rch_at (v : FVec Ideal S5632 .f32) (b : Fin 8) (s : Fin 2048) (n : Fin 5632) : Rch v (ix3 b s n) = v (ix1 n) := by
  pointwise [Rch]

/-- The convolution at an entry. -/
theorem Rconv_at (u : FVec Ideal S8x2048x5632 .f32) (cw : FVec Ideal S3x5632 .f32) (cb : FVec Ideal S5632 .f32)
    (hu : ∀ (b : Fin 8) (s : Fin 2048) (n : Fin 5632), u (ix3 b s n) = fu A (2048 * b + s) n)
    (hw : ∀ (d : Fin 3) (n : Fin 5632), cw (ix2 d n) = A.cw d n) (hb : ∀ n : Fin 5632, cb (ix1 n) = A.cb n)
    (b : Fin 8) (s : Fin 2048) (n : Fin 5632) : Rconv u cw cb (ix3 b s n) = fconv A (2048 * b + s) n := by
  have p0 := Rpad_at A u hu b s n 0 2 ⟨s.val, by omega⟩ rfl rfl
  have p1 := Rpad_at A u hu b s n 1 1 ⟨1 + s.val, by omega⟩ (Nat.add_comm _ _) rfl
  have p2 := Rpad_at A u hu b s n 2 0 ⟨2 + s.val, by omega⟩ (Nat.add_comm _ _) rfl
  have e0 : extractStridedSlice S8x2048x5632 ![0, 0, 0] (Rpad u) slices_S8x2050x5632_S8x2048x5632_0_0_0 (ix3 b s n) = fup A (2048 * b + s) 2 n := by
    refine Eq.trans ?_ p0
    pointwise
  have e1 : extractStridedSlice S8x2048x5632 ![0, 1, 0] (Rpad u) slices_S8x2050x5632_S8x2048x5632_0_1_0 (ix3 b s n) = fup A (2048 * b + s) 1 n := by
    refine Eq.trans ?_ p1
    pointwise
  have e2 : extractStridedSlice S8x2048x5632 ![0, 2, 0] (Rpad u) slices_S8x2050x5632_S8x2048x5632_0_2_0 (ix3 b s n) = fu A (2048 * b + s) n := by
    refine Eq.trans ?_ (p2.trans (fup_zero A _ _))
    pointwise
  have w0 : Rch (shapeCast _ (extractStridedSlice S1x5632 ![0, 0] cw slices_S3x5632_S1x5632_0_0) shapeCasts_S1x5632_S5632) (ix3 b s n) = A.cw 0 n := by
    rw [Rch_at]
    refine Eq.trans ?_ (hw 0 n)
    pointwise
  have w1 : Rch (shapeCast _ (extractStridedSlice S1x5632 ![1, 0] cw slices_S3x5632_S1x5632_1_0) shapeCasts_S1x5632_S5632) (ix3 b s n) = A.cw 1 n := by
    rw [Rch_at]
    refine Eq.trans ?_ (hw 1 n)
    pointwise
  have w2 : Rch (shapeCast _ (extractStridedSlice S1x5632 ![2, 0] cw slices_S3x5632_S1x5632_2_0) shapeCasts_S1x5632_S5632) (ix3 b s n) = A.cw 2 n := by
    rw [Rch_at]
    refine Eq.trans ?_ (hw 2 n)
    pointwise
  have wb : Rch cb (ix3 b s n) = A.cb n := (Rch_at cb b s n).trans (hb n)
  have f : ∀ X0 W0 X1 W1 X2 W2 B : FVec Ideal S8x2048x5632 .f32, (addf (addf (addf (mulf X0 W0) (mulf X1 W1)) (mulf X2 W2)) B) (ix3 b s n)
      = ((X0 (ix3 b s n) * W0 (ix3 b s n) + X1 (ix3 b s n) * W1 (ix3 b s n) + X2 (ix3 b s n) * W2 (ix3 b s n) + B (ix3 b s n) : EReal)) :=
    fun _ _ _ _ _ _ _ => rfl
  rw [Rconv, f, e0, e1, e2, w0, w1, w2, wb, fconv, mul_comm (fup A _ 2 _), mul_comm (fup A _ 1 _), mul_comm (fu A _ _)]
  abel

/-- The gated activation at an entry. -/
theorem Ract_at (hA : A.Finite) (v : FVec Ideal S8x2048x5632 .f32) (hv : ∀ (b : Fin 8) (s : Fin 2048) (n : Fin 5632), v (ix3 b s n) = fconv A (2048 * b + s) n)
    (b : Fin 8) (s : Fin 2048) (j : Fin 2816) : Ract v (ix3 b s j) = fact A (2048 * b + s) j := by
  have e : Ract v (ix3 b s j) = (fconv A (2048 * b + s) j * Ideal.div 1 (1 + Ideal.exp (-(fconv A (2048 * b + s) j)))) * fconv A (2048 * b + s) (2816 + j) := by
    pointwise [Ract]
    simp only [hv]
  rw [e, fact, silu_eq (hA.conv _ _)]

/-- The residual stream at an entry. -/
theorem Ry_at (x1 : FVec Ideal S16384x1024 .f32) (a : FVec Ideal S8x2048x2816 .f32) (wd : FVec Ideal S2816x1024 .f32)
    (hx : ∀ (r : Fin 16384) (k : Fin 1024), x1 (ix2 r k) = A.x1 r k)
    (ha : ∀ (b : Fin 8) (s : Fin 2048) (j : Fin 2816), a (ix3 b s j) = fact A (2048 * b + s) j)
    (hw : ∀ (j : Fin 2816) (q : Fin 1024), wd (ix2 j q) = A.wd j q) (b : Fin 8) (s : Fin 2048) (q : Fin 1024) :
    Ry x1 a wd (ix3 b s q) = fy A (2048 * b + s) q := by
  pointwise [Ry]
  simp only [hx, ha, hw, Nat.mul_comm b.val 2048]
  rfl

/-- The norm's factor at an entry. -/
theorem Rrs_at (y : FVec Ideal S8x2048x1024 .f32) (hy : ∀ (b : Fin 8) (s : Fin 2048) (q : Fin 1024), y (ix3 b s q) = fy A (2048 * b + s) q)
    (b : Fin 8) (s : Fin 2048) : Rrs y (ix3 b s 0) = frs A (2048 * b + s) := by
  pointwise [Rrs]
  simp only [hy]
  rfl

/-- The result at an entry. -/
theorem Rout_at (y : FVec Ideal S8x2048x1024 .f32) (g : FVec Ideal S1024 .f32)
    (hy : ∀ (b : Fin 8) (s : Fin 2048) (q : Fin 1024), y (ix3 b s q) = fy A (2048 * b + s) q) (hg : ∀ q : Fin 1024, g (ix1 q) = A.g q)
    (r : Fin 16384) (q : Fin 1024) : Rout y g (ix2 r q) = fout A r q := by
  have hr := Rrs_at A y hy
  rw [Rout]
  generalize Rrs y = n at hr
  pointwise
  simp only [hy, hg, hr]
  have e : 2048 * (r.val / 2048) + r.val % 2048 = r.val := by omega
  rw [e]
  rfl
end at_

/-- The arguments as functions. -/
def args (m : (ℓ : Loc nD τ sig) → Buf (Elt Ideal) ℓ) (c : Dev nD) : FArgs :=
  fargsOf (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))

/-- The reference's result is those stages, one after another. -/
theorem res_stages (m : (ℓ : Loc nD τ sig) → Buf (Elt Ideal) ℓ) (c : Dev nD) :
    res_main_v47 m c = Rout (Ry (m ((c.tc : Thread nD τ).loc main_arg1))
      (Ract (Rconv (Ru (m ((c.tc : Thread nD τ).loc main_arg0)) (m ((c.tc : Thread nD τ).loc main_arg2))) (m ((c.tc : Thread nD τ).loc main_arg3)) (m ((c.tc : Thread nD τ).loc main_arg4))))
      (m ((c.tc : Thread nD τ).loc main_arg5))) (m ((c.tc : Thread nD τ).loc main_arg6)) := rfl

/-- The reference's result at an entry. -/
theorem res_at (m : (ℓ : Loc nD τ sig) → Buf (Elt Ideal) ℓ) (c : Dev nD) (hA : (args m c).Finite) (r : Fin 16384) (q : Fin 1024) :
    (res_main_v47 m c (ix2 r q) : EReal) = fout (args m c) r q := by
  rw [res_stages]
  exact Rout_at (args m c) _ _ (Ry_at (args m c) _ _ _ (fun r k => Cert.Ssd.ext2_eq _ r k rfl rfl)
    (Ract_at (args m c) hA _ (Rconv_at (args m c) _ _ _ (Ru_at (args m c) _ _ (fun r k => Cert.Ssd.ext2_eq _ r k rfl rfl) (fun k n => Cert.Ssd.ext2_eq _ k n rfl rfl))
      (fun d n => Cert.Ssd.ext2_eq _ d n rfl rfl) (fun n => Cert.Ssd.ext1_eq _ n rfl)))
    (fun j q => Cert.Ssd.ext2_eq _ j q rfl rfl)) (fun q => Cert.Ssd.ext1_eq _ q rfl) r q

end Cert.Reference2Ideal.Value

end
-- ==== Proof.Ssd.Pre.lean ====
/- The precondition of the statements, read: every entry it tests is a real number. -/
module

public import proofs.«01_k».proof.Defs
public import proofs.«01_k».proof.Proof.Ssd.Ext

@[expose] public section

noncomputable section

open Idealize.ShloMosaic

namespace Cert.Pre_inputs_finite
open Cert.Ssd

/-- The side conditions of the precondition. -/
theorem facts : Facts where
  bcast_S_S8x2048x1024 := by decide
  bcast_S_S8x2048x1536 := by decide
  bcast_S_S8x2048x16 := by decide
  bcast_S_S4x1536 := by decide
  bcast_S_S1536 := by decide
  bcast_S_S16 := by decide

/-- The pattern the absolute values are compared with is infinity. -/
theorem inf_eq : Ideal.ofBits .f32 0x7F800000#32 = (⊤ : EReal) := by
  simp [Ideal.ofBits, Ideal.ieee]

/-- An array whose absolute values all test below infinity has real entries. -/
theorem real_of_test {S : Shape} (hb : S_.BroadcastsInDim S (![] : Fin 0 → Fin S.rank)) (X : FVec Ideal S .f32)
    (h : cmpf .olt (Host.absf X) (broadcastInDim S ![] hb (constant S_ .f32 0x7F800000#32)) = fun _ => 1#1) (i : S.Idx) : Real' (X i) := by
  have e : Ideal.cmp .olt (max (X i : EReal) (-(X i : EReal))) (Ideal.ofBits .f32 0x7F800000#32) = 1#1 := congrFun h i
  rw [inf_eq] at e
  refine Real'.of_abs_lt ?_
  by_contra hn
  simp [Ideal.cmp, hn] at e

/-- The tested arguments of the closed form are real. -/
theorem finite_of [Facts] (z : FVec Ideal S8x2048x1024 .f32) (x : FVec Ideal S8x2048x1536 .f32) (dt : FVec Ideal S8x2048x16 .f32) (cw : FVec Ideal S4x1536 .f32)
    (cb : FVec Ideal S1536 .f32) (dtb al ds : FVec Ideal S16 .f32) (ng : FVec Ideal S1024 .f32)
    (h : (fn (F := Ideal) z x dt cw cb dtb al ds ng).1 = (fun _ => 1#1)
      ∧ (fn (F := Ideal) z x dt cw cb dtb al ds ng).2.1 = (fun _ => 1#1)
      ∧ (fn (F := Ideal) z x dt cw cb dtb al ds ng).2.2.1 = (fun _ => 1#1)
      ∧ (fn (F := Ideal) z x dt cw cb dtb al ds ng).2.2.2.1 = (fun _ => 1#1)
      ∧ (fn (F := Ideal) z x dt cw cb dtb al ds ng).2.2.2.2.1 = (fun _ => 1#1)
      ∧ (fn (F := Ideal) z x dt cw cb dtb al ds ng).2.2.2.2.2.1 = (fun _ => 1#1)
      ∧ (fn (F := Ideal) z x dt cw cb dtb al ds ng).2.2.2.2.2.2.1 = (fun _ => 1#1)
      ∧ (fn (F := Ideal) z x dt cw cb dtb al ds ng).2.2.2.2.2.2.2 = (fun _ => 1#1)) :
    (argsOf z x dt cw cb dtb al ds ng).Finite := by
  obtain ⟨h0, h1, h2, h3, h4, h5, h6, h7⟩ := h
  exact ⟨real_ext3 (real_of_test _ z h0), real_ext3 (real_of_test _ x h1), real_ext3 (real_of_test _ dt h2), real_ext2 (real_of_test _ cw h3),
    real_ext1 (real_of_test _ cb h4), real_ext1 (real_of_test _ dtb h5), real_ext1 (real_of_test _ al h6), real_ext1 (real_of_test _ ds h7)⟩

end Cert.Pre_inputs_finite

end
-- ==== Proof.Ssd.Point.lean ====
/- What the windows hold at one grid point, and what each load of the body reads there. -/
module

public import proofs.«01_k».proof.Proof.Ssd.Cols
public import proofs.«01_k».proof.Proof.Gen.KernelIdeal.Frame

@[expose] public section

set_option maxRecDepth 16384

noncomputable section

open Idealize.ShloMosaic Idealize.ShloMosaic.TcCoe Idealize.SL.Sem

namespace Cert.KernelIdeal.Value
open Cert.KernelIdeal Cert.KernelIdeal.Gen Cert.Ssd

/-- The input windows of chunk `k` of sequence `b`. -/
structure PtIn (A : Args) (b k : ℕ) (x0 : FVec Ideal S128x1536 .f32) (x1 : FVec Ideal S128x1024 .f32) (x2 x3 : FVec Ideal S128x128 .f32)
    (x4 : FVec Ideal S4x1536 .f32) (x5 : FVec Ideal S1x1536 .f32) (x6 : FVec Ideal S1x16 .f32) (x7 : FVec Ideal S16x1 .f32) (x8 : FVec Ideal S1x16 .f32)
    (x9 : FVec Ideal S16x1 .f32) (x10 : FVec Ideal S1x16 .f32) (x11 : FVec Ideal S1x1024 .f32) : Prop where
  x0 : ∀ (l : Fin 128) (q : Fin 1536), x0 (ix2 l q) = A.x b (128 * k + l) q
  x1 : ∀ (l : Fin 128) (q : Fin 1024), x1 (ix2 l q) = silu (A.z b (128 * k + l) q)
  x2 : ∀ (l : Fin 128) (q : Fin 128), q.val < 16 → x2 (ix2 l q) = A.dt b (128 * k + l) q
  x3 : ∀ (q : Fin 128) (l : Fin 128), q.val < 16 → x3 (ix2 q l) = A.dt b (128 * k + l) q
  x4 : ∀ (r : Fin 4) (q : Fin 1536), x4 (ix2 r q) = A.cw r q
  x5 : ∀ (r : Fin 1) (q : Fin 1536), x5 (ix2 r q) = A.cb q
  x6 : ∀ (r : Fin 1) (h : Fin 16), x6 (ix2 r h) = A.dtb h
  x7 : ∀ (h : Fin 16) (r : Fin 1), x7 (ix2 h r) = A.dtb h
  x8 : ∀ (r : Fin 1) (h : Fin 16), x8 (ix2 r h) = A.al h
  x9 : ∀ (h : Fin 16) (r : Fin 1), x9 (ix2 h r) = A.al h
  x10 : ∀ (r : Fin 1) (h : Fin 16), x10 (ix2 r h) = A.ds h
  x11 : ∀ (r : Fin 1) (q : Fin 1024), x11 (ix2 r q) = A.ng q

namespace PtIn
variable {A : Args} {b k : ℕ} {x0 : FVec Ideal S128x1536 .f32} {x1 : FVec Ideal S128x1024 .f32} {x2 x3 : FVec Ideal S128x128 .f32}
    {x4 : FVec Ideal S4x1536 .f32} {x5 : FVec Ideal S1x1536 .f32} {x6 : FVec Ideal S1x16 .f32} {x7 : FVec Ideal S16x1 .f32} {x8 : FVec Ideal S1x16 .f32}
    {x9 : FVec Ideal S16x1 .f32} {x10 : FVec Ideal S1x16 .f32} {x11 : FVec Ideal S1x1024 .f32}
  (H : PtIn A b k x0 x1 x2 x3 x4 x5 x6 x7 x8 x9 x10 x11)
include H

theorem rd0 (arg : Memref sig .tc .vmem S128x1536 .f32) (harg : arg.IsWhole) (inb) (l : Fin 128) (q : Fin 1536) :
    (View.readAt (Elt Ideal) arg.view (Rect.unit (s := S128x1536) ![0, 0] S128x1536.size inb).toLoadRect (harg.unread x0) (ix2 l q) : EReal) = A.x b (128 * k + l) q := by
  refine (read_at (F := Ideal) arg harg x0 inb l q (by omega) (by omega)).trans ?_
  refine (H.x0 _ _).trans ?_
  simp only [Nat.zero_add, Nat.add_zero]
theorem rd1 (arg : Memref sig .tc .vmem S128x1024 .f32) (harg : arg.IsWhole) (inb) (l : Fin 128) (q : Fin 1024) :
    (View.readAt (Elt Ideal) arg.view (Rect.unit (s := S128x1024) ![0, 0] S128x1024.size inb).toLoadRect (harg.unread x1) (ix2 l q) : EReal) = silu (A.z b (128 * k + l) q) := by
  refine (read_at (F := Ideal) arg harg x1 inb l q (by omega) (by omega)).trans ?_
  refine (H.x1 _ _).trans ?_
  simp only [Nat.zero_add, Nat.add_zero]
theorem rd2 (arg : Memref sig .tc .vmem S128x128 .f32) (harg : arg.IsWhole) (inb) (l : Fin 128) (h : Fin 16) :
    (View.readAt (Elt Ideal) arg.view (Rect.unit (s := S128x128) ![0, 0] S128x16.size inb).toLoadRect (harg.unread x2) (ix2 l h) : EReal) = A.dt b (128 * k + l) h := by
  refine (read_at (F := Ideal) arg harg x2 inb l h (by omega) (by omega)).trans ?_
  refine (H.x2 _ _ (by show 0 + h.val < 16; omega)).trans ?_
  simp only [Nat.zero_add, Nat.add_zero]
theorem rd3 (arg : Memref sig .tc .vmem S128x128 .f32) (harg : arg.IsWhole) (inb) (l : Fin 128) (h : Fin 16) :
    (View.readAt (Elt Ideal) arg.view (Rect.unit (s := S128x128) ![0, 0] S16x128.size inb).toLoadRect (harg.unread x3) (ix2 h l) : EReal) = A.dt b (128 * k + l) h := by
  refine (read_at (F := Ideal) arg harg x3 inb h l (by omega) (by omega)).trans ?_
  refine (H.x3 _ _ (by show 0 + h.val < 16; omega)).trans ?_
  simp only [Nat.zero_add, Nat.add_zero]
theorem rd4 (arg : Memref sig .tc .vmem S4x1536 .f32) (harg : arg.IsWhole) (r : Fin 4) (inb) (q : Fin 1536) :
    (View.readAt (Elt Ideal) arg.view (Rect.unit (s := S4x1536) ![r.val, 0] S1x1536.size inb).toLoadRect (harg.unread x4) (ix2 0 q) : EReal) = A.cw r q := by
  refine (read_at (F := Ideal) (m' := 1) arg harg x4 inb 0 q (by have := r.isLt; simp) (by omega)).trans ?_
  refine (H.x4 _ _).trans ?_
  simp
theorem rd5 (arg : Memref sig .tc .vmem S1x1536 .f32) (harg : arg.IsWhole) (inb) (q : Fin 1536) :
    (View.readAt (Elt Ideal) arg.view (Rect.unit (s := S1x1536) ![0, 0] S1x1536.size inb).toLoadRect (harg.unread x5) (ix2 0 q) : EReal) = A.cb q := by
  refine (read_at (F := Ideal) arg harg x5 inb 0 q (by omega) (by omega)).trans ?_
  refine (H.x5 _ _).trans ?_
  simp only [Nat.zero_add, Nat.add_zero]
theorem rd6 (arg : Memref sig .tc .vmem S1x16 .f32) (harg : arg.IsWhole) (inb) (h : Fin 16) :
    (View.readAt (Elt Ideal) arg.view (Rect.unit (s := S1x16) ![0, 0] S1x16.size inb).toLoadRect (harg.unread x6) (ix2 0 h) : EReal) = A.dtb h := by
  refine (read_at (F := Ideal) arg harg x6 inb 0 h (by omega) (by omega)).trans ?_
  refine (H.x6 _ _).trans ?_
  simp only [Nat.zero_add, Nat.add_zero]
theorem rd7 (arg : Memref sig .tc .vmem S16x1 .f32) (harg : arg.IsWhole) (inb) (h : Fin 16) :
    (View.readAt (Elt Ideal) arg.view (Rect.unit (s := S16x1) ![0, 0] S16x1.size inb).toLoadRect (harg.unread x7) (ix2 h 0) : EReal) = A.dtb h := by
  refine (read_at (F := Ideal) arg harg x7 inb h 0 (by omega) (by omega)).trans ?_
  refine (H.x7 _ _).trans ?_
  simp only [Nat.zero_add, Nat.add_zero]
theorem rd8 (arg : Memref sig .tc .vmem S1x16 .f32) (harg : arg.IsWhole) (inb) (h : Fin 16) :
    (View.readAt (Elt Ideal) arg.view (Rect.unit (s := S1x16) ![0, 0] S1x16.size inb).toLoadRect (harg.unread x8) (ix2 0 h) : EReal) = A.al h := by
  refine (read_at (F := Ideal) arg harg x8 inb 0 h (by omega) (by omega)).trans ?_
  refine (H.x8 _ _).trans ?_
  simp only [Nat.zero_add, Nat.add_zero]
theorem rd9 (arg : Memref sig .tc .vmem S16x1 .f32) (harg : arg.IsWhole) (inb) (h : Fin 16) :
    (View.readAt (Elt Ideal) arg.view (Rect.unit (s := S16x1) ![0, 0] S16x1.size inb).toLoadRect (harg.unread x9) (ix2 h 0) : EReal) = A.al h := by
  refine (read_at (F := Ideal) arg harg x9 inb h 0 (by omega) (by omega)).trans ?_
  refine (H.x9 _ _).trans ?_
  simp only [Nat.zero_add, Nat.add_zero]
theorem rd10 (arg : Memref sig .tc .vmem S1x16 .f32) (harg : arg.IsWhole) (inb) (h : Fin 16) :
    (View.readAt (Elt Ideal) arg.view (Rect.unit (s := S1x16) ![0, 0] S1x16.size inb).toLoadRect (harg.unread x10) (ix2 0 h) : EReal) = A.ds h := by
  refine (read_at (F := Ideal) arg harg x10 inb 0 h (by omega) (by omega)).trans ?_
  refine (H.x10 _ _).trans ?_
  simp only [Nat.zero_add, Nat.add_zero]
theorem rd11 (arg : Memref sig .tc .vmem S1x1024 .f32) (harg : arg.IsWhole) (inb) (q : Fin 1024) :
    (View.readAt (Elt Ideal) arg.view (Rect.unit (s := S1x1024) ![0, 0] S1x1024.size inb).toLoadRect (harg.unread x11) (ix2 0 q) : EReal) = A.ng q := by
  refine (read_at (F := Ideal) arg harg x11 inb 0 q (by omega) (by omega)).trans ?_
  refine (H.x11 _ _).trans ?_
  simp only [Nat.zero_add, Nat.add_zero]
end PtIn

/-- The convolution's buffer after the chunk's rows were stored over it, read whole. -/
theorem xcat_at (arg : Memref sig .tc .vmem S136x1536 .f32) (harg : arg.IsWhole) (X : FVec Ideal S136x1536 .f32)
    (inb8 inb0) (P : FVec Ideal S128x1536 .f32) (i : Fin 136) (q : Fin 1536) :
    View.readAt (Elt Ideal) arg.view (Rect.unit (s := S136x1536) ![0, 0] S136x1536.size inb0).toLoadRect
      (arg.view.writes (Elt Ideal) (harg.unread X) [⟨Rect.unit (s := S136x1536) ![8, 0] S128x1536.size inb8, P⟩]) (ix2 i q)
      = if h : 8 ≤ i.val then P (ix2 ⟨i.val - 8, by omega⟩ q) else X (ix2 i q) := by
  rw [View.readAt_apply]
  have e : (Rect.unit (s := S136x1536) ![0, 0] S136x1536.size inb0).toLoadRect.idx (ix2 i q) = ix2 i q := by
    refine (emb_at inb0 i q (by omega) (by omega)).trans ?_
    exact congr (congrArg ix2 (Fin.ext (Nat.zero_add _))) (Fin.ext (Nat.zero_add _))
  rw [e]
  by_cases h : 8 ≤ i.val
  · rw [dif_pos h]
    have e2 : (ix2 i q : S136x1536.Idx) = (Rect.unit (s := S136x1536) ![8, 0] S128x1536.size inb8).emb (ix2 ⟨i.val - 8, by omega⟩ q) := by
      refine Eq.trans ?_ (emb_at inb8 (⟨i.val - 8, by omega⟩ : Fin 128) q (by show 8 + (i.val - 8) < 136; omega) (by omega)).symm
      exact congr (congrArg ix2 (Fin.ext (show i.val = 8 + (i.val - 8) by omega))) (Fin.ext (Nat.zero_add _).symm)
    rw [e2]
    exact View.read_writes_cons_emb arg.view _ _ _ _ _
  · rw [dif_neg h, View.writes_cons, View.read_slice_write_of_not_mem]
    · rw [View.writes_nil, harg.read_unread]
    · rw [Rect.map_emb_univ]
      exact not_mem_unit inb8 i q (by omega)

end Cert.KernelIdeal.Value

end
-- ==== Proof.Ssd.CaseA.lean ====
/- What the body computes at the first chunk of a sequence, word by word, and what it leaves. -/
module

public import proofs.«01_k».proof.Proof.Ssd.Point

@[expose] public section

set_option maxRecDepth 16384

noncomputable section

open Idealize.ShloMosaic Idealize.ShloMosaic.TcCoe Idealize.SL.Sem

namespace Cert.KernelIdeal.Value
open Cert.KernelIdeal Cert.KernelIdeal.Gen Cert.Ssd

variable {A : Args} {b k : ℕ} {c : Dev nD} {i : grid0.Coords}
  {arg2 : Memref sig .tc .vmem S128x1536 .f32} {harg2 : arg2.IsWhole}
  {arg3 : Memref sig .tc .vmem S128x1024 .f32} {harg3 : arg3.IsWhole}
  {arg4 : Memref sig .tc .vmem S128x128 .f32} {harg4 : arg4.IsWhole}
  {arg5 : Memref sig .tc .vmem S128x128 .f32} {harg5 : arg5.IsWhole}
  {arg6 : Memref sig .tc .vmem S4x1536 .f32} {harg6 : arg6.IsWhole}
  {arg7 : Memref sig .tc .vmem S1x1536 .f32} {harg7 : arg7.IsWhole}
  {arg8 : Memref sig .tc .vmem S1x16 .f32} {harg8 : arg8.IsWhole}
  {arg9 : Memref sig .tc .vmem S16x1 .f32} {harg9 : arg9.IsWhole}
  {arg10 : Memref sig .tc .vmem S1x16 .f32} {harg10 : arg10.IsWhole}
  {arg11 : Memref sig .tc .vmem S16x1 .f32} {harg11 : arg11.IsWhole}
  {arg12 : Memref sig .tc .vmem S1x16 .f32} {harg12 : arg12.IsWhole}
  {arg13 : Memref sig .tc .vmem S1x1024 .f32} {harg13 : arg13.IsWhole}
  {arg14 : Memref sig .tc .vmem S128x1024 .bf16} {harg14 : arg14.IsWhole}
  {arg15 : Memref sig .tc .vmem S136x1536 .f32} {harg15 : arg15.IsWhole}
  {arg16 : Memref sig .tc .vmem S128x1024 .f32} {harg16 : arg16.IsWhole}
  {arg17 : Memref sig .tc .vmem S128x1024 .f32} {harg17 : arg17.IsWhole}
  {x0 : FVec Ideal S128x1536 .f32} {x1 : FVec Ideal S128x1024 .f32} {x2 : FVec Ideal S128x128 .f32} {x3 : FVec Ideal S128x128 .f32} {x4 : FVec Ideal S4x1536 .f32} {x5 : FVec Ideal S1x1536 .f32} {x6 : FVec Ideal S1x16 .f32} {x7 : FVec Ideal S16x1 .f32} {x8 : FVec Ideal S1x16 .f32} {x9 : FVec Ideal S16x1 .f32} {x10 : FVec Ideal S1x16 .f32} {x11 : FVec Ideal S1x1024 .f32}
  (hA : A.Finite) (H : PtIn A b 0 x0 x1 x2 x3 x4 x5 x6 x7 x8 x9 x10 x11)
include hA H

/-- The convolution's buffer: eight rows of zeros, then the chunk. -/
theorem A_v8 : ∀ (r : Fin 136) (q : Fin 1536), (kernelRun0_A.sl.v8 (F := Ideal) c arg2 harg2 arg15 x0 (ix2 r q) : EReal) = xp A b (128 * 0 + r) q := by
  intro r q
  unfold kernelRun0_A.sl.v8 kernelRun0_A.sl.HS0_2
  rw [View.readCov_eq_canon']
  have e : (Rect.unit (s := S136x1536) ![0, 0] S136x1536.size inb_S136x1536_S136x1536_0_0).toLoadRect.idx (ix2 r q) = ix2 r q := by
    refine (emb_at inb_S136x1536_S136x1536_0_0 r q (by omega) (by omega)).trans ?_
    exact congr (congrArg ix2 (Fin.ext (Nat.zero_add _))) (Fin.ext (Nat.zero_add _))
  refine (congrArg (View.canon _) e).trans ?_
  by_cases h : 8 ≤ r.val
  · have e2 : (ix2 r q : S136x1536.Idx) = ix2 ⟨8 + (⟨r.val - 8, by omega⟩ : Fin 128).val, by show 8 + (r.val - 8) < 136; omega⟩ ⟨0 + q.val, by omega⟩ :=
      congr (congrArg ix2 (Fin.ext (show r.val = 8 + (r.val - 8) by omega))) (Fin.ext (Nat.zero_add _).symm)
    rw [e2]
    refine (canon_in inb_S136x1536_S128x1536_8_0 _ _ (⟨r.val - 8, by omega⟩ : Fin 128) q _ _).trans ?_
    pointwise [k0_pay4]
    refine (H.rd0 _ _ _ _ _).trans ?_
    rw [xp, if_pos (by omega)]
    refine congrArg (fun n => A.x b n q) ?_
    first
      | (show 128 * 0 + (r.val - 8) = 128 * 0 + r.val - 8; omega)
      | (show 128 * 0 + (r.val - 8) = r.val - 8; omega)
  · refine (canon_out inb_S136x1536_S128x1536_8_0 _ _ r q (by omega)).trans ?_
    have e2 : (ix2 r q : S136x1536.Idx) = ix2 ⟨0 + (⟨r.val, by omega⟩ : Fin 8).val, by show 0 + r.val < 136; omega⟩ ⟨0 + q.val, by omega⟩ :=
      congr (congrArg ix2 (Fin.ext (Nat.zero_add _).symm)) (Fin.ext (Nat.zero_add _).symm)
    rw [e2]
    refine (canon_in inb_S136x1536_S8x1536_0_0 _ _ (⟨r.val, by omega⟩ : Fin 8) q _ _).trans ?_
    pointwise [k0_pay2]
    rw [xp, if_neg (by omega)]
/-- The convolution. -/
theorem A_r : ∀ (l : Fin 128) (q : Fin 1536), (kernelRun0_A.sl.r (F := Ideal) c arg2 harg2 arg6 harg6 arg7 harg7 arg15 x0 x4 x5 (ix2 l q) : EReal) = conv A b (128 * 0 + l) q := by
  exact pay5_at A b 0 _ _ _ _ _ _ (A_v8 hA H) (fun q => H.rd5 _ _ _ q) (fun q => H.rd4 _ _ 3 _ q) (fun q => H.rd4 _ _ 0 _ q) (fun q => H.rd4 _ _ 1 _ q) (fun q => H.rd4 _ _ 2 _ q)
theorem A_r_1 : ∀ (l : Fin 128) (q : Fin 1024), (kernelRun0_A.sl.r_1 (F := Ideal) c arg2 harg2 arg6 harg6 arg7 harg7 arg15 x0 x4 x5 (ix2 l q) : EReal) = xs A b 0 l q := by
  exact pay8_at A b 0 _ (A_r hA H)
theorem A_r_2 : ∀ (l : Fin 128) (q : Fin 256), (kernelRun0_A.sl.r_2 (F := Ideal) c arg2 harg2 arg6 harg6 arg7 harg7 arg15 x0 x4 x5 (ix2 l q) : EReal) = u A b (128 * 0 + l) (1024 + q) := by
  exact pay9_at A b 0 _ (A_r hA H)
theorem A_r_3 : ∀ (l : Fin 128) (q : Fin 256), (kernelRun0_A.sl.r_3 (F := Ideal) c arg2 harg2 arg6 harg6 arg7 harg7 arg15 x0 x4 x5 (ix2 l q) : EReal) = u A b (128 * 0 + l) (1280 + q) := by
  exact pay10_at A b 0 _ (A_r hA H)
/-- The step sizes. -/
theorem A_r_4 : ∀ (l : Fin 128) (h : Fin 16), (kernelRun0_A.sl.r_4 (F := Ideal) c arg4 harg4 arg8 harg8 x2 x6 (ix2 l h) : EReal) = dtv A b (128 * 0 + l) h := by
  exact pay11_at A b 0 _ _ (fun l h => H.rd2 _ _ _ l h) (fun h => H.rd6 _ _ _ h)
theorem A_r_5 : ∀ (l : Fin 128) (h : Fin 16), (kernelRun0_A.sl.r_5 (F := Ideal) c arg5 harg5 arg9 harg9 x3 x7 (ix2 h l) : EReal) = dtv A b (128 * 0 + l) h := by
  exact pay12_at A b 0 _ _ (fun l h => H.rd3 _ _ _ l h) (fun h => H.rd7 _ _ _ h)
theorem A_r_6 : ∀ h : Fin 16, (kernelRun0_A.sl.r_6 (F := Ideal) c arg10 harg10 x8 (ix2 0 h) : EReal) = A.al h := by
  exact fun h => (pay13_at _ h).trans (H.rd8 _ _ _ h)
/-- The summed log decays. -/
theorem A_r_7 : ∀ (l : Fin 128) (h : Fin 16), (kernelRun0_A.sl.r_7 (F := Ideal) c arg4 harg4 arg8 harg8 arg10 harg10 x2 x6 x8 (ix2 l h) : EReal) = acs A b 0 l h := by
  exact pay15_at A b 0 _ _ (A_r_4 hA H) (A_r_6 hA H)
theorem A_r_8 : ∀ (l : Fin 128) (h : Fin 16), (kernelRun0_A.sl.r_8 (F := Ideal) c arg5 harg5 arg9 harg9 arg11 harg11 x3 x7 x9 (ix2 h l) : EReal) = acs A b 0 l h := by
  exact pay16_at A b 0 _ _ (A_r_5 hA H) (fun h => H.rd9 _ _ _ h)
theorem A_r_9 : ∀ (l : Fin 128) (h : Fin 16), (kernelRun0_A.sl.r_9 (F := Ideal) c arg4 harg4 arg8 harg8 arg10 harg10 x2 x6 x8 (ix2 l h) : EReal) = wst A b 0 l h := by
  exact pay18_at A b 0 _ _ (A_r_4 hA H) (A_r_6 hA H)
theorem A_r_10 : ∀ (l : Fin 128) (h : Fin 16), (kernelRun0_A.sl.r_10 (F := Ideal) c arg4 harg4 arg8 harg8 arg10 harg10 x2 x6 x8 (ix2 l h) : EReal) = Ideal.exp (acs A b 0 l h) := by
  exact pay19_at A b 0 _ _ (A_r_4 hA H) (A_r_6 hA H)
theorem A_r_11 : ∀ h : Fin 16, (kernelRun0_A.sl.r_11 (F := Ideal) c arg4 harg4 arg8 harg8 arg10 harg10 x2 x6 x8 (ix2 0 h) : EReal) = Ideal.exp (acs A b 0 127 h) := by
  exact pay20_at A b 0 _ _ (A_r_4 hA H) (A_r_6 hA H)
/-- The per-head numbers spread over the lanes. -/
theorem A_r_12 : ∀ q : Fin 1024, (kernelRun0_A.sl.r_12 (F := Ideal) c arg4 harg4 arg8 harg8 arg10 harg10 arg12 harg12 x2 x6 x8 x10 (ix2 0 q) : EReal) = Ideal.exp (acs A b 0 127 (q.val / 64)) := by
  exact pay25_at b 0 hA _ _ _ _ _ (A_r_4 hA H) (A_r_9 hA H) (A_r_10 hA H) (A_r_11 hA H) (fun h => H.rd10 _ _ _ h)
theorem A_r_13 : ∀ q : Fin 1024, (kernelRun0_A.sl.r_13 (F := Ideal) c arg4 harg4 arg8 harg8 arg10 harg10 arg12 harg12 x2 x6 x8 x10 (ix2 0 q) : EReal) = A.ds (q.val / 64) := by
  exact pay26_at b 0 hA _ _ _ _ _ (A_r_4 hA H) (A_r_9 hA H) (A_r_10 hA H) (A_r_11 hA H) (fun h => H.rd10 _ _ _ h)
theorem A_r_14 : ∀ (l : Fin 128) (q : Fin 1024), (kernelRun0_A.sl.r_14 (F := Ideal) c arg2 harg2 arg4 harg4 arg6 harg6 arg7 harg7 arg8 harg8 arg10 harg10 arg12 harg12 arg15 x0 x2 x4 x5 x6 x8 x10 (ix2 l q) : EReal) = xdt A b 0 l q := by
  exact pay27_at b 0 hA _ _ _ _ _ (A_r_4 hA H) (A_r_9 hA H) (A_r_10 hA H) (A_r_11 hA H) (fun h => H.rd10 _ _ _ h) _ (A_r_1 hA H)
theorem A_r_15 : ∀ (l : Fin 128) (q : Fin 1024), (kernelRun0_A.sl.r_15 (F := Ideal) c arg2 harg2 arg4 harg4 arg6 harg6 arg7 harg7 arg8 harg8 arg10 harg10 arg12 harg12 arg15 x0 x2 x4 x5 x6 x8 x10 (ix2 l q) : EReal) = xs A b 0 l q * wst A b 0 l (q.val / 64) := by
  exact pay28_at b 0 hA _ _ _ _ _ (A_r_4 hA H) (A_r_9 hA H) (A_r_10 hA H) (A_r_11 hA H) (fun h => H.rd10 _ _ _ h) _ (A_r_1 hA H)
theorem A_r_16 : ∀ (l : Fin 128) (q : Fin 1024), (kernelRun0_A.sl.r_16 (F := Ideal) c arg4 harg4 arg8 harg8 arg10 harg10 arg12 harg12 x2 x6 x8 x10 (ix2 l q) : EReal) = Ideal.exp (acs A b 0 l (q.val / 64)) := by
  exact pay29_at b 0 hA _ _ _ _ _ (A_r_4 hA H) (A_r_9 hA H) (A_r_10 hA H) (A_r_11 hA H) (fun h => H.rd10 _ _ _ h)
/-- Both groups' products. -/
theorem A_r_17 : ∀ l n : Fin 128, (kernelRun0_A.sl.r_17 (F := Ideal) c arg2 harg2 arg6 harg6 arg7 harg7 arg15 x0 x4 x5 (ix2 l n) : EReal) = bm A b 0 0 l n := by
  exact pay30_at b 0 _ (A_r_2 hA H)
theorem A_r_18 : ∀ l n : Fin 128, (kernelRun0_A.sl.r_18 (F := Ideal) c arg2 harg2 arg6 harg6 arg7 harg7 arg15 x0 x4 x5 (ix2 l n) : EReal) = cbm A b 0 0 l n := by
  exact pay32_at b 0 _ _ (A_r_2 hA H) (A_r_3 hA H)
theorem A_r_24 : ∀ l n : Fin 128, (kernelRun0_A.sl.r_24 (F := Ideal) c arg2 harg2 arg6 harg6 arg7 harg7 arg15 x0 x4 x5 (ix2 l n) : EReal) = cbm A b 0 1 l n := by
  exact pay49_at b 0 _ _ (A_r_2 hA H) (A_r_3 hA H)
/-- The state entering the first chunk is zero. -/
theorem A_v166 : ∀ (n : Fin 128) (q : Fin 512), (kernelRun0_A.sl.v166 (F := Ideal) c arg16 (ix2 n q) : EReal) = state A b 0 n q := by
  have h : Cols (kernelRun0_A.sl.HS1_1 (F := Ideal) ) 0 1024 (state A b 0) := by
    unfold kernelRun0_A.sl.HS1_1
    exact Cols.head (o := 0) (w := 1024) _ _ (fun l p => by pointwise [k0_pay3]; rfl)
  intro n q
  exact (h.read arg16.view _ (by omega) (by omega) (by omega) n q).trans (by simp only [Nat.zero_add])
theorem A_r_19 : ∀ (l : Fin 128) (q : Fin 512), (kernelRun0_A.sl.r_19 (F := Ideal) c arg2 harg2 arg4 harg4 arg6 harg6 arg7 harg7 arg8 harg8 arg10 harg10 arg12 harg12 arg15 arg16 x0 x2 x4 x5 x6 x8 x10 (ix2 l q) : EReal) = yoff A b 0 l q := by
  exact pay33_at b 0 _ (A_r_3 hA H) _ hA _ _ _ _ _ (A_r_4 hA H) (A_r_9 hA H) (A_r_10 hA H) (A_r_11 hA H) (fun h => H.rd10 _ _ _ h) (A_v166 hA H)
theorem A_v326 : ∀ (n : Fin 128) (q : Fin 512), (kernelRun0_A.sl.v326 (F := Ideal) c arg2 harg2 arg4 harg4 arg6 harg6 arg7 harg7 arg8 harg8 arg10 harg10 arg12 harg12 arg15 arg16 x0 x2 x4 x5 x6 x8 x10 (ix2 n q) : EReal) = state A b 0 n (512 + q.val) := by
  have h : Cols (kernelRun0_A.sl.HS1_1 (F := Ideal) ) 512 1024 (state A b 0) := by
    unfold kernelRun0_A.sl.HS1_1
    exact (Cols.head (o := 0) (w := 1024) _ _ (fun l p => by pointwise [k0_pay3]; rfl)).sub (by omega) (by omega)
  have h' : Cols (kernelRun0_A.sl.HS1_2 (F := Ideal) c arg2 harg2 arg4 harg4 arg6 harg6 arg7 harg7 arg8 harg8 arg10 harg10 arg12 harg12 arg15 arg16 x0 x2 x4 x5 x6 x8 x10) 512 1024 (state A b 0) := by
    unfold kernelRun0_A.sl.HS1_2
    exact h.tail (o := 0) (w := 512) _ _ (.inr (by omega))
  exact fun n q => h'.read arg16.view _ (by omega) (by omega) (by omega) n q
theorem A_r_25 : ∀ (n : Fin 128) (q : Fin 512), (kernelRun0_A.sl.r_25 (F := Ideal) c arg2 harg2 arg4 harg4 arg6 harg6 arg7 harg7 arg8 harg8 arg10 harg10 arg12 harg12 arg15 arg16 x0 x2 x4 x5 x6 x8 x10 (ix2 n q) : EReal) = state A b (0 + 1) n (512 + q.val) := by
  exact pay51_at b 0 _ (A_r_2 hA H) _ _ (A_r_12 hA H) _ (A_r_15 hA H) (A_v326 hA H)
/-- The output buffer: what the state contributes, then head after head. -/
theorem A_HS2_1 : Done A b 0 0 512 (kernelRun0_A.sl.HS2_1 (F := Ideal) c arg2 harg2 arg4 harg4 arg6 harg6 arg7 harg7 arg8 harg8 arg10 harg10 arg12 harg12 arg15 arg16 x0 x2 x4 x5 x6 x8 x10) := by
  refine ⟨fun l q h1 h2 => absurd h2 (by omega), ?_⟩
  unfold kernelRun0_A.sl.HS2_1
  exact Cols.head (o := 0) (w := 512) _ _ (fun l p => by
    pointwise [k0_pay34]
    exact (A_r_19 hA H) l p)
theorem A_v195 : ∀ (l : Fin 128) (p : Fin 64), (kernelRun0_A.sl.v195 (F := Ideal) c arg2 harg2 arg4 harg4 arg6 harg6 arg7 harg7 arg8 harg8 arg10 harg10 arg12 harg12 arg15 arg16 arg17 x0 x2 x4 x5 x6 x8 x10 (ix2 l p) : EReal) = yoff A b 0 l (0 + p.val) := by
  exact (A_HS2_1 hA H).2.read arg17.view _ (by omega) (by omega) (by omega)
theorem A_HS2_2 : Done A b 0 1 512 (kernelRun0_A.sl.HS2_2 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10) := by
  unfold kernelRun0_A.sl.HS2_2
  exact (A_HS2_1 hA H).step 0 rfl _ _ (head0_at b 0 _ _ _ _ _ (A_r_7 hA H) (A_r_8 hA H) (A_r_14 hA H) (A_r_18 hA H) (A_v195 hA H))
theorem A_v212 : ∀ (l : Fin 128) (p : Fin 64), (kernelRun0_A.sl.v212 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10 (ix2 l p) : EReal) = yoff A b 0 l (64 + p.val) := by
  exact (A_HS2_2 hA H).2.read arg17.view _ (by omega) (by omega) (by omega)
theorem A_HS2_3 : Done A b 0 2 512 (kernelRun0_A.sl.HS2_3 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10) := by
  unfold kernelRun0_A.sl.HS2_3
  exact (A_HS2_2 hA H).step 64 rfl _ _ (head1_at b 0 _ _ _ _ _ (A_r_7 hA H) (A_r_8 hA H) (A_r_14 hA H) (A_r_18 hA H) (A_v212 hA H))
theorem A_v229 : ∀ (l : Fin 128) (p : Fin 64), (kernelRun0_A.sl.v229 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10 (ix2 l p) : EReal) = yoff A b 0 l (128 + p.val) := by
  exact (A_HS2_3 hA H).2.read arg17.view _ (by omega) (by omega) (by omega)
theorem A_HS2_4 : Done A b 0 3 512 (kernelRun0_A.sl.HS2_4 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10) := by
  unfold kernelRun0_A.sl.HS2_4
  exact (A_HS2_3 hA H).step 128 rfl _ _ (head2_at b 0 _ _ _ _ _ (A_r_7 hA H) (A_r_8 hA H) (A_r_14 hA H) (A_r_18 hA H) (A_v229 hA H))
theorem A_v246 : ∀ (l : Fin 128) (p : Fin 64), (kernelRun0_A.sl.v246 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10 (ix2 l p) : EReal) = yoff A b 0 l (192 + p.val) := by
  exact (A_HS2_4 hA H).2.read arg17.view _ (by omega) (by omega) (by omega)
theorem A_HS2_5 : Done A b 0 4 512 (kernelRun0_A.sl.HS2_5 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10) := by
  unfold kernelRun0_A.sl.HS2_5
  exact (A_HS2_4 hA H).step 192 rfl _ _ (head3_at b 0 _ _ _ _ _ (A_r_7 hA H) (A_r_8 hA H) (A_r_14 hA H) (A_r_18 hA H) (A_v246 hA H))
theorem A_v263 : ∀ (l : Fin 128) (p : Fin 64), (kernelRun0_A.sl.v263 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10 (ix2 l p) : EReal) = yoff A b 0 l (256 + p.val) := by
  exact (A_HS2_5 hA H).2.read arg17.view _ (by omega) (by omega) (by omega)
theorem A_HS2_6 : Done A b 0 5 512 (kernelRun0_A.sl.HS2_6 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10) := by
  unfold kernelRun0_A.sl.HS2_6
  exact (A_HS2_5 hA H).step 256 rfl _ _ (head4_at b 0 _ _ _ _ _ (A_r_7 hA H) (A_r_8 hA H) (A_r_14 hA H) (A_r_18 hA H) (A_v263 hA H))
theorem A_v280 : ∀ (l : Fin 128) (p : Fin 64), (kernelRun0_A.sl.v280 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10 (ix2 l p) : EReal) = yoff A b 0 l (320 + p.val) := by
  exact (A_HS2_6 hA H).2.read arg17.view _ (by omega) (by omega) (by omega)
theorem A_HS2_7 : Done A b 0 6 512 (kernelRun0_A.sl.HS2_7 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10) := by
  unfold kernelRun0_A.sl.HS2_7
  exact (A_HS2_6 hA H).step 320 rfl _ _ (head5_at b 0 _ _ _ _ _ (A_r_7 hA H) (A_r_8 hA H) (A_r_14 hA H) (A_r_18 hA H) (A_v280 hA H))
theorem A_v297 : ∀ (l : Fin 128) (p : Fin 64), (kernelRun0_A.sl.v297 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10 (ix2 l p) : EReal) = yoff A b 0 l (384 + p.val) := by
  exact (A_HS2_7 hA H).2.read arg17.view _ (by omega) (by omega) (by omega)
theorem A_HS2_8 : Done A b 0 7 512 (kernelRun0_A.sl.HS2_8 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10) := by
  unfold kernelRun0_A.sl.HS2_8
  exact (A_HS2_7 hA H).step 384 rfl _ _ (head6_at b 0 _ _ _ _ _ (A_r_7 hA H) (A_r_8 hA H) (A_r_14 hA H) (A_r_18 hA H) (A_v297 hA H))
theorem A_v314 : ∀ (l : Fin 128) (p : Fin 64), (kernelRun0_A.sl.v314 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10 (ix2 l p) : EReal) = yoff A b 0 l (448 + p.val) := by
  exact (A_HS2_8 hA H).2.read arg17.view _ (by omega) (by omega) (by omega)
theorem A_HS2_10 : Done A b 0 8 1024 (kernelRun0_A.sl.HS2_10 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10) := by
  unfold kernelRun0_A.sl.HS2_10
  exact (A_HS2_8 hA H).mid _ _ _ _ (head7_at b 0 _ _ _ _ _ (A_r_7 hA H) (A_r_8 hA H) (A_r_14 hA H) (A_r_18 hA H) (A_v314 hA H)) (pay50_at b 0 _ (A_r_3 hA H) _ _ (A_r_16 hA H) (A_v326 hA H))
theorem A_v355 : ∀ (l : Fin 128) (p : Fin 64), (kernelRun0_A.sl.v355 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10 (ix2 l p) : EReal) = yoff A b 0 l (512 + p.val) := by
  exact (A_HS2_10 hA H).2.read arg17.view _ (by omega) (by omega) (by omega)
theorem A_HS2_11 : Done A b 0 9 1024 (kernelRun0_A.sl.HS2_11 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10) := by
  unfold kernelRun0_A.sl.HS2_11
  exact (A_HS2_10 hA H).step 512 rfl _ _ (head8_at b 0 _ _ _ _ _ (A_r_7 hA H) (A_r_8 hA H) (A_r_14 hA H) (A_r_24 hA H) (A_v355 hA H))
theorem A_v372 : ∀ (l : Fin 128) (p : Fin 64), (kernelRun0_A.sl.v372 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10 (ix2 l p) : EReal) = yoff A b 0 l (576 + p.val) := by
  exact (A_HS2_11 hA H).2.read arg17.view _ (by omega) (by omega) (by omega)
theorem A_HS2_12 : Done A b 0 10 1024 (kernelRun0_A.sl.HS2_12 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10) := by
  unfold kernelRun0_A.sl.HS2_12
  exact (A_HS2_11 hA H).step 576 rfl _ _ (head9_at b 0 _ _ _ _ _ (A_r_7 hA H) (A_r_8 hA H) (A_r_14 hA H) (A_r_24 hA H) (A_v372 hA H))
theorem A_v389 : ∀ (l : Fin 128) (p : Fin 64), (kernelRun0_A.sl.v389 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10 (ix2 l p) : EReal) = yoff A b 0 l (640 + p.val) := by
  exact (A_HS2_12 hA H).2.read arg17.view _ (by omega) (by omega) (by omega)
theorem A_HS2_13 : Done A b 0 11 1024 (kernelRun0_A.sl.HS2_13 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10) := by
  unfold kernelRun0_A.sl.HS2_13
  exact (A_HS2_12 hA H).step 640 rfl _ _ (head10_at b 0 _ _ _ _ _ (A_r_7 hA H) (A_r_8 hA H) (A_r_14 hA H) (A_r_24 hA H) (A_v389 hA H))
theorem A_v406 : ∀ (l : Fin 128) (p : Fin 64), (kernelRun0_A.sl.v406 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10 (ix2 l p) : EReal) = yoff A b 0 l (704 + p.val) := by
  exact (A_HS2_13 hA H).2.read arg17.view _ (by omega) (by omega) (by omega)
theorem A_HS2_14 : Done A b 0 12 1024 (kernelRun0_A.sl.HS2_14 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10) := by
  unfold kernelRun0_A.sl.HS2_14
  exact (A_HS2_13 hA H).step 704 rfl _ _ (head11_at b 0 _ _ _ _ _ (A_r_7 hA H) (A_r_8 hA H) (A_r_14 hA H) (A_r_24 hA H) (A_v406 hA H))
theorem A_v423 : ∀ (l : Fin 128) (p : Fin 64), (kernelRun0_A.sl.v423 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10 (ix2 l p) : EReal) = yoff A b 0 l (768 + p.val) := by
  exact (A_HS2_14 hA H).2.read arg17.view _ (by omega) (by omega) (by omega)
theorem A_HS2_15 : Done A b 0 13 1024 (kernelRun0_A.sl.HS2_15 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10) := by
  unfold kernelRun0_A.sl.HS2_15
  exact (A_HS2_14 hA H).step 768 rfl _ _ (head12_at b 0 _ _ _ _ _ (A_r_7 hA H) (A_r_8 hA H) (A_r_14 hA H) (A_r_24 hA H) (A_v423 hA H))
theorem A_v440 : ∀ (l : Fin 128) (p : Fin 64), (kernelRun0_A.sl.v440 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10 (ix2 l p) : EReal) = yoff A b 0 l (832 + p.val) := by
  exact (A_HS2_15 hA H).2.read arg17.view _ (by omega) (by omega) (by omega)
theorem A_HS2_16 : Done A b 0 14 1024 (kernelRun0_A.sl.HS2_16 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10) := by
  unfold kernelRun0_A.sl.HS2_16
  exact (A_HS2_15 hA H).step 832 rfl _ _ (head13_at b 0 _ _ _ _ _ (A_r_7 hA H) (A_r_8 hA H) (A_r_14 hA H) (A_r_24 hA H) (A_v440 hA H))
theorem A_v457 : ∀ (l : Fin 128) (p : Fin 64), (kernelRun0_A.sl.v457 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10 (ix2 l p) : EReal) = yoff A b 0 l (896 + p.val) := by
  exact (A_HS2_16 hA H).2.read arg17.view _ (by omega) (by omega) (by omega)
theorem A_HS2_17 : Done A b 0 15 1024 (kernelRun0_A.sl.HS2_17 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10) := by
  unfold kernelRun0_A.sl.HS2_17
  exact (A_HS2_16 hA H).step 896 rfl _ _ (head14_at b 0 _ _ _ _ _ (A_r_7 hA H) (A_r_8 hA H) (A_r_14 hA H) (A_r_24 hA H) (A_v457 hA H))
theorem A_v474 : ∀ (l : Fin 128) (p : Fin 64), (kernelRun0_A.sl.v474 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10 (ix2 l p) : EReal) = yoff A b 0 l (960 + p.val) := by
  exact (A_HS2_17 hA H).2.read arg17.view _ (by omega) (by omega) (by omega)
theorem A_HS2_18 : Done A b 0 16 1024 (kernelRun0_A.sl.HS2_18 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10) := by
  unfold kernelRun0_A.sl.HS2_18
  exact (A_HS2_17 hA H).step 960 rfl _ _ (head15_at b 0 _ _ _ _ _ (A_r_7 hA H) (A_r_8 hA H) (A_r_14 hA H) (A_r_24 hA H) (A_v474 hA H))
theorem A_v481 : ∀ (l : Fin 128) (q : Fin 1024), (kernelRun0_A.sl.v481 (F := Ideal) c arg2 harg2 arg4 harg4 arg5 harg5 arg6 harg6 arg7 harg7 arg8 harg8 arg9 harg9 arg10 harg10 arg11 harg11 arg12 harg12 arg15 arg16 arg17 x0 x2 x3 x4 x5 x6 x7 x8 x9 x10 (ix2 l q) : EReal) = yoff A b 0 l q + ydiag A b 0 l q := by
  exact fun l q => ((A_HS2_18 hA H).1.read (o := 0) (w := 1024) arg17.view _ (by omega) (by omega) (by omega) l q).trans (by simp only [Nat.zero_add])
/-- The output window. -/
theorem A_out (hc0 : cond0_0 i) : ∀ (l : Fin 128) (q : Fin 1024), (out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 (ix2 l q) : EReal) = out A b 0 l q := by
  intro l q
  unfold out0_A_12
  rw [View.read_writes_junk_eq_canon]
  refine (canon_of (Val := Elt Ideal) (e := .bf16) (a := 0) (b := 0) (m' := 128) (w := 1024) inb_S128x1024_S128x1024_0_0 (k0_pay1 (kernelRun0_A.sl.r_29 (F := Ideal) c arg2 harg2 arg3 harg3 arg4 harg4 arg5 harg5 arg6 harg6 arg7 harg7 arg8 harg8 arg9 harg9 arg10 harg10 arg11 harg11 arg12 harg12 arg15 arg16 arg17 x0 x1 x2 x3 x4 x5 x6 x7 x8 x9 x10) (kernelRun0_A.sl.r_30 (F := Ideal) c arg13 harg13 x11)) [] l q (by omega) (by omega) (by omega) (by omega)).trans ?_
  exact pay66_at b 0 _ _ _ _ (A_r_1 hA H) (A_r_13 hA H) (A_v481 hA H) (fun l q => H.rd1 _ _ _ l q) _ (fun q => H.rd11 _ _ _ q) l q
/-- The rows the next chunk's convolution takes. -/
theorem A_buf (hc0 : cond0_0 i) : ∀ (r : Fin 136) (q : Fin 1536), r.val < 8 → (sout0_A_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 (ix2 r q) : EReal) = xp A b (128 * (0 + 1) + r) q := by
  intro r q hr
  unfold sout0_A_0
  rw [View.read_writes_junk_eq_canon]
  refine (canon_of (Val := Elt Ideal) (e := .f32) (a := 0) (b := 0) (m' := 8) (w := 1536) inb_S136x1536_S8x1536_0_0 (k0_pay6 (kernelRun0_A.sl.v8 (F := Ideal) c arg2 harg2 arg15 x0)) (kernelRun0_A.sl.HS0_2 (F := Ideal) c arg2 harg2 x0) r q (by omega) (by omega) (by omega) (by omega)).trans ?_
  pointwise [k0_pay6]
  refine ((A_v8 hA H) _ _).trans ?_
  exact congrArg (fun n => xp A b n q) (show 128 * 0 + (128 + r.val) = 128 * (0 + 1) + r.val by omega)
/-- The state left to the next chunk. -/
theorem A_st (hc0 : cond0_0 i) : ∀ (n : Fin 128) (q : Fin 1024), (sout0_A_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 (ix2 n q) : EReal) = state A b (0 + 1) n q := by
  intro n q
  unfold sout0_A_1
  rw [View.read_writes_junk_eq_canon]
  by_cases h : 512 ≤ q.val
  · refine (canon_of (Val := Elt Ideal) (e := .f32) (a := 0) (b := 512) (m' := 128) (w := 512) inb_S128x1024_S128x512_0_512 (k0_pay52 (kernelRun0_A.sl.r_25 (F := Ideal) c arg2 harg2 arg4 harg4 arg6 harg6 arg7 harg7 arg8 harg8 arg10 harg10 arg12 harg12 arg15 arg16 x0 x2 x4 x5 x6 x8 x10)) (kernelRun0_A.sl.HS1_2 (F := Ideal) c arg2 harg2 arg4 harg4 arg6 harg6 arg7 harg7 arg8 harg8 arg10 harg10 arg12 harg12 arg15 arg16 x0 x2 x4 x5 x6 x8 x10) n q (by omega) (by omega) h (by omega)).trans ?_
    pointwise [k0_pay52]
    refine ((A_r_25 hA H) _ ⟨q.val - 512, by omega⟩).trans ?_
    exact congrArg (state A b (0 + 1) n) (show 512 + (q.val - 512) = q.val by omega)
  · refine (canon_out (Val := Elt Ideal) (e := .f32) inb_S128x1024_S128x512_0_512 (k0_pay52 (kernelRun0_A.sl.r_25 (F := Ideal) c arg2 harg2 arg4 harg4 arg6 harg6 arg7 harg7 arg8 harg8 arg10 harg10 arg12 harg12 arg15 arg16 x0 x2 x4 x5 x6 x8 x10)) (kernelRun0_A.sl.HS1_2 (F := Ideal) c arg2 harg2 arg4 harg4 arg6 harg6 arg7 harg7 arg8 harg8 arg10 harg10 arg12 harg12 arg15 arg16 x0 x2 x4 x5 x6 x8 x10) n q (by omega)).trans ?_
    refine (canon_of (Val := Elt Ideal) (e := .f32) (a := 0) (b := 0) (m' := 128) (w := 512) inb_S128x1024_S128x512_0_0 (k0_pay35 (kernelRun0_A.sl.r_12 (F := Ideal) c arg4 harg4 arg8 harg8 arg10 harg10 arg12 harg12 x2 x6 x8 x10) (kernelRun0_A.sl.r_15 (F := Ideal) c arg2 harg2 arg4 harg4 arg6 harg6 arg7 harg7 arg8 harg8 arg10 harg10 arg12 harg12 arg15 x0 x2 x4 x5 x6 x8 x10) (kernelRun0_A.sl.r_17 (F := Ideal) c arg2 harg2 arg6 harg6 arg7 harg7 arg15 x0 x4 x5) (kernelRun0_A.sl.v166 (F := Ideal) c arg16)) _ n q (by omega) (by omega) (by omega) (by omega)).trans ?_
    exact pay35_at b 0 _ _ (A_r_12 hA H) _ (A_r_15 hA H) _ (A_r_17 hA H) (A_v166 hA H) n ⟨q.val, by omega⟩

end Cert.KernelIdeal.Value

end
-- ==== Proof.Ssd.CaseB.lean ====
/- What the body computes at a later chunk of a sequence, word by word, and what it leaves. -/
module

public import proofs.«01_k».proof.Proof.Ssd.Point

@[expose] public section

set_option maxRecDepth 16384

noncomputable section

open Idealize.ShloMosaic Idealize.ShloMosaic.TcCoe Idealize.SL.Sem

namespace Cert.KernelIdeal.Value
open Cert.KernelIdeal Cert.KernelIdeal.Gen Cert.Ssd

variable {A : Args} {b k : ℕ} {c : Dev nD} {i : grid0.Coords}
  {arg2 : Memref sig .tc .vmem S128x1536 .f32} {harg2 : arg2.IsWhole}
  {arg3 : Memref sig .tc .vmem S128x1024 .f32} {harg3 : arg3.IsWhole}
  {arg4 : Memref sig .tc .vmem S128x128 .f32} {harg4 : arg4.IsWhole}
  {arg5 : Memref sig .tc .vmem S128x128 .f32} {harg5 : arg5.IsWhole}
  {arg6 : Memref sig .tc .vmem S4x1536 .f32} {harg6 : arg6.IsWhole}
  {arg7 : Memref sig .tc .vmem S1x1536 .f32} {harg7 : arg7.IsWhole}
  {arg8 : Memref sig .tc .vmem S1x16 .f32} {harg8 : arg8.IsWhole}
  {arg9 : Memref sig .tc .vmem S16x1 .f32} {harg9 : arg9.IsWhole}
  {arg10 : Memref sig .tc .vmem S1x16 .f32} {harg10 : arg10.IsWhole}
  {arg11 : Memref sig .tc .vmem S16x1 .f32} {harg11 : arg11.IsWhole}
  {arg12 : Memref sig .tc .vmem S1x16 .f32} {harg12 : arg12.IsWhole}
  {arg13 : Memref sig .tc .vmem S1x1024 .f32} {harg13 : arg13.IsWhole}
  {arg14 : Memref sig .tc .vmem S128x1024 .bf16} {harg14 : arg14.IsWhole}
  {arg15 : Memref sig .tc .vmem S136x1536 .f32} {harg15 : arg15.IsWhole}
  {arg16 : Memref sig .tc .vmem S128x1024 .f32} {harg16 : arg16.IsWhole}
  {arg17 : Memref sig .tc .vmem S128x1024 .f32} {harg17 : arg17.IsWhole}
  {x0 : FVec Ideal S128x1536 .f32} {x1 : FVec Ideal S128x1024 .f32} {x2 : FVec Ideal S128x128 .f32} {x3 : FVec Ideal S128x128 .f32} {x4 : FVec Ideal S4x1536 .f32} {x5 : FVec Ideal S1x1536 .f32} {x6 : FVec Ideal S1x16 .f32} {x7 : FVec Ideal S16x1 .f32} {x8 : FVec Ideal S1x16 .f32} {x9 : FVec Ideal S16x1 .f32} {x10 : FVec Ideal S1x16 .f32} {x11 : FVec Ideal S1x1024 .f32}
  {xs0 : FVec Ideal S136x1536 .f32} {xs1 : FVec Ideal S128x1024 .f32}
  (hA : A.Finite) (H : PtIn A b k x0 x1 x2 x3 x4 x5 x6 x7 x8 x9 x10 x11)
  (Hx : ∀ (r : Fin 136) (q : Fin 1536), r.val < 8 → xs0 (ix2 r q) = xp A b (128 * k + r) q) (Hs : ∀ (n : Fin 128) (q : Fin 1024), xs1 (ix2 n q) = state A b k n q)
include hA H Hx Hs

/-- The convolution's buffer: eight rows of the chunk before, then the chunk. -/
theorem B_r : ∀ (r : Fin 136) (q : Fin 1536), (kernelRun0_B.sl.r (F := Ideal) c arg2 harg2 arg15 harg15 x0 xs0 (ix2 r q) : EReal) = xp A b (128 * k + r) q := by
  intro r q
  refine (xcat_at arg15 harg15 xs0 _ _ _ r q).trans ?_
  by_cases h : 8 ≤ r.val
  · rw [dif_pos h]
    pointwise [k0_pay4]
    refine (H.rd0 _ _ _ _ _).trans ?_
    rw [xp, if_pos (by omega)]
    exact congrArg (fun n => A.x b n q) (show 128 * k + (r.val - 8) = 128 * k + r.val - 8 by omega)
  · rw [dif_neg h]
    exact Hx r q (by omega)
/-- The convolution. -/
theorem B_r_1 : ∀ (l : Fin 128) (q : Fin 1536), (kernelRun0_B.sl.r_1 (F := Ideal) c arg2 harg2 arg6 harg6 arg7 harg7 arg15 harg15 x0 x4 x5 xs0 (ix2 l q) : EReal) = conv A b (128 * k + l) q := by
  exact pay5_at A b k _ _ _ _ _ _ (B_r hA H Hx Hs) (fun q => H.rd5 _ _ _ q) (fun q => H.rd4 _ _ 3 _ q) (fun q => H.rd4 _ _ 0 _ q) (fun q => H.rd4 _ _ 1 _ q) (fun q => H.rd4 _ _ 2 _ q)
theorem B_r_2 : ∀ (l : Fin 128) (q : Fin 1024), (kernelRun0_B.sl.r_2 (F := Ideal) c arg2 harg2 arg6 harg6 arg7 harg7 arg15 harg15 x0 x4 x5 xs0 (ix2 l q) : EReal) = xs A b k l q := by
  exact pay8_at A b k _ (B_r_1 hA H Hx Hs)
theorem B_r_3 : ∀ (l : Fin 128) (q : Fin 256), (kernelRun0_B.sl.r_3 (F := Ideal) c arg2 harg2 arg6 harg6 arg7 harg7 arg15 harg15 x0 x4 x5 xs0 (ix2 l q) : EReal) = u A b (128 * k + l) (1024 + q) := by
  exact pay9_at A b k _ (B_r_1 hA H Hx Hs)
theorem B_r_4 : ∀ (l : Fin 128) (q : Fin 256), (kernelRun0_B.sl.r_4 (F := Ideal) c arg2 harg2 arg6 harg6 arg7 harg7 arg15 harg15 x0 x4 x5 xs0 (ix2 l q) : EReal) = u A b (128 * k + l) (1280 + q) := by
  exact pay10_at A b k _ (B_r_1 hA H Hx Hs)
/-- The step sizes. -/
theorem B_r_5 : ∀ (l : Fin 128) (h : Fin 16), (kernelRun0_B.sl.r_5 (F := Ideal) c arg4 harg4 arg8 harg8 x2 x6 (ix2 l h) : EReal) = dtv A b (128 * k + l) h := by
  exact pay11_at A b k _ _ (fun l h => H.rd2 _ _ _ l h) (fun h => H.rd6 _ _ _ h)
theorem B_r_6 : ∀ (l : Fin 128) (h : Fin 16), (kernelRun0_B.sl.r_6 (F := Ideal) c arg5 harg5 arg9 harg9 x3 x7 (ix2 h l) : EReal) = dtv A b (128 * k + l) h := by
  exact pay12_at A b k _ _ (fun l h => H.rd3 _ _ _ l h) (fun h => H.rd7 _ _ _ h)
theorem B_r_7 : ∀ h : Fin 16, (kernelRun0_B.sl.r_7 (F := Ideal) c arg10 harg10 x8 (ix2 0 h) : EReal) = A.al h := by
  exact fun h => (pay13_at _ h).trans (H.rd8 _ _ _ h)
/-- The summed log decays. -/
theorem B_r_8 : ∀ (l : Fin 128) (h : Fin 16), (kernelRun0_B.sl.r_8 (F := Ideal) c arg4 harg4 arg8 harg8 arg10 harg10 x2 x6 x8 (ix2 l h) : EReal) = acs A b k l h := by
  exact pay15_at A b k _ _ (B_r_5 hA H Hx Hs) (B_r_7 hA H Hx Hs)
theorem B_r_9 : ∀ (l : Fin 128) (h : Fin 16), (kernelRun0_B.sl.r_9 (F := Ideal) c arg5 harg5 arg9 harg9 arg11 harg11 x3 x7 x9 (ix2 h l) : EReal) = acs A b k l h := by
  exact pay16_at A b k _ _ (B_r_6 hA H Hx Hs) (fun h => H.rd9 _ _ _ h)
theorem B_r_10 : ∀ (l : Fin 128) (h : Fin 16), (kernelRun0_B.sl.r_10 (F := Ideal) c arg4 harg4 arg8 harg8 arg10 harg10 x2 x6 x8 (ix2 l h) : EReal) = wst A b k l h := by
  exact pay18_at A b k _ _ (B_r_5 hA H Hx Hs) (B_r_7 hA H Hx Hs)
theorem B_r_11 : ∀ (l : Fin 128) (h : Fin 16), (kernelRun0_B.sl.r_11 (F := Ideal) c arg4 harg4 arg8 harg8 arg10 harg10 x2 x6 x8 (ix2 l h) : EReal) = Ideal.exp (acs A b k l h) := by
  exact pay19_at A b k _ _ (B_r_5 hA H Hx Hs) (B_r_7 hA H Hx Hs)
theorem B_r_12 : ∀ h : Fin 16, (kernelRun0_B.sl.r_12 (F := Ideal) c arg4 harg4 arg8 harg8 arg10 harg10 x2 x6 x8 (ix2 0 h) : EReal) = Ideal.exp (acs A b k 127 h) := by
  exact pay20_at A b k _ _ (B_r_5 hA H Hx Hs) (B_r_7 hA H Hx Hs)
/-- The per-head numbers spread over the lanes. -/
theorem B_r_13 : ∀ q : Fin 1024, (kernelRun0_B.sl.r_13 (F := Ideal) c arg4 harg4 arg8 harg8 arg10 harg10 arg12 harg12 x2 x6 x8 x10 (ix2 0 q) : EReal) = Ideal.exp (acs A b k 127 (q.val / 64)) := by
  exact pay25_at b k hA _ _ _ _ _ (B_r_5 hA H Hx Hs) (B_r_10 hA H Hx Hs) (B_r_11 hA H Hx Hs) (B_r_12 hA H Hx Hs) (fun h => H.rd10 _ _ _ h)
theorem B_r_14 : ∀ q : Fin 1024, (kernelRun0_B.sl.r_14 (F := Ideal) c arg4 harg4 arg8 harg8 arg10 harg10 arg12 harg12 x2 x6 x8 x10 (ix2 0 q) : EReal) = A.ds (q.val / 64) := by
  exact pay26_at b k hA _ _ _ _ _ (B_r_5 hA H Hx Hs) (B_r_10 hA H Hx Hs) (B_r_11 hA H Hx Hs) (B_r_12 hA H Hx Hs) (fun h => H.rd10 _ _ _ h)
theorem B_r_15 : ∀ (l : Fin 128) (q : Fin 1024), (kernelRun0_B.sl.r_15 (F := Ideal) c arg2 harg2 arg4 harg4 arg6 harg6 arg7 harg7 arg8 harg8 arg10 harg10 arg12 harg12 arg15 harg15 x0 x2 x4 x5 x6 x8 x10 xs0 (ix2 l q) : EReal) = xdt A b k l q := by
  exact pay27_at b k hA _ _ _ _ _ (B_r_5 hA H Hx Hs) (B_r_10 hA H Hx Hs) (B_r_11 hA H Hx Hs) (B_r_12 hA H Hx Hs) (fun h => H.rd10 _ _ _ h) _ (B_r_2 hA H Hx Hs)
theorem B_r_16 : ∀ (l : Fin 128) (q : Fin 1024), (kernelRun0_B.sl.r_16 (F := Ideal) c arg2 harg2 arg4 harg4 arg6 harg6 arg7 harg7 arg8 harg8 arg10 harg10 arg12 harg12 arg15 harg15 x0 x2 x4 x5 x6 x8 x10 xs0 (ix2 l q) : EReal) = xs A b k l q * wst A b k l (q.val / 64) := by
  exact pay28_at b k hA _ _ _ _ _ (B_r_5 hA H Hx Hs) (B_r_10 hA H Hx Hs) (B_r_11 hA H Hx Hs) (B_r_12 hA H Hx Hs) (fun h => H.rd10 _ _ _ h) _ (B_r_2 hA H Hx Hs)
theorem B_r_17 : ∀ (l : Fin 128) (q : Fin 1024), (kernelRun0_B.sl.r_17 (F := Ideal) c arg4 harg4 arg8 harg8 arg10 harg10 arg12 harg12 x2 x6 x8 x10 (ix2 l q) : EReal) = Ideal.exp (acs A b k l (q.val / 64)) := by
  exact pay29_at b k hA _ _ _ _ _ (B_r_5 hA H Hx Hs) (B_r_10 hA H Hx Hs) (B_r_11 hA H Hx Hs) (B_r_12 hA H Hx Hs) (fun h => H.rd10 _ _ _ h)
/-- Both groups' products. -/
theorem B_r_18 : ∀ l n : Fin 128, (kernelRun0_B.sl.r_18 (F := Ideal) c arg2 harg2 arg6 harg6 arg7 harg7 arg15 harg15 x0 x4 x5 xs0 (ix2 l n) : EReal) = bm A b k 0 l n := by
  exact pay30_at b k _ (B_r_3 hA H Hx Hs)
theorem B_r_19 : ∀ l n : Fin 128, (kernelRun0_B.sl.r_19 (F := Ideal) c arg2 harg2 arg6 harg6 arg7 harg7 arg15 harg15 x0 x4 x5 xs0 (ix2 l n) : EReal) = cbm A b k 0 l n := by
  exact pay32_at b k _ _ (B_r_3 hA H Hx Hs) (B_r_4 hA H Hx Hs)
theorem B_r_26 : ∀ l n : Fin 128, (kernelRun0_B.sl.r_26 (F := Ideal) c arg2 harg2 arg6 harg6 arg7 harg7 arg15 harg15 x0 x4 x5 xs0 (ix2 l n) : EReal) = cbm A b k 1 l n := by
  exact pay49_at b k _ _ (B_r_3 hA H Hx Hs) (B_r_4 hA H Hx Hs)
/-- The state entering the chunk. -/
theorem B_r_20 : ∀ (n : Fin 128) (q : Fin 512), (kernelRun0_B.sl.r_20 (F := Ideal) c arg16 harg16 xs1 (ix2 n q) : EReal) = state A b k n q := by
  exact fun n q => (read_at (F := Ideal) arg16 harg16 xs1 _ n q (by omega) (by omega)).trans ((Hs _ _).trans (congr (congrArg (state A b k) (Nat.zero_add _)) (Nat.zero_add _)))
theorem B_v326 : ∀ (n : Fin 128) (q : Fin 512), (kernelRun0_B.sl.v326 (F := Ideal) c arg16 harg16 xs1 (ix2 n q) : EReal) = state A b k n (512 + q.val) := by
  exact fun n q => (read_at (F := Ideal) arg16 harg16 xs1 _ n q (by omega) (by omega)).trans ((Hs _ _).trans (congrArg (state A b k · _) (Nat.zero_add _)))
theorem B_r_21 : ∀ (l : Fin 128) (q : Fin 512), (kernelRun0_B.sl.r_21 (F := Ideal) c arg2 harg2 arg4 harg4 arg6 harg6 arg7 harg7 arg8 harg8 arg10 harg10 arg12 harg12 arg15 harg15 arg16 harg16 x0 x2 x4 x5 x6 x8 x10 xs0 xs1 (ix2 l q) : EReal) = yoff A b k l q := by
  exact pay33_at b k _ (B_r_4 hA H Hx Hs) _ hA _ _ _ _ _ (B_r_5 hA H Hx Hs) (B_r_10 hA H Hx Hs) (B_r_11 hA H Hx Hs) (B_r_12 hA H Hx Hs) (fun h => H.rd10 _ _ _ h) (B_r_20 hA H Hx Hs)
theorem B_r_27 : ∀ (n : Fin 128) (q : Fin 512), (kernelRun0_B.sl.r_27 (F := Ideal) c arg2 harg2 arg4 harg4 arg6 harg6 arg7 harg7 arg8 harg8 arg10 harg10 arg12 harg12 arg15 harg15 arg16 harg16 x0 x2 x4 x5 x6 x8 x10 xs0 xs1 (ix2 n q) : EReal) = state A b (k + 1) n (512 + q.val) := by
  exact pay51_at b k _ (B_r_3 hA H Hx Hs) _ _ (B_r_13 hA H Hx Hs) _ (B_r_16 hA H Hx Hs) (B_v326 hA H Hx Hs)
/-- The output buffer: what the state contributes, then head after head. -/
theorem B_HS2_1 : Done A b k 0 512 (kernelRun0_B.sl.HS2_1 (F := Ideal) c arg2 harg2 arg4 harg4 arg6 harg6 arg7 harg7 arg8 harg8 arg10 harg10 arg12 harg12 arg15 harg15 arg16 harg16 x0 x2 x4 x5 x6 x8 x10 xs0 xs1) := by
  refine ⟨fun l q h1 h2 => absurd h2 (by omega), ?_⟩
  unfold kernelRun0_B.sl.HS2_1
  exact Cols.head (o := 0) (w := 512) _ _ (fun l p => by
    pointwise [k0_pay34]
    exact (B_r_21 hA H Hx Hs) l p)
theorem B_v195 : ∀ (l : Fin 128) (p : Fin 64), (kernelRun0_B.sl.v195 (F := Ideal) c arg2 harg2 arg4 harg4 arg6 harg6 arg7 harg7 arg8 harg8 arg10 harg10 arg12 harg12 arg15 harg15 arg16 harg16 arg17 x0 x2 x4 x5 x6 x8 x10 xs0 xs1 (ix2 l p) : EReal) = yoff A b k l (0 + p.val) := by
  exact (B_HS2_1 hA H Hx Hs).2.read arg17.view _ (by omega) (by omega) (by omega)
theorem B_HS2_2 : Done A b k 1 512 (kernelRun0_B.sl.HS2_2 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1) := by
  unfold kernelRun0_B.sl.HS2_2
  exact (B_HS2_1 hA H Hx Hs).step 0 rfl _ _ (head0_at b k _ _ _ _ _ (B_r_8 hA H Hx Hs) (B_r_9 hA H Hx Hs) (B_r_15 hA H Hx Hs) (B_r_19 hA H Hx Hs) (B_v195 hA H Hx Hs))
theorem B_v212 : ∀ (l : Fin 128) (p : Fin 64), (kernelRun0_B.sl.v212 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1 (ix2 l p) : EReal) = yoff A b k l (64 + p.val) := by
  exact (B_HS2_2 hA H Hx Hs).2.read arg17.view _ (by omega) (by omega) (by omega)
theorem B_HS2_3 : Done A b k 2 512 (kernelRun0_B.sl.HS2_3 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1) := by
  unfold kernelRun0_B.sl.HS2_3
  exact (B_HS2_2 hA H Hx Hs).step 64 rfl _ _ (head1_at b k _ _ _ _ _ (B_r_8 hA H Hx Hs) (B_r_9 hA H Hx Hs) (B_r_15 hA H Hx Hs) (B_r_19 hA H Hx Hs) (B_v212 hA H Hx Hs))
theorem B_v229 : ∀ (l : Fin 128) (p : Fin 64), (kernelRun0_B.sl.v229 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1 (ix2 l p) : EReal) = yoff A b k l (128 + p.val) := by
  exact (B_HS2_3 hA H Hx Hs).2.read arg17.view _ (by omega) (by omega) (by omega)
theorem B_HS2_4 : Done A b k 3 512 (kernelRun0_B.sl.HS2_4 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1) := by
  unfold kernelRun0_B.sl.HS2_4
  exact (B_HS2_3 hA H Hx Hs).step 128 rfl _ _ (head2_at b k _ _ _ _ _ (B_r_8 hA H Hx Hs) (B_r_9 hA H Hx Hs) (B_r_15 hA H Hx Hs) (B_r_19 hA H Hx Hs) (B_v229 hA H Hx Hs))
theorem B_v246 : ∀ (l : Fin 128) (p : Fin 64), (kernelRun0_B.sl.v246 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1 (ix2 l p) : EReal) = yoff A b k l (192 + p.val) := by
  exact (B_HS2_4 hA H Hx Hs).2.read arg17.view _ (by omega) (by omega) (by omega)
theorem B_HS2_5 : Done A b k 4 512 (kernelRun0_B.sl.HS2_5 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1) := by
  unfold kernelRun0_B.sl.HS2_5
  exact (B_HS2_4 hA H Hx Hs).step 192 rfl _ _ (head3_at b k _ _ _ _ _ (B_r_8 hA H Hx Hs) (B_r_9 hA H Hx Hs) (B_r_15 hA H Hx Hs) (B_r_19 hA H Hx Hs) (B_v246 hA H Hx Hs))
theorem B_v263 : ∀ (l : Fin 128) (p : Fin 64), (kernelRun0_B.sl.v263 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1 (ix2 l p) : EReal) = yoff A b k l (256 + p.val) := by
  exact (B_HS2_5 hA H Hx Hs).2.read arg17.view _ (by omega) (by omega) (by omega)
theorem B_HS2_6 : Done A b k 5 512 (kernelRun0_B.sl.HS2_6 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1) := by
  unfold kernelRun0_B.sl.HS2_6
  exact (B_HS2_5 hA H Hx Hs).step 256 rfl _ _ (head4_at b k _ _ _ _ _ (B_r_8 hA H Hx Hs) (B_r_9 hA H Hx Hs) (B_r_15 hA H Hx Hs) (B_r_19 hA H Hx Hs) (B_v263 hA H Hx Hs))
theorem B_v280 : ∀ (l : Fin 128) (p : Fin 64), (kernelRun0_B.sl.v280 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1 (ix2 l p) : EReal) = yoff A b k l (320 + p.val) := by
  exact (B_HS2_6 hA H Hx Hs).2.read arg17.view _ (by omega) (by omega) (by omega)
theorem B_HS2_7 : Done A b k 6 512 (kernelRun0_B.sl.HS2_7 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1) := by
  unfold kernelRun0_B.sl.HS2_7
  exact (B_HS2_6 hA H Hx Hs).step 320 rfl _ _ (head5_at b k _ _ _ _ _ (B_r_8 hA H Hx Hs) (B_r_9 hA H Hx Hs) (B_r_15 hA H Hx Hs) (B_r_19 hA H Hx Hs) (B_v280 hA H Hx Hs))
theorem B_v297 : ∀ (l : Fin 128) (p : Fin 64), (kernelRun0_B.sl.v297 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1 (ix2 l p) : EReal) = yoff A b k l (384 + p.val) := by
  exact (B_HS2_7 hA H Hx Hs).2.read arg17.view _ (by omega) (by omega) (by omega)
theorem B_HS2_8 : Done A b k 7 512 (kernelRun0_B.sl.HS2_8 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1) := by
  unfold kernelRun0_B.sl.HS2_8
  exact (B_HS2_7 hA H Hx Hs).step 384 rfl _ _ (head6_at b k _ _ _ _ _ (B_r_8 hA H Hx Hs) (B_r_9 hA H Hx Hs) (B_r_15 hA H Hx Hs) (B_r_19 hA H Hx Hs) (B_v297 hA H Hx Hs))
theorem B_v314 : ∀ (l : Fin 128) (p : Fin 64), (kernelRun0_B.sl.v314 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1 (ix2 l p) : EReal) = yoff A b k l (448 + p.val) := by
  exact (B_HS2_8 hA H Hx Hs).2.read arg17.view _ (by omega) (by omega) (by omega)
theorem B_HS2_10 : Done A b k 8 1024 (kernelRun0_B.sl.HS2_10 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1) := by
  unfold kernelRun0_B.sl.HS2_10
  exact (B_HS2_8 hA H Hx Hs).mid _ _ _ _ (head7_at b k _ _ _ _ _ (B_r_8 hA H Hx Hs) (B_r_9 hA H Hx Hs) (B_r_15 hA H Hx Hs) (B_r_19 hA H Hx Hs) (B_v314 hA H Hx Hs)) (pay50_at b k _ (B_r_4 hA H Hx Hs) _ _ (B_r_17 hA H Hx Hs) (B_v326 hA H Hx Hs))
theorem B_v355 : ∀ (l : Fin 128) (p : Fin 64), (kernelRun0_B.sl.v355 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1 (ix2 l p) : EReal) = yoff A b k l (512 + p.val) := by
  exact (B_HS2_10 hA H Hx Hs).2.read arg17.view _ (by omega) (by omega) (by omega)
theorem B_HS2_11 : Done A b k 9 1024 (kernelRun0_B.sl.HS2_11 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1) := by
  unfold kernelRun0_B.sl.HS2_11
  exact (B_HS2_10 hA H Hx Hs).step 512 rfl _ _ (head8_at b k _ _ _ _ _ (B_r_8 hA H Hx Hs) (B_r_9 hA H Hx Hs) (B_r_15 hA H Hx Hs) (B_r_26 hA H Hx Hs) (B_v355 hA H Hx Hs))
theorem B_v372 : ∀ (l : Fin 128) (p : Fin 64), (kernelRun0_B.sl.v372 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1 (ix2 l p) : EReal) = yoff A b k l (576 + p.val) := by
  exact (B_HS2_11 hA H Hx Hs).2.read arg17.view _ (by omega) (by omega) (by omega)
theorem B_HS2_12 : Done A b k 10 1024 (kernelRun0_B.sl.HS2_12 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1) := by
  unfold kernelRun0_B.sl.HS2_12
  exact (B_HS2_11 hA H Hx Hs).step 576 rfl _ _ (head9_at b k _ _ _ _ _ (B_r_8 hA H Hx Hs) (B_r_9 hA H Hx Hs) (B_r_15 hA H Hx Hs) (B_r_26 hA H Hx Hs) (B_v372 hA H Hx Hs))
theorem B_v389 : ∀ (l : Fin 128) (p : Fin 64), (kernelRun0_B.sl.v389 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1 (ix2 l p) : EReal) = yoff A b k l (640 + p.val) := by
  exact (B_HS2_12 hA H Hx Hs).2.read arg17.view _ (by omega) (by omega) (by omega)
theorem B_HS2_13 : Done A b k 11 1024 (kernelRun0_B.sl.HS2_13 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1) := by
  unfold kernelRun0_B.sl.HS2_13
  exact (B_HS2_12 hA H Hx Hs).step 640 rfl _ _ (head10_at b k _ _ _ _ _ (B_r_8 hA H Hx Hs) (B_r_9 hA H Hx Hs) (B_r_15 hA H Hx Hs) (B_r_26 hA H Hx Hs) (B_v389 hA H Hx Hs))
theorem B_v406 : ∀ (l : Fin 128) (p : Fin 64), (kernelRun0_B.sl.v406 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1 (ix2 l p) : EReal) = yoff A b k l (704 + p.val) := by
  exact (B_HS2_13 hA H Hx Hs).2.read arg17.view _ (by omega) (by omega) (by omega)
theorem B_HS2_14 : Done A b k 12 1024 (kernelRun0_B.sl.HS2_14 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1) := by
  unfold kernelRun0_B.sl.HS2_14
  exact (B_HS2_13 hA H Hx Hs).step 704 rfl _ _ (head11_at b k _ _ _ _ _ (B_r_8 hA H Hx Hs) (B_r_9 hA H Hx Hs) (B_r_15 hA H Hx Hs) (B_r_26 hA H Hx Hs) (B_v406 hA H Hx Hs))
theorem B_v423 : ∀ (l : Fin 128) (p : Fin 64), (kernelRun0_B.sl.v423 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1 (ix2 l p) : EReal) = yoff A b k l (768 + p.val) := by
  exact (B_HS2_14 hA H Hx Hs).2.read arg17.view _ (by omega) (by omega) (by omega)
theorem B_HS2_15 : Done A b k 13 1024 (kernelRun0_B.sl.HS2_15 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1) := by
  unfold kernelRun0_B.sl.HS2_15
  exact (B_HS2_14 hA H Hx Hs).step 768 rfl _ _ (head12_at b k _ _ _ _ _ (B_r_8 hA H Hx Hs) (B_r_9 hA H Hx Hs) (B_r_15 hA H Hx Hs) (B_r_26 hA H Hx Hs) (B_v423 hA H Hx Hs))
theorem B_v440 : ∀ (l : Fin 128) (p : Fin 64), (kernelRun0_B.sl.v440 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1 (ix2 l p) : EReal) = yoff A b k l (832 + p.val) := by
  exact (B_HS2_15 hA H Hx Hs).2.read arg17.view _ (by omega) (by omega) (by omega)
theorem B_HS2_16 : Done A b k 14 1024 (kernelRun0_B.sl.HS2_16 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1) := by
  unfold kernelRun0_B.sl.HS2_16
  exact (B_HS2_15 hA H Hx Hs).step 832 rfl _ _ (head13_at b k _ _ _ _ _ (B_r_8 hA H Hx Hs) (B_r_9 hA H Hx Hs) (B_r_15 hA H Hx Hs) (B_r_26 hA H Hx Hs) (B_v440 hA H Hx Hs))
theorem B_v457 : ∀ (l : Fin 128) (p : Fin 64), (kernelRun0_B.sl.v457 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1 (ix2 l p) : EReal) = yoff A b k l (896 + p.val) := by
  exact (B_HS2_16 hA H Hx Hs).2.read arg17.view _ (by omega) (by omega) (by omega)
theorem B_HS2_17 : Done A b k 15 1024 (kernelRun0_B.sl.HS2_17 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1) := by
  unfold kernelRun0_B.sl.HS2_17
  exact (B_HS2_16 hA H Hx Hs).step 896 rfl _ _ (head14_at b k _ _ _ _ _ (B_r_8 hA H Hx Hs) (B_r_9 hA H Hx Hs) (B_r_15 hA H Hx Hs) (B_r_26 hA H Hx Hs) (B_v457 hA H Hx Hs))
theorem B_v474 : ∀ (l : Fin 128) (p : Fin 64), (kernelRun0_B.sl.v474 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1 (ix2 l p) : EReal) = yoff A b k l (960 + p.val) := by
  exact (B_HS2_17 hA H Hx Hs).2.read arg17.view _ (by omega) (by omega) (by omega)
theorem B_HS2_18 : Done A b k 16 1024 (kernelRun0_B.sl.HS2_18 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1) := by
  unfold kernelRun0_B.sl.HS2_18
  exact (B_HS2_17 hA H Hx Hs).step 960 rfl _ _ (head15_at b k _ _ _ _ _ (B_r_8 hA H Hx Hs) (B_r_9 hA H Hx Hs) (B_r_15 hA H Hx Hs) (B_r_26 hA H Hx Hs) (B_v474 hA H Hx Hs))
theorem B_v481 : ∀ (l : Fin 128) (q : Fin 1024), (kernelRun0_B.sl.v481 (F := Ideal) c arg2 harg2 arg4 harg4 arg5 harg5 arg6 harg6 arg7 harg7 arg8 harg8 arg9 harg9 arg10 harg10 arg11 harg11 arg12 harg12 arg15 harg15 arg16 harg16 arg17 x0 x2 x3 x4 x5 x6 x7 x8 x9 x10 xs0 xs1 (ix2 l q) : EReal) = yoff A b k l q + ydiag A b k l q := by
  exact fun l q => ((B_HS2_18 hA H Hx Hs).1.read (o := 0) (w := 1024) arg17.view _ (by omega) (by omega) (by omega) l q).trans (by simp only [Nat.zero_add])
/-- The output window. -/
theorem B_out (hc0 : ¬cond0_0 i) : ∀ (l : Fin 128) (q : Fin 1024), (out0_B_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1 (ix2 l q) : EReal) = out A b k l q := by
  intro l q
  unfold out0_B_12
  rw [View.read_writes_junk_eq_canon]
  refine (canon_of (Val := Elt Ideal) (e := .bf16) (a := 0) (b := 0) (m' := 128) (w := 1024) inb_S128x1024_S128x1024_0_0 (k0_pay1 (kernelRun0_B.sl.r_31 (F := Ideal) c arg2 harg2 arg3 harg3 arg4 harg4 arg5 harg5 arg6 harg6 arg7 harg7 arg8 harg8 arg9 harg9 arg10 harg10 arg11 harg11 arg12 harg12 arg15 harg15 arg16 harg16 arg17 x0 x1 x2 x3 x4 x5 x6 x7 x8 x9 x10 xs0 xs1) (kernelRun0_B.sl.r_32 (F := Ideal) c arg13 harg13 x11)) [] l q (by omega) (by omega) (by omega) (by omega)).trans ?_
  exact pay66_at b k _ _ _ _ (B_r_2 hA H Hx Hs) (B_r_14 hA H Hx Hs) (B_v481 hA H Hx Hs) (fun l q => H.rd1 _ _ _ l q) _ (fun q => H.rd11 _ _ _ q) l q
/-- The rows the next chunk's convolution takes. -/
theorem B_buf (hc0 : ¬cond0_0 i) : ∀ (r : Fin 136) (q : Fin 1536), r.val < 8 → (sout0_B_0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1 (ix2 r q) : EReal) = xp A b (128 * (k + 1) + r) q := by
  intro r q hr
  unfold sout0_B_0
  rw [View.read_writes_junk_eq_canon]
  refine (canon_of (Val := Elt Ideal) (e := .f32) (a := 0) (b := 0) (m' := 8) (w := 1536) inb_S136x1536_S8x1536_0_0 (k0_pay6 (kernelRun0_B.sl.r (F := Ideal) c arg2 harg2 arg15 harg15 x0 xs0)) (kernelRun0_B.sl.HS0_1 (F := Ideal) c arg2 harg2 x0) r q (by omega) (by omega) (by omega) (by omega)).trans ?_
  pointwise [k0_pay6]
  refine ((B_r hA H Hx Hs) _ _).trans ?_
  exact congrArg (fun n => xp A b n q) (show 128 * k + (128 + r.val) = 128 * (k + 1) + r.val by omega)
/-- The state left to the next chunk. -/
theorem B_st (hc0 : ¬cond0_0 i) : ∀ (n : Fin 128) (q : Fin 1024), (sout0_B_1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs0 xs1 (ix2 n q) : EReal) = state A b (k + 1) n q := by
  intro n q
  unfold sout0_B_1
  rw [View.read_writes_junk_eq_canon]
  by_cases h : 512 ≤ q.val
  · refine (canon_of (Val := Elt Ideal) (e := .f32) (a := 0) (b := 512) (m' := 128) (w := 512) inb_S128x1024_S128x512_0_512 (k0_pay52 (kernelRun0_B.sl.r_27 (F := Ideal) c arg2 harg2 arg4 harg4 arg6 harg6 arg7 harg7 arg8 harg8 arg10 harg10 arg12 harg12 arg15 harg15 arg16 harg16 x0 x2 x4 x5 x6 x8 x10 xs0 xs1)) ([⟨Rect.unit (s := S128x1024) ![0, 0] S128x512.size inb_S128x1024_S128x512_0_0, k0_pay35 (kernelRun0_B.sl.r_13 (F := Ideal) c arg4 harg4 arg8 harg8 arg10 harg10 arg12 harg12 x2 x6 x8 x10) (kernelRun0_B.sl.r_16 (F := Ideal) c arg2 harg2 arg4 harg4 arg6 harg6 arg7 harg7 arg8 harg8 arg10 harg10 arg12 harg12 arg15 harg15 x0 x2 x4 x5 x6 x8 x10 xs0) (kernelRun0_B.sl.r_18 (F := Ideal) c arg2 harg2 arg6 harg6 arg7 harg7 arg15 harg15 x0 x4 x5 xs0) (kernelRun0_B.sl.r_20 (F := Ideal) c arg16 harg16 xs1)⟩]) n q (by omega) (by omega) h (by omega)).trans ?_
    pointwise [k0_pay52]
    refine ((B_r_27 hA H Hx Hs) _ ⟨q.val - 512, by omega⟩).trans ?_
    exact congrArg (state A b (k + 1) n) (show 512 + (q.val - 512) = q.val by omega)
  · refine (canon_out (Val := Elt Ideal) (e := .f32) inb_S128x1024_S128x512_0_512 (k0_pay52 (kernelRun0_B.sl.r_27 (F := Ideal) c arg2 harg2 arg4 harg4 arg6 harg6 arg7 harg7 arg8 harg8 arg10 harg10 arg12 harg12 arg15 harg15 arg16 harg16 x0 x2 x4 x5 x6 x8 x10 xs0 xs1)) ([⟨Rect.unit (s := S128x1024) ![0, 0] S128x512.size inb_S128x1024_S128x512_0_0, k0_pay35 (kernelRun0_B.sl.r_13 (F := Ideal) c arg4 harg4 arg8 harg8 arg10 harg10 arg12 harg12 x2 x6 x8 x10) (kernelRun0_B.sl.r_16 (F := Ideal) c arg2 harg2 arg4 harg4 arg6 harg6 arg7 harg7 arg8 harg8 arg10 harg10 arg12 harg12 arg15 harg15 x0 x2 x4 x5 x6 x8 x10 xs0) (kernelRun0_B.sl.r_18 (F := Ideal) c arg2 harg2 arg6 harg6 arg7 harg7 arg15 harg15 x0 x4 x5 xs0) (kernelRun0_B.sl.r_20 (F := Ideal) c arg16 harg16 xs1)⟩]) n q (by omega)).trans ?_
    refine (canon_of (Val := Elt Ideal) (e := .f32) (a := 0) (b := 0) (m' := 128) (w := 512) inb_S128x1024_S128x512_0_0 (k0_pay35 (kernelRun0_B.sl.r_13 (F := Ideal) c arg4 harg4 arg8 harg8 arg10 harg10 arg12 harg12 x2 x6 x8 x10) (kernelRun0_B.sl.r_16 (F := Ideal) c arg2 harg2 arg4 harg4 arg6 harg6 arg7 harg7 arg8 harg8 arg10 harg10 arg12 harg12 arg15 harg15 x0 x2 x4 x5 x6 x8 x10 xs0) (kernelRun0_B.sl.r_18 (F := Ideal) c arg2 harg2 arg6 harg6 arg7 harg7 arg15 harg15 x0 x4 x5 xs0) (kernelRun0_B.sl.r_20 (F := Ideal) c arg16 harg16 xs1)) _ n q (by omega) (by omega) (by omega) (by omega)).trans ?_
    exact pay35_at b k _ _ (B_r_13 hA H Hx Hs) _ (B_r_16 hA H Hx Hs) _ (B_r_18 hA H Hx Hs) (B_r_20 hA H Hx Hs) n ⟨q.val, by omega⟩

end Cert.KernelIdeal.Value

end
-- ==== Proof.Ssd.Sweep.lean ====
/- The sweep over the chunks: the arguments as plain functions, the input windows at each grid point, and the
   kernel's result as the closed form of `Spec`. -/
module

public import proofs.«01_k».proof.Proof.Ssd.CaseA
public import proofs.«01_k».proof.Proof.Ssd.CaseB
public import proofs.«01_k».proof.Proof.Ssd.Ext
public import proofs.«01_k».proof.Proof.Gen.KernelIdeal.Value
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.KernelIdeal.Value
open Cert.KernelIdeal Cert.KernelIdeal.Gen Cert.Ssd

variable (m : (ℓ : Loc nD τ sig) → Buf (Elt Ideal) ℓ) (c : Dev nD)

/-- The kernel program's arguments. -/
def args : Args := argsOf (m (c, Proc.tc.devRef main_arg0)) (m (c, Proc.tc.devRef main_arg1)) (m (c, Proc.tc.devRef main_arg2))
  (m (c, Proc.tc.devRef main_arg3)) (m (c, Proc.tc.devRef main_arg4)) (m (c, Proc.tc.devRef main_arg5)) (m (c, Proc.tc.devRef main_arg6))
  (m (c, Proc.tc.devRef main_arg7)) (m (c, Proc.tc.devRef main_arg8))

theorem idx0 : ∀ t : Fin grid0.N, win0_0.index t = ![t.val, 0] := (by decide +kernel : ∀ t : Fin grid0.N, _)
theorem win0_at (t : Fin grid0.N) (l : Fin 128) (q : Fin 1536) : (iblk m c 0 t : FVec Ideal S128x1536 .f32) (ix2 l q) = (args m c).x (t.val / 16) (128 * (t.val % 16) + l) q := by
  have i0 : win0_0.index t 0 = t.val := by rw [idx0]; rfl
  have i1 : win0_0.index t 1 = 0 := by rw [idx0]; rfl
  have ht : t.val < 128 := t.isLt
  blk_simp [iblk]
  entry_read
  pointwise
  refine ext3_eq _ _ _ _ ?_ ?_ ?_
  · show (win0_0.index t 0 * 128 + 1 * l.val) / 2048 = t.val / 16; rw [i0]; omega
  · show (win0_0.index t 0 * 128 + 1 * l.val) % 2048 = 128 * (t.val % 16) + l.val; rw [i0]; omega
  · show (win0_0.index t 1 * 1536 + 1 * q.val) = q.val; rw [i1]; omega
theorem idx1 : ∀ t : Fin grid0.N, win0_1.index t = ![t.val, 0] := (by decide +kernel : ∀ t : Fin grid0.N, _)
theorem win1_at (t : Fin grid0.N) (l : Fin 128) (q : Fin 1024) : (iblk m c 1 t : FVec Ideal S128x1024 .f32) (ix2 l q) = silu ((args m c).z (t.val / 16) (128 * (t.val % 16) + l) q) := by
  have i0 : win0_1.index t 0 = t.val := by rw [idx1]; rfl
  have i1 : win0_1.index t 1 = 0 := by rw [idx1]; rfl
  have ht : t.val < 128 := t.isLt
  blk_simp [iblk]
  entry_read
  pointwise
  refine silu_of (ext3_eq _ _ _ _ ?_ ?_ ?_)
  · show (win0_1.index t 0 * 128 + 1 * l.val) / 2048 = t.val / 16; rw [i0]; omega
  · show (win0_1.index t 0 * 128 + 1 * l.val) % 2048 = 128 * (t.val % 16) + l.val; rw [i0]; omega
  · show (win0_1.index t 1 * 1024 + 1 * q.val) = q.val; rw [i1]; omega
theorem idx2 : ∀ t : Fin grid0.N, win0_2.index t = ![t.val, 0] := (by decide +kernel : ∀ t : Fin grid0.N, _)
theorem win2_at (t : Fin grid0.N) (l : Fin 128) (q : Fin 128) (hq : q.val < 16) : (iblk m c 2 t : FVec Ideal S128x128 .f32) (ix2 l q) = (args m c).dt (t.val / 16) (128 * (t.val % 16) + l) q := by
  have i0 : win0_2.index t 0 = t.val := by rw [idx2]; rfl
  have i1 : win0_2.index t 1 = 0 := by rw [idx2]; rfl
  have ht : t.val < 128 := t.isLt
  blk_simp [iblk]
  entry_read
  pointwise
  refine (dif_pos (show (win0_2.index t 1 * 128 + 1 * q.val) < 16 by rw [i1]; omega)).trans (ext3_eq _ _ _ _ ?_ ?_ ?_)
  · show (win0_2.index t 0 * 128 + 1 * l.val) / 2048 = t.val / 16; rw [i0]; omega
  · show (win0_2.index t 0 * 128 + 1 * l.val) % 2048 = 128 * (t.val % 16) + l.val; rw [i0]; omega
  · show (win0_2.index t 1 * 128 + 1 * q.val) = q.val; rw [i1]; omega
theorem idx3 : ∀ t : Fin grid0.N, win0_3.index t = ![0, t.val] := (by decide +kernel : ∀ t : Fin grid0.N, _)
theorem win3_at (t : Fin grid0.N) (l : Fin 128) (q : Fin 128) (hl : l.val < 16) : (iblk m c 3 t : FVec Ideal S128x128 .f32) (ix2 l q) = (args m c).dt (t.val / 16) (128 * (t.val % 16) + q) l := by
  have i0 : win0_3.index t 0 = 0 := by rw [idx3]; rfl
  have i1 : win0_3.index t 1 = t.val := by rw [idx3]; rfl
  have ht : t.val < 128 := t.isLt
  blk_simp [iblk]
  entry_read
  pointwise
  refine (dif_pos (show (win0_3.index t 0 * 128 + 1 * l.val) < 16 by rw [i0]; omega)).trans (ext3_eq _ _ _ _ ?_ ?_ ?_)
  · show (win0_3.index t 1 * 128 + 1 * q.val) / 2048 = t.val / 16; rw [i1]; omega
  · show (win0_3.index t 1 * 128 + 1 * q.val) % 2048 = 128 * (t.val % 16) + q.val; rw [i1]; omega
  · show (win0_3.index t 0 * 128 + 1 * l.val) = l.val; rw [i0]; omega
theorem idx4 : ∀ t : Fin grid0.N, win0_4.index t = ![0, 0] := (by decide +kernel : ∀ t : Fin grid0.N, _)
theorem win4_at (t : Fin grid0.N) (l : Fin 4) (q : Fin 1536) : (iblk m c 4 t : FVec Ideal S4x1536 .f32) (ix2 l q) = (args m c).cw l q := by
  have i0 : win0_4.index t 0 = 0 := by rw [idx4]; rfl
  have i1 : win0_4.index t 1 = 0 := by rw [idx4]; rfl
  have ht : t.val < 128 := t.isLt
  blk_simp [iblk]
  entry_read
  pointwise
  refine ext2_at _ _ ?_ ?_
  · show (win0_4.index t 0 * 4 + 1 * l.val) = l.val; rw [i0]; omega
  · show (win0_4.index t 1 * 1536 + 1 * q.val) = q.val; rw [i1]; omega
theorem idx5 : ∀ t : Fin grid0.N, win0_5.index t = ![0, 0] := (by decide +kernel : ∀ t : Fin grid0.N, _)
theorem win5_at (t : Fin grid0.N) (l : Fin 1) (q : Fin 1536) : (iblk m c 5 t : FVec Ideal S1x1536 .f32) (ix2 l q) = (args m c).cb q := by
  have i0 : win0_5.index t 0 = 0 := by rw [idx5]; rfl
  have i1 : win0_5.index t 1 = 0 := by rw [idx5]; rfl
  have ht : t.val < 128 := t.isLt
  blk_simp [iblk]
  entry_read
  pointwise
  refine ext1_eq _ _ ?_
  show (win0_5.index t 1 * 1536 + 1 * q.val) = q.val; rw [i1]; omega
theorem idx6 : ∀ t : Fin grid0.N, win0_6.index t = ![0, 0] := (by decide +kernel : ∀ t : Fin grid0.N, _)
theorem win6_at (t : Fin grid0.N) (l : Fin 1) (q : Fin 16) : (iblk m c 6 t : FVec Ideal S1x16 .f32) (ix2 l q) = (args m c).dtb q := by
  have i0 : win0_6.index t 0 = 0 := by rw [idx6]; rfl
  have i1 : win0_6.index t 1 = 0 := by rw [idx6]; rfl
  have ht : t.val < 128 := t.isLt
  blk_simp [iblk]
  entry_read
  pointwise
  refine ext1_eq _ _ ?_
  show (win0_6.index t 1 * 16 + 1 * q.val) = q.val; rw [i1]; omega
theorem idx7 : ∀ t : Fin grid0.N, win0_7.index t = ![0, 0] := (by decide +kernel : ∀ t : Fin grid0.N, _)
theorem win7_at (t : Fin grid0.N) (l : Fin 16) (q : Fin 1) : (iblk m c 7 t : FVec Ideal S16x1 .f32) (ix2 l q) = (args m c).dtb l := by
  have i0 : win0_7.index t 0 = 0 := by rw [idx7]; rfl
  have i1 : win0_7.index t 1 = 0 := by rw [idx7]; rfl
  have ht : t.val < 128 := t.isLt
  blk_simp [iblk]
  entry_read
  pointwise
  refine ext1_eq _ _ ?_
  show (win0_7.index t 0 * 16 + 1 * l.val) = l.val; rw [i0]; omega
theorem idx8 : ∀ t : Fin grid0.N, win0_8.index t = ![0, 0] := (by decide +kernel : ∀ t : Fin grid0.N, _)
theorem win8_at (t : Fin grid0.N) (l : Fin 1) (q : Fin 16) : (iblk m c 8 t : FVec Ideal S1x16 .f32) (ix2 l q) = (args m c).al q := by
  have i0 : win0_8.index t 0 = 0 := by rw [idx8]; rfl
  have i1 : win0_8.index t 1 = 0 := by rw [idx8]; rfl
  have ht : t.val < 128 := t.isLt
  blk_simp [iblk]
  entry_read
  pointwise
  refine ext1_eq _ _ ?_
  show (win0_8.index t 1 * 16 + 1 * q.val) = q.val; rw [i1]; omega
theorem idx9 : ∀ t : Fin grid0.N, win0_9.index t = ![0, 0] := (by decide +kernel : ∀ t : Fin grid0.N, _)
theorem win9_at (t : Fin grid0.N) (l : Fin 16) (q : Fin 1) : (iblk m c 9 t : FVec Ideal S16x1 .f32) (ix2 l q) = (args m c).al l := by
  have i0 : win0_9.index t 0 = 0 := by rw [idx9]; rfl
  have i1 : win0_9.index t 1 = 0 := by rw [idx9]; rfl
  have ht : t.val < 128 := t.isLt
  blk_simp [iblk]
  entry_read
  pointwise
  refine ext1_eq _ _ ?_
  show (win0_9.index t 0 * 16 + 1 * l.val) = l.val; rw [i0]; omega
theorem idx10 : ∀ t : Fin grid0.N, win0_10.index t = ![0, 0] := (by decide +kernel : ∀ t : Fin grid0.N, _)
theorem win10_at (t : Fin grid0.N) (l : Fin 1) (q : Fin 16) : (iblk m c 10 t : FVec Ideal S1x16 .f32) (ix2 l q) = (args m c).ds q := by
  have i0 : win0_10.index t 0 = 0 := by rw [idx10]; rfl
  have i1 : win0_10.index t 1 = 0 := by rw [idx10]; rfl
  have ht : t.val < 128 := t.isLt
  blk_simp [iblk]
  entry_read
  pointwise
  refine ext1_eq _ _ ?_
  show (win0_10.index t 1 * 16 + 1 * q.val) = q.val; rw [i1]; omega
theorem idx11 : ∀ t : Fin grid0.N, win0_11.index t = ![0, 0] := (by decide +kernel : ∀ t : Fin grid0.N, _)
theorem win11_at (t : Fin grid0.N) (l : Fin 1) (q : Fin 1024) : (iblk m c 11 t : FVec Ideal S1x1024 .f32) (ix2 l q) = (args m c).ng q := by
  have i0 : win0_11.index t 0 = 0 := by rw [idx11]; rfl
  have i1 : win0_11.index t 1 = 0 := by rw [idx11]; rfl
  have ht : t.val < 128 := t.isLt
  blk_simp [iblk]
  entry_read
  pointwise
  refine ext1_eq _ _ ?_
  show (win0_11.index t 1 * 1024 + 1 * q.val) = q.val; rw [i1]; omega

/-- The windows of one grid point, together. -/
theorem ptIn (t : Fin grid0.N) : PtIn (args m c) (t.val / 16) (t.val % 16) (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t) where
  x0 := win0_at m c t
  x1 := win1_at m c t
  x2 := win2_at m c t
  x3 := win3_at m c t
  x4 := win4_at m c t
  x5 := win5_at m c t
  x6 := win6_at m c t
  x7 := win7_at m c t
  x8 := win8_at m c t
  x9 := win9_at m c t
  x10 := win10_at m c t
  x11 := win11_at m c t

/-- What one grid point leaves: its output window and what the next chunk takes. -/
def Leaves (t : ℕ) (o : Vec Ideal S128x1024 .bf16 × Vec Ideal S136x1536 .f32 × Vec Ideal S128x1024 .f32) : Prop :=
  (∀ (l : Fin 128) (q : Fin 1024), (o.1 (ix2 l q) : EReal) = out (args m c) (t / 16) (t % 16) l q) ∧
  (∀ (r : Fin 136) (q : Fin 1536), r.val < 8 → (o.2.1 (ix2 r q) : EReal) = xp (args m c) (t / 16) (128 * (t % 16 + 1) + r) q) ∧
  (∀ (n : Fin 128) (q : Fin 1024), (o.2.2 (ix2 n q) : EReal) = state (args m c) (t / 16) (t % 16 + 1) n q)

theorem Leaves.mk {t b k : ℕ} (hb : t / 16 = b) (hk : t % 16 = k) {o1 : Vec Ideal S128x1024 .bf16} {o2 : Vec Ideal S136x1536 .f32}
    {o3 : Vec Ideal S128x1024 .f32} (h1 : ∀ (l : Fin 128) (q : Fin 1024), (o1 (ix2 l q) : EReal) = out (args m c) b k l q)
    (h2 : ∀ (r : Fin 136) (q : Fin 1536), r.val < 8 → (o2 (ix2 r q) : EReal) = xp (args m c) b (128 * (k + 1) + r) q)
    (h3 : ∀ (n : Fin 128) (q : Fin 1024), (o3 (ix2 n q) : EReal) = state (args m c) b (k + 1) n q) : Leaves m c t (o1, o2, o3) := by
  subst hb hk; exact ⟨h1, h2, h3⟩

/-- Every grid point leaves what the closed form says. -/
theorem leaves (hA : (args m c).Finite) : ∀ (n : ℕ) (hn : n < cfg0.N), Leaves m c n (outsAt0 m c n hn)
  | n, hn => by
    have H := ptIn m c ⟨n, hn⟩
    by_cases h0 : n % 16 = 0
    · have e := outsAt0_A m c ⟨n, hn⟩ h0
      have hk : (⟨n, hn⟩ : Fin grid0.N).val % 16 = 0 := h0
      rw [hk] at H
      refine e ▸ ?_
      exact Leaves.mk m c rfl h0 (A_out hA H _) (A_buf hA H _) (A_st hA H _)
    · obtain ⟨k, rfl⟩ : ∃ k, n = k + 1 := ⟨n - 1, by omega⟩
      have e := outsAt0_B m c ⟨k + 1, hn⟩ h0
      obtain ⟨-, ih1, ih2⟩ := leaves hA k (by omega)
      have hb : k / 16 = (k + 1) / 16 := by omega
      have hk : k % 16 + 1 = (k + 1) % 16 := by omega
      rw [hb, hk] at ih1 ih2
      refine e ▸ ?_
      exact Leaves.mk m c rfl rfl (B_out hA H ih1 ih2 _) (B_buf hA H ih1 ih2 _) (B_st hA H ih1 ih2 _)

/-- The kernel's result, entry by entry. -/
theorem G12_at (hA : (args m c).Finite) (r : Fin 16384) (q : Fin 1024) :
    (G12 m c (ix2 r q) : EReal) = out (args m c) (r.val / 2048) (r.val % 2048 / 128) (r.val % 128) q := by
  have hp : pt12Of (ix2 r q) = r.val / 128 := by
    show 1 * (r.val / 128 - 0) + 1 * (q.val / 1024 - 0) = _
    omega
  have hn : pt12Of (ix2 r q) < cfg0.N := by rw [hp]; have := r.isLt; show r.val / 128 < 128; omega
  have h := (leaves m c hA (pt12Of (ix2 r q)) hn).1 ⟨r.val % 128, by omega⟩ q
  rw [outsAt0_sweep] at h
  unfold G12
  have hl : loc12Of (ix2 r q) = ix2 ⟨r.val % 128, by omega⟩ q := by
    refine funext fun a => Fin.ext ?_
    match a with
    | ⟨0, _⟩ => rfl
    | ⟨1, _⟩ => show q.val % 1024 = q.val; omega
  rw [hl]
  refine ((dif_pos hn).trans h).trans ?_
  rw [hp]
  have e1 : r.val / 128 / 16 = r.val / 2048 := by omega
  have e2 : r.val / 128 % 16 = r.val % 2048 / 128 := by omega
  rw [e1, e2]

end Cert.KernelIdeal.Value

end
-- ==== Proof.Ssd.RefPre.lean ====
module

public import proofs.«01_k».proof.Proof.Gen.ReferenceIdeal.Run
public import proofs.«01_k».proof.Proof.Ssd.Ext
public import proofs.«01_k».proof.Proof.Ssd.Window
public import Idealize.ShloMosaic.Lib.Claim
public import Idealize.ShloMosaic.Lib.ValueIdxRank6
public import Idealize.ShloMosaic.Lib.StableHlo.ReadAt
public import Idealize.ShloMosaic.Lib.Pipeline.ValueKit

/-!
# The reference before its loop

What each stretch of the reference's operations leaves, entry by entry, in the terms of `Cert.Ssd`'s closed form.
-/

@[expose] public section

set_option maxRecDepth 8192

noncomputable section

open Idealize.ShloMosaic Idealize.ShloMosaic.TcCoe Idealize.SL.Sem

namespace Cert.ReferenceIdeal.Value

open Cert.ReferenceIdeal Cert.ReferenceIdeal.Gen Cert.Ssd StableHlo

variable (V : Valuation τ sig (Elt Ideal))

/-- The nine arguments, as functions. -/
abbrev argsV : Args := argsOf (V (Proc.devRef .tc main_arg0)) (V (Proc.devRef .tc main_arg1)) (V (Proc.devRef .tc main_arg2)) (V (Proc.devRef .tc main_arg3))
  (V (Proc.devRef .tc main_arg4)) (V (Proc.devRef .tc main_arg5)) (V (Proc.devRef .tc main_arg6)) (V (Proc.devRef .tc main_arg7)) (V (Proc.devRef .tc main_arg8))

/-- The contents after the stretches up to this one. -/
def e0 : Valuation τ sig (Elt Ideal) := after hostOps0 V
/-- The contents after the stretches up to this one. -/
def e1 : Valuation τ sig (Elt Ideal) := after hostOps0_1 (e0 V)
/-- The contents after the stretches up to this one. -/
def e2 : Valuation τ sig (Elt Ideal) := after hostOps0_2 (e1 V)
/-- The contents after the stretches up to this one. -/
def e3 : Valuation τ sig (Elt Ideal) := after hostOps0_3 (e2 V)
/-- The contents after the stretches up to this one. -/
def e4 : Valuation τ sig (Elt Ideal) := after hostOps0_4 (e3 V)
/-- The contents after the stretches up to this one. -/
def e5 : Valuation τ sig (Elt Ideal) := after hostOps0_5 (e4 V)
/-- The contents after the stretches up to this one. -/
def e6 : Valuation τ sig (Elt Ideal) := after hostOps0_6 (e5 V)
/-- The contents after the stretches up to this one. -/
def e7 : Valuation τ sig (Elt Ideal) := after hostOps0_7 (e6 V)
/-- The contents after the stretches up to this one. -/
def e8 : Valuation τ sig (Elt Ideal) := after hostOps0_8 (e7 V)
/-- The contents after the stretches up to this one. -/
def e9 : Valuation τ sig (Elt Ideal) := after hostOps0_9 (e8 V)
/-- The contents after the stretches up to this one. -/
def e10 : Valuation τ sig (Elt Ideal) := after hostOps0_10 (e9 V)
/-- The contents after the stretches up to this one. -/
def e11 : Valuation τ sig (Elt Ideal) := after hostOps0_11 (e10 V)
/-- The contents after the stretches up to this one. -/
def e12 : Valuation τ sig (Elt Ideal) := after hostOps0_12 (e11 V)
/-- A stretch leaves a buffer it does not write alone. -/
theorem keep0 (r : Ref sig .tc) (h : r ∉ hostOps0_W) :
    e0 V (Proc.devRef .tc r) = V (Proc.devRef .tc r) := after_of_writes_sub hostOps0 _ hostOps0_writes h
/-- A stretch leaves a buffer it does not write alone. -/
theorem keep1 (r : Ref sig .tc) (h : r ∉ hostOps0_1_W) :
    e1 V (Proc.devRef .tc r) = e0 V (Proc.devRef .tc r) := after_of_writes_sub hostOps0_1 _ hostOps0_1_writes h
/-- A stretch leaves a buffer it does not write alone. -/
theorem keep2 (r : Ref sig .tc) (h : r ∉ hostOps0_2_W) :
    e2 V (Proc.devRef .tc r) = e1 V (Proc.devRef .tc r) := after_of_writes_sub hostOps0_2 _ hostOps0_2_writes h
/-- A stretch leaves a buffer it does not write alone. -/
theorem keep3 (r : Ref sig .tc) (h : r ∉ hostOps0_3_W) :
    e3 V (Proc.devRef .tc r) = e2 V (Proc.devRef .tc r) := after_of_writes_sub hostOps0_3 _ hostOps0_3_writes h
/-- A stretch leaves a buffer it does not write alone. -/
theorem keep4 (r : Ref sig .tc) (h : r ∉ hostOps0_4_W) :
    e4 V (Proc.devRef .tc r) = e3 V (Proc.devRef .tc r) := after_of_writes_sub hostOps0_4 _ hostOps0_4_writes h
/-- A stretch leaves a buffer it does not write alone. -/
theorem keep5 (r : Ref sig .tc) (h : r ∉ hostOps0_5_W) :
    e5 V (Proc.devRef .tc r) = e4 V (Proc.devRef .tc r) := after_of_writes_sub hostOps0_5 _ hostOps0_5_writes h
/-- A stretch leaves a buffer it does not write alone. -/
theorem keep6 (r : Ref sig .tc) (h : r ∉ hostOps0_6_W) :
    e6 V (Proc.devRef .tc r) = e5 V (Proc.devRef .tc r) := after_of_writes_sub hostOps0_6 _ hostOps0_6_writes h
/-- A stretch leaves a buffer it does not write alone. -/
theorem keep7 (r : Ref sig .tc) (h : r ∉ hostOps0_7_W) :
    e7 V (Proc.devRef .tc r) = e6 V (Proc.devRef .tc r) := after_of_writes_sub hostOps0_7 _ hostOps0_7_writes h
/-- A stretch leaves a buffer it does not write alone. -/
theorem keep8 (r : Ref sig .tc) (h : r ∉ hostOps0_8_W) :
    e8 V (Proc.devRef .tc r) = e7 V (Proc.devRef .tc r) := after_of_writes_sub hostOps0_8 _ hostOps0_8_writes h
/-- A stretch leaves a buffer it does not write alone. -/
theorem keep9 (r : Ref sig .tc) (h : r ∉ hostOps0_9_W) :
    e9 V (Proc.devRef .tc r) = e8 V (Proc.devRef .tc r) := after_of_writes_sub hostOps0_9 _ hostOps0_9_writes h
/-- A stretch leaves a buffer it does not write alone. -/
theorem keep10 (r : Ref sig .tc) (h : r ∉ hostOps0_10_W) :
    e10 V (Proc.devRef .tc r) = e9 V (Proc.devRef .tc r) := after_of_writes_sub hostOps0_10 _ hostOps0_10_writes h
/-- A stretch leaves a buffer it does not write alone. -/
theorem keep11 (r : Ref sig .tc) (h : r ∉ hostOps0_11_W) :
    e11 V (Proc.devRef .tc r) = e10 V (Proc.devRef .tc r) := after_of_writes_sub hostOps0_11 _ hostOps0_11_writes h
/-- A stretch leaves a buffer it does not write alone. -/
theorem keep12 (r : Ref sig .tc) (h : r ∉ hostOps0_12_W) :
    e12 V (Proc.devRef .tc r) = e11 V (Proc.devRef .tc r) := after_of_writes_sub hostOps0_12 _ hostOps0_12_writes h

/-- Zero as a number. -/
theorem sitofp_zero : FloatOps.sitofp (F := Ideal) FTy.f32 (0#32 : BitVec 32) = (0 : EReal) := by
  show (((0#32 : BitVec 32).toInt : ℝ) : EReal) = 0
  norm_num
/-- The convolution's taps in the kernel's order. -/
theorem conv_order (x0 x1 x2 x3 w0 w1 w2 w3 b : EReal) :
    x0 * w0 + x1 * w1 + x2 * w2 + x3 * w3 + b = b + w3 * x3 + w0 * x0 + w1 * x1 + w2 * x2 := by
  rw [mul_comm x0, mul_comm x1, mul_comm x2, mul_comm x3]
  ac_rfl
/-- The factors of a chunk's addition to the state in the kernel's order. -/
theorem state_order (e x d b : EReal) : e * (x * d) * b = b * (x * (d * e)) := by ac_rfl
/-- The mask's word. -/
theorem mask_word (l k : Fin 128) : Scalar.select (IntOp.cmpi CmpIPredicate.sge (IntOp.addi (BitVec.ofNat 32 l.val) 0#32) (BitVec.ofNat 32 k.val)) 1#1 0#1
    = if k.val ≤ l.val then 1#1 else 0#1 := by
  have hl := l.isLt
  have hk := k.isLt
  have h1 : (BitVec.ofNat 32 l.val).toInt = l.val := by rw [BitVec.toInt_ofNat', Int.bmod_eq_of_le] <;> omega
  have h2 : (BitVec.ofNat 32 k.val).toInt = k.val := by rw [BitVec.toInt_ofNat', Int.bmod_eq_of_le] <;> omega
  have h0 : IntOp.addi (BitVec.ofNat 32 l.val) 0#32 = BitVec.ofNat 32 l.val := BitVec.add_zero _
  rw [h0]
  by_cases h : k.val ≤ l.val
  · rw [if_pos h]
    simp [Scalar.select, IntOp.cmpi, BitVec.sle, h1, h2, h]
  · rw [if_neg h]
    simp [Scalar.select, IntOp.cmpi, BitVec.sle, h1, h2, h]
/-- The padded input. -/
theorem r_v0 (b : Fin 8) (s : Fin 2051) (q : Fin 1536) :
    (e1 V (Proc.devRef .tc main_v0) (ix3 b s q) : EReal) = xp (argsV V) b (5 + s) q := by
  unfold e1
  after_reads_at
  have hc : e0 V (Proc.devRef .tc main_c) (Shape.Idx.first h_S_) = 0#32 := by
    unfold e0
    after_reads_at
  rw [hc, xp]
  by_cases hs : 3 ≤ s.val
  · rw [dif_pos ⟨hs, by omega⟩, if_pos (by omega), keep0 V main_arg1 (by decide)]
    exact ext3_eq _ _ _ _ rfl (by dsimp only; omega) rfl
  · rw [dif_neg (fun h => hs h.1), if_neg (by omega)]
    exact sitofp_zero
/-- The convolution. -/
theorem r_v30 (b : Fin 8) (s : Fin 2048) (q : Fin 1536) :
    (e2 V (Proc.devRef .tc main_v30) (ix3 b s q) : EReal) = conv (argsV V) b s q := by
  unfold e2
  after_reads_at
  rw [r_v0, r_v0, r_v0, r_v0, keep1 V main_arg3 (by decide), keep0 V main_arg3 (by decide), keep1 V main_arg4 (by decide), keep0 V main_arg4 (by decide)]
  rw [ext2_eq (V (Proc.devRef .tc main_arg3)) 0 q rfl rfl, ext2_eq (V (Proc.devRef .tc main_arg3)) 1 q rfl rfl, ext2_eq (V (Proc.devRef .tc main_arg3)) 2 q rfl rfl,
    ext2_eq (V (Proc.devRef .tc main_arg3)) 3 q rfl rfl, ext1_eq (V (Proc.devRef .tc main_arg4)) q rfl]
  rw [conv, show 5 + (1 + s.val) = 6 + s.val by omega, show 5 + (2 + s.val) = 7 + s.val by omega, show 5 + (3 + s.val) = 8 + s.val by omega]
  exact conv_order _ _ _ _ _ _ _ _ _
/-- The activated convolution. -/
theorem r_v31 (hA : (argsV V).Finite) (b : Fin 8) (s : Fin 2048) (q : Fin 1536) :
    (e3 V (Proc.devRef .tc main_v31) (ix3 b s q) : EReal) = u (argsV V) b s q := by
  unfold e3
  after_reads_at
  rw [r_v30, u, silu_eq (real_conv _ hA _ _)]
/-- The inner channels. -/
theorem r_v35 (hA : (argsV V).Finite) (b : Fin 8) (c : Fin 16) (l : Fin 128) (g : Fin 2) (h : Fin 8) (p : Fin 64) :
    (e4 V (Proc.devRef .tc main_v35) (ix6 b c l g h p) : EReal) = xs (argsV V) b c l (512 * g + 64 * h + p) := by
  unfold e4
  after_reads_at
  rw [r_v31 V hA, xs]
  dsimp only
  congr 1 <;> omega
/-- A group projection. -/
theorem r_v36 (hA : (argsV V).Finite) (b : Fin 8) (c : Fin 16) (l : Fin 128) (g : Fin 2) (n : Fin 128) :
    (e4 V (Proc.devRef .tc main_v36) (ix5 b c l g n) : EReal) = bm (argsV V) b c g l n := by
  unfold e4
  after_reads_at
  rw [r_v31 V hA, bm]
  dsimp only
  congr 1 <;> omega
/-- A group projection. -/
theorem r_v37 (hA : (argsV V).Finite) (b : Fin 8) (c : Fin 16) (l : Fin 128) (g : Fin 2) (n : Fin 128) :
    (e4 V (Proc.devRef .tc main_v37) (ix5 b c l g n) : EReal) = cm (argsV V) b c g l n := by
  unfold e4
  after_reads_at
  rw [r_v31 V hA, cm]
  dsimp only
  congr 1 <;> omega
/-- The step sizes before their activation. -/
theorem r_v40 (b : Fin 8) (s : Fin 2048) (h : Fin 16) :
    (e4 V (Proc.devRef .tc main_v40) (ix3 b s h) : EReal) = (argsV V).dt b s h + (argsV V).dtb h := by
  unfold e4
  after_reads_at
  rw [keep3 V main_arg2 (by decide), keep2 V main_arg2 (by decide), keep1 V main_arg2 (by decide), keep0 V main_arg2 (by decide), keep3 V main_arg5 (by decide), keep2 V main_arg5 (by decide), keep1 V main_arg5 (by decide), keep0 V main_arg5 (by decide)]
  rw [ext3_eq (V (Proc.devRef .tc main_arg2)) b s h rfl rfl rfl, ext1_eq (V (Proc.devRef .tc main_arg5)) h rfl]
  rfl
/-- The step sizes. -/
theorem r_v41 (b : Fin 8) (s : Fin 2048) (h : Fin 16) :
    (e5 V (Proc.devRef .tc main_v41) (ix3 b s h) : EReal) = dtv (argsV V) b s h := by
  unfold e5
  after_reads_at
  rw [if_neg (fun h => h rfl), r_v40, dtv, softplus, zero_sub]
  rfl
/-- The log decay rates are kept. -/
theorem r_arg6 : e5 V (Proc.devRef .tc main_arg6) = V (Proc.devRef .tc main_arg6) := by
  rw [keep5 V main_arg6 (by decide), keep4 V main_arg6 (by decide), keep3 V main_arg6 (by decide), keep2 V main_arg6 (by decide), keep1 V main_arg6 (by decide), keep0 V main_arg6 (by decide)]
/-- The log decays. -/
theorem r_v48 (b : Fin 8) (c : Fin 16) (g : Fin 2) (h : Fin 8) (l : Fin 128) :
    (e6 V (Proc.devRef .tc main_v48) (ix5 b c g h l) : EReal) = da (argsV V) b (128 * c + l) (8 * g + h) := by
  unfold e6
  after_reads_at
  rw [r_v41, r_arg6, da, zero_sub]
  rw [ext1_eq (V (Proc.devRef .tc main_arg6)) (⟨g.val * 8 + h.val, by omega⟩ : Fin 16) (Nat.mul_comm g.val 8 ▸ rfl : g.val * 8 + h.val = 8 * g.val + h.val)]
  dsimp only
  rw [Nat.mul_comm c.val, Nat.mul_comm g.val]
  rfl
/-- Inputs times step sizes. -/
theorem r_v52 (hA : (argsV V).Finite) (b : Fin 8) (c : Fin 16) (l : Fin 128) (g : Fin 2) (h : Fin 8) (p : Fin 64) :
    (e6 V (Proc.devRef .tc main_v52) (ix6 b c l g h p) : EReal) = xdt (argsV V) b c l (512 * g + 64 * h + p) := by
  unfold e6
  after_reads_at
  rw [r_v41, keep5 V main_v35 (by decide), r_v35 V hA, xdt]
  congr 2 <;> dsimp only <;> omega
end Cert.ReferenceIdeal.Value

end
-- ==== Proof.Ssd.RefMid.lean ====
module

public import proofs.«01_k».proof.Proof.Ssd.RefPre
public import Idealize.ShloMosaic.Lib.Claim
public import Idealize.ShloMosaic.Lib.ValueIdxRank6
public import Idealize.ShloMosaic.Lib.StableHlo.ReadAt
public import Idealize.ShloMosaic.Lib.Pipeline.ValueKit

/-!
# The summed log decays of the reference

What each stretch of the reference's operations leaves, entry by entry, in the terms of `Cert.Ssd`'s closed form.
-/

@[expose] public section

set_option maxRecDepth 8192

noncomputable section

open Idealize.ShloMosaic Idealize.ShloMosaic.TcCoe Idealize.SL.Sem

namespace Cert.ReferenceIdeal.Value

open Cert.ReferenceIdeal Cert.ReferenceIdeal.Gen Cert.Ssd StableHlo

variable (V : Valuation τ sig (Elt Ideal))

/-- The log decays summed. -/
theorem r_v53 (b : Fin 8) (c : Fin 16) (g : Fin 2) (h : Fin 8) (l : Fin 128) :
    (e7 V (Proc.devRef .tc main_v53) (ix5 b c g h l) : EReal) = acs (argsV V) b c l (8 * g + h) := by
  unfold e7
  after_reads_at
  exact (hostCumsum5 (e6 V (Proc.devRef .tc main_v48)) _ reduceWindows_S8x16x2x8x128_S8x16x2x8x128_w1s1p0_0_w1s1p0_0_w1s1p0_0_w1s1p0_0_w128s1p127_0 h_S_
    (by pointwise) b c g h l).trans (Finset.sum_congr rfl fun k _ => by rw [r_v48])
/-- The causal mask. -/
theorem r_v55 (l k : Fin 128) :
    (e9 V (Proc.devRef .tc main_v55) (ix2 l k) : BitVec 1) = if k.val ≤ l.val then 1#1 else 0#1 := by
  unfold e9
  after_reads_at
  have e' : (e8 V (Proc.devRef .tc main_v54) (ix2 l k) : BitVec 1) = 1#1 := by
    unfold e8
    after_reads_at
  rw [e', mask_word]
/-- The differences of summed log decays. -/
theorem r_v60 (b : Fin 8) (c : Fin 16) (g : Fin 2) (h : Fin 8) (l k : Fin 128) :
    (e10 V (Proc.devRef .tc main_v60) (ix6 b c g h l k) : EReal) = acs (argsV V) b c l (8 * g + h) - acs (argsV V) b c k (8 * g + h) := by
  unfold e10
  after_reads_at
  rw [keep9 V main_v53 (by decide), keep8 V main_v53 (by decide), r_v53, r_v53]
/-- The masked entries' constant. -/
theorem r_cst : (e10 V (Proc.devRef .tc main_cst) ix0 : EReal) = (⊥ : EReal) := by
  refine Eq.trans (?_ : _ = Ideal.ofBits .f32 4286578688#32) (by simp [Ideal.ofBits, Ideal.ieee])
  unfold e10
  after_reads_at
/-- The masked differences. -/
theorem r_v61 (b : Fin 8) (c : Fin 16) (g : Fin 2) (h : Fin 8) (l k : Fin 128) :
    (Ideal.exp (e11 V (Proc.devRef .tc main_v61) (ix6 b c g h l k)) : EReal) = seg (argsV V) b c (8 * g + h) l k := by
  refine congrArg Ideal.exp ?_
  unfold e11
  after_reads_at
  rw [id, r_v60, r_cst, keep10 V main_v55 (by decide), r_v55]
  by_cases hk : k.val ≤ l.val
  · rw [if_pos hk, if_pos hk]; rfl
  · rw [if_neg hk, if_neg hk]; rfl

end Cert.ReferenceIdeal.Value

end
-- ==== Proof.Ssd.RefStart.lean ====
module

public import proofs.«01_k».proof.Proof.Ssd.RefMid
public import Idealize.ShloMosaic.Lib.Claim
public import Idealize.ShloMosaic.Lib.ValueIdxRank6
public import Idealize.ShloMosaic.Lib.StableHlo.ReadAt
public import Idealize.ShloMosaic.Lib.Pipeline.ValueKit

/-!
# What the loop of the reference starts from

What each stretch of the reference's operations leaves, entry by entry, in the terms of `Cert.Ssd`'s closed form.
-/

@[expose] public section

set_option maxRecDepth 8192

noncomputable section

open Idealize.ShloMosaic Idealize.ShloMosaic.TcCoe Idealize.SL.Sem

namespace Cert.ReferenceIdeal.Value

open Cert.ReferenceIdeal Cert.ReferenceIdeal.Gen Cert.Ssd StableHlo

variable (V : Valuation τ sig (Elt Ideal))

/-- What a chunk's own positions contribute. -/
theorem r_v68 (hA : (argsV V).Finite) (b : Fin 8) (c : Fin 16) (l : Fin 128) (g : Fin 2) (h : Fin 8) (p : Fin 64) :
    (e12 V (Proc.devRef .tc main_v68) (ix6 b c l g h p) : EReal) = ydiag (argsV V) b c l (512 * g + 64 * h + p) := by
  unfold e12
  after_reads_at
  rw [ydiag, show (512 * g.val + 64 * h.val + p.val) / 512 = g.val by omega, show (512 * g.val + 64 * h.val + p.val) / 64 = 8 * g.val + h.val by omega]
  refine Finset.sum_congr rfl fun x _ => ?_
  rw [r_v61, keep11 V main_v52 (by decide), keep10 V main_v52 (by decide), keep9 V main_v52 (by decide), keep8 V main_v52 (by decide), keep7 V main_v52 (by decide), r_v52 V hA, mul_comm, cbm]
  refine congrArg (fun t => t * _ * _) (Finset.sum_congr rfl fun n _ => ?_)
  rw [keep11 V main_v37 (by decide), keep10 V main_v37 (by decide), keep9 V main_v37 (by decide), keep8 V main_v37 (by decide), keep7 V main_v37 (by decide), keep6 V main_v37 (by decide), keep5 V main_v37 (by decide), keep11 V main_v36 (by decide), keep10 V main_v36 (by decide), keep9 V main_v36 (by decide), keep8 V main_v36 (by decide), keep7 V main_v36 (by decide), keep6 V main_v36 (by decide), keep5 V main_v36 (by decide), r_v37 V hA, r_v36 V hA]
/-- The decay over a chunk. -/
theorem r_v83 (c : Fin 16) (b : Fin 8) (g : Fin 2) (h : Fin 8) :
    (e12 V (Proc.devRef .tc main_v85_1) (ix4 c b g h) : EReal) = Ideal.exp (acs (argsV V) b c 127 (8 * g + h)) := by
  have e : e12 V (Proc.devRef .tc main_v85_1) = e12 V (Proc.devRef .tc main_v83) := by
    unfold e12
    after_reads_simp
    rfl
  rw [e]
  unfold e12
  after_reads_at
  rw [keep11 V main_v53 (by decide), keep10 V main_v53 (by decide), keep9 V main_v53 (by decide), keep8 V main_v53 (by decide), r_v53]
  rfl
/-- The loop starts with the counter at zero and no state. -/
theorem r_start : (e12 V (Proc.devRef .tc main_v85_2) ix0 : BitVec 32) = 0#32 ∧ ∀ (b : Fin 8) (g : Fin 2) (h : Fin 8) (p : Fin 64) (n : Fin 128),
    (e12 V (Proc.devRef .tc main_v85_3) (ix5 b g h p n) : EReal) = (0 : EReal) := by
  unfold e12
  constructor
  · after_reads_simp
    rfl
  · intro b g h p n
    after_reads_simp
    show broadcastInDim S8x2x8x64x128 ![] bcast_S_S8x2x8x64x128 (constant (F := Ideal) S_ FTy.f32 0#32) (ix5 b g h p n) = (0 : EReal)
    pointwise

end Cert.ReferenceIdeal.Value

end
-- ==== Proof.Ssd.RefState.lean ====
module

public import proofs.«01_k».proof.Proof.Ssd.RefMid
public import Idealize.ShloMosaic.Lib.Claim
public import Idealize.ShloMosaic.Lib.ValueIdxRank6
public import Idealize.ShloMosaic.Lib.StableHlo.ReadAt
public import Idealize.ShloMosaic.Lib.Pipeline.ValueKit

/-!
# What a chunk of the reference adds to the state

What each stretch of the reference's operations leaves, entry by entry, in the terms of `Cert.Ssd`'s closed form.
-/

@[expose] public section

set_option maxRecDepth 8192

noncomputable section

open Idealize.ShloMosaic Idealize.ShloMosaic.TcCoe Idealize.SL.Sem

namespace Cert.ReferenceIdeal.Value

open Cert.ReferenceIdeal Cert.ReferenceIdeal.Gen Cert.Ssd StableHlo

variable (V : Valuation τ sig (Elt Ideal))

/-- One contraction of the host at an entry. -/
theorem dot_v77 (X : FVec Ideal S8x16x128x2x8x64 .f32) (Y : FVec Ideal S8x16x128x2x128 .f32) (b : Fin 8) (c : Fin 16) (g : Fin 2) (h : Fin 8) (p : Fin 64) (n : Fin 128) :
    (Host.dotGeneral dot_S8x16x128x2x8x64_S8x16x128x2x128_S8x16x2x8x64x128_2_2_45_4_013_013 none X Y (ix6 b c g h p n) : EReal)
      = (∑ x : Fin 128, (X (ix6 b c x g h p) : EReal) * Y (ix5 b c x g n) : EReal) := by
  pointwise

/-- The transposition at an entry. -/
theorem tr_at (X : FVec Ideal S8x16x2x8x64x128 .f32) (b : Fin 8) (c : Fin 16) (g : Fin 2) (h : Fin 8) (p : Fin 64) (n : Fin 128) :
    transpose S16x8x2x8x64x128 [1, 0, 2, 3, 4, 5] X transposes_S8x16x2x8x64x128_S16x8x2x8x64x128_1_0_2_3_4_5 (ix6 c b g h p n) = X (ix6 b c g h p n) := by
  pointwise

/-- The addition read from the contraction. -/
theorem tr_v82 : e12 V (Proc.devRef .tc main_v82) = transpose S16x8x2x8x64x128 [1, 0, 2, 3, 4, 5] (e12 V (Proc.devRef .tc main_v77)) transposes_S8x16x2x8x64x128_S16x8x2x8x64x128_1_0_2_3_4_5 := by
  unfold e12
  after_reads_simp
/-- The contraction. -/
theorem e_v77 : e12 V (Proc.devRef .tc main_v77) = Host.dotGeneral (F := Ideal) (φ₁ := .f32) (φ₂ := .f32) dot_S8x16x128x2x8x64_S8x16x128x2x128_S8x16x2x8x64x128_2_2_45_4_013_013 none (e12 V (Proc.devRef .tc main_v76)) (e11 V (Proc.devRef .tc main_v36)) := by
  unfold e12
  after_reads_simp

/-- The decayed inputs. -/
theorem r_v76 (hA : (argsV V).Finite) (b : Fin 8) (c : Fin 16) (l : Fin 128) (g : Fin 2) (h : Fin 8) (p : Fin 64) :
    (e12 V (Proc.devRef .tc main_v76) (ix6 b c l g h p) : EReal) = Ideal.exp (acs (argsV V) b c 127 (8 * g + h) - acs (argsV V) b c l (8 * g + h)) * xdt (argsV V) b c l (512 * g + 64 * h + p) := by
  unfold e12
  after_reads_at
  rw [keep11 V main_v53 (by decide), keep10 V main_v53 (by decide), keep9 V main_v53 (by decide), keep8 V main_v53 (by decide), r_v53, r_v53, keep11 V main_v52 (by decide), keep10 V main_v52 (by decide), keep9 V main_v52 (by decide), keep8 V main_v52 (by decide), keep7 V main_v52 (by decide), r_v52 V hA]
  rfl

/-- The loop reads the chunks' additions. -/
theorem r_v85_0 : e12 V (Proc.devRef .tc main_v85_0) = e12 V (Proc.devRef .tc main_v82) := by
  unfold e12
  after_reads_simp
  exact id_eq _
/-- What a chunk adds to the state. -/
theorem r_v82 (hA : (argsV V).Finite) (c : Fin 16) (b : Fin 8) (g : Fin 2) (h : Fin 8) (p : Fin 64) (n : Fin 128) :
    (e12 V (Proc.devRef .tc main_v85_0) (ix6 c b g h p n) : EReal) = (∑ l : Fin 128, bm (argsV V) b c g l n * (xs (argsV V) b c l (512 * g + 64 * h + p) * wst (argsV V) b c l (8 * g + h)) : EReal) := by
  rw [r_v85_0, tr_v82]
  refine (tr_at _ b c g h p n).trans ?_
  rw [e_v77]
  refine (dot_v77 _ _ b c g h p n).trans (Finset.sum_congr rfl fun l _ => ?_)
  rw [r_v76 V hA, keep11 V main_v36 (by decide), keep10 V main_v36 (by decide), keep9 V main_v36 (by decide), keep8 V main_v36 (by decide), keep7 V main_v36 (by decide), keep6 V main_v36 (by decide), keep5 V main_v36 (by decide), r_v36 V hA, xdt, wst, show (512 * g.val + 64 * h.val + p.val) / 64 = 8 * g.val + h.val by omega]
  exact state_order _ _ _ _

end Cert.ReferenceIdeal.Value

end
-- ==== Proof.Ssd.RefLoop.lean ====
module

public import proofs.«01_k».proof.Proof.Ssd.RefStart
public import proofs.«01_k».proof.Proof.Ssd.RefState
public import Idealize.ShloMosaic.Lib.WordCmp
public import Idealize.ShloMosaic.Lib.DynamicIndex
public import Idealize.ShloMosaic.Lib.Claim
public import Idealize.ShloMosaic.Lib.ValueIdxRank6
public import Idealize.ShloMosaic.Lib.StableHlo.ReadAt
public import Idealize.ShloMosaic.Lib.Pipeline.ValueKit

/-!
# The loop of the reference

Sixteen trips: before trip `k` the carried state is the closed form's state entering chunk `k`, and the collected states are those of the chunks before.
-/

@[expose] public section

set_option maxRecDepth 8192

noncomputable section

open Idealize.ShloMosaic Idealize.ShloMosaic.TcCoe Idealize.SL.Sem

namespace Cert.ReferenceIdeal.Value

open Cert.ReferenceIdeal Cert.ReferenceIdeal.Gen Cert.Ssd StableHlo

/-- The counter as a number. -/
theorem toInt_ctr (k : ℕ) (hk : k < 16) : (Scf.iv 0#32 1#32 k).toInt = (k : ℤ) := by
  rw [Scf.toInt_iv (lb := 0#32) (ub := 16#32) (st := 1#32) (by decide) (show k ≤ Scf.trips 0#32 16#32 1#32 from Nat.le_of_lt hk)]
  simp

/-- Reading one chunk of the collected additions. -/
theorem slice6 (X : S16x8x2x8x64x128.Idx → EReal) (st : Fin 6 → ℤ) (k : Fin 16) (hs : ∀ a, st a = ((![k.val, 0, 0, 0, 0, 0] : Fin 6 → ℕ) a : ℤ))
    (b : Fin 8) (g : Fin 2) (h : Fin 8) (p : Fin 64) (n : Fin 128) :
    shapeCast S8x2x8x64x128 (Host.dynamicSlice S1x8x2x8x64x128 X st sliceFits_S16x8x2x8x64x128_S1x8x2x8x64x128)
      shapeCasts_S1x8x2x8x64x128_S8x2x8x64x128 (ix5 b g h p n) = X (ix6 k b g h p n) := by
  have hk : S16x8x2x8x64x128.Slices ![k.val, 0, 0, 0, 0, 0] S1x8x2x8x64x128 := ⟨rfl, fun a => by
    have := k.isLt
    match a with
    | ⟨0, _⟩ => show k.val + 1 ≤ 16; omega
    | ⟨1, _⟩ => show 0 + 8 ≤ 8; omega
    | ⟨2, _⟩ => show 0 + 2 ≤ 2; omega
    | ⟨3, _⟩ => show 0 + 8 ≤ 8; omega
    | ⟨4, _⟩ => show 0 + 64 ≤ 64; omega
    | ⟨5, _⟩ => show 0 + 128 ≤ 128; omega⟩
  rw [Host.dynamicSlice_eq_extractStridedSlice S1x8x2x8x64x128 X st ![k.val, 0, 0, 0, 0, 0] _ hk hs]
  pointwise

/-- Reading one chunk of the collected decays. -/
theorem slice4 (X : S16x8x2x8.Idx → EReal) (st : Fin 4 → ℤ) (k : Fin 16) (hs : ∀ a, st a = ((![k.val, 0, 0, 0] : Fin 4 → ℕ) a : ℤ))
    (b : Fin 8) (g : Fin 2) (h : Fin 8) :
    shapeCast S8x2x8 (Host.dynamicSlice S1x8x2x8 X st sliceFits_S16x8x2x8_S1x8x2x8) shapeCasts_S1x8x2x8_S8x2x8 (ix3 b g h) = X (ix4 k b g h) := by
  have hk : S16x8x2x8.Slices ![k.val, 0, 0, 0] S1x8x2x8 := ⟨rfl, fun a => by
    have := k.isLt
    match a with
    | ⟨0, _⟩ => show k.val + 1 ≤ 16; omega
    | ⟨1, _⟩ => show 0 + 8 ≤ 8; omega
    | ⟨2, _⟩ => show 0 + 2 ≤ 2; omega
    | ⟨3, _⟩ => show 0 + 8 ≤ 8; omega⟩
  rw [Host.dynamicSlice_eq_extractStridedSlice S1x8x2x8 X st ![k.val, 0, 0, 0] _ hk hs]
  pointwise

/-- Writing one chunk's state among the collected. -/
theorem update6 (X : S16x8x2x8x64x128.Idx → EReal) (Y : S8x2x8x64x128.Idx → EReal) (st : Fin 6 → ℤ) (k : Fin 16)
    (hs : ∀ a, st a = ((![k.val, 0, 0, 0, 0, 0] : Fin 6 → ℕ) a : ℤ)) (c : Fin 16)
    (b : Fin 8) (g : Fin 2) (h : Fin 8) (p : Fin 64) (n : Fin 128) :
    Host.dynamicUpdateSlice X (broadcastInDim S1x8x2x8x64x128 ![1, 2, 3, 4, 5] bcast_S8x2x8x64x128_S1x8x2x8x64x128_1_2_3_4_5 Y) st
      updateFits_S16x8x2x8x64x128_S1x8x2x8x64x128 (ix6 c b g h p n) = if c.val = k.val then Y (ix5 b g h p n) else X (ix6 c b g h p n) := by
  have hk : S16x8x2x8x64x128.Slices ![k.val, 0, 0, 0, 0, 0] S1x8x2x8x64x128 := ⟨rfl, fun a => by
    have := k.isLt
    match a with
    | ⟨0, _⟩ => show k.val + 1 ≤ 16; omega
    | ⟨1, _⟩ => show 0 + 8 ≤ 8; omega
    | ⟨2, _⟩ => show 0 + 2 ≤ 2; omega
    | ⟨3, _⟩ => show 0 + 8 ≤ 8; omega
    | ⟨4, _⟩ => show 0 + 64 ≤ 64; omega
    | ⟨5, _⟩ => show 0 + 128 ≤ 128; omega⟩
  rw [WordCmp.dynamicUpdateSlice_eq_update X _ st updateFits_S16x8x2x8x64x128_S1x8x2x8x64x128 ![k.val, 0, 0, 0, 0, 0] hk hs]
  by_cases hc : c.val = k.val
  · obtain rfl : c = k := Fin.ext hc
    rw [if_pos rfl]
    have hin : ∀ a : Fin 6, (![c.val, 0, 0, 0, 0, 0] : Fin 6 → ℕ) a ≤ ((ix6 c b g h p n : S16x8x2x8x64x128.Idx) a).val
        ∧ ((ix6 c b g h p n : S16x8x2x8x64x128.Idx) a).val < (![c.val, 0, 0, 0, 0, 0] : Fin 6 → ℕ) a + S1x8x2x8x64x128.size a := fun a => by
      have := b.isLt; have := g.isLt; have := h.isLt; have := p.isLt; have := n.isLt
      match a with
      | ⟨0, _⟩ => exact ⟨le_rfl, Nat.lt_succ_self _⟩
      | ⟨1, _⟩ => show 0 ≤ b.val ∧ b.val < 0 + 8; omega
      | ⟨2, _⟩ => show 0 ≤ g.val ∧ g.val < 0 + 2; omega
      | ⟨3, _⟩ => show 0 ≤ h.val ∧ h.val < 0 + 8; omega
      | ⟨4, _⟩ => show 0 ≤ p.val ∧ p.val < 0 + 64; omega
      | ⟨5, _⟩ => show 0 ≤ n.val ∧ n.val < 0 + 128; omega
    unfold updateSlice
    refine (dif_pos hin).trans ?_
    have hb : broadcastInDim S1x8x2x8x64x128 ![1, 2, 3, 4, 5] bcast_S8x2x8x64x128_S1x8x2x8x64x128_1_2_3_4_5 Y (ix6 0 b g h p n) = Y (ix5 b g h p n) := by
      pointwise
    refine Eq.trans (congrArg _ (funext fun a => Fin.ext ?_)) hb
    match a with
    | ⟨0, _⟩ => exact Nat.sub_self _
    | ⟨1, _⟩ => rfl
    | ⟨2, _⟩ => rfl
    | ⟨3, _⟩ => rfl
    | ⟨4, _⟩ => rfl
    | ⟨5, _⟩ => rfl
  · rw [if_neg hc]
    unfold updateSlice
    rw [dif_neg fun hin => ?_]
    have h0 := hin 0
    change k.val ≤ c.val ∧ c.val < k.val + 1 at h0
    omega

variable (V : Valuation τ sig (Elt Ideal))

/-- The six starts of trip `k`. -/
theorem starts6 (k : Fin 16) (hc : V (Proc.devRef .tc main_v85_2) = fun _ => Scf.iv 0#32 1#32 k.val) (a : Fin 6) :
    (((![V (Proc.devRef .tc main_v85_2), constantI S_ 32 0#32, constantI S_ 32 0#32, constantI S_ 32 0#32, constantI S_ 32 0#32, constantI S_ 32 0#32] : Fin 6 → (⟨S_, .i32⟩ : BufTy).Contents (Elt Ideal))) a (Shape.Idx.first h_S_)).toInt
      = ((![k.val, 0, 0, 0, 0, 0] : Fin 6 → ℕ) a : ℤ) := by
  rw [hc]
  match a with
  | ⟨0, _⟩ => exact toInt_ctr k.val k.isLt
  | ⟨1, _⟩ => rfl
  | ⟨2, _⟩ => rfl
  | ⟨3, _⟩ => rfl
  | ⟨4, _⟩ => rfl
  | ⟨5, _⟩ => rfl
/-- The four starts of trip `k`. -/
theorem starts4 (k : Fin 16) (hc : V (Proc.devRef .tc main_v85_2) = fun _ => Scf.iv 0#32 1#32 k.val) (a : Fin 4) :
    (((![V (Proc.devRef .tc main_v85_2), constantI S_ 32 0#32, constantI S_ 32 0#32, constantI S_ 32 0#32] : Fin 4 → (⟨S_, .i32⟩ : BufTy).Contents (Elt Ideal))) a (Shape.Idx.first h_S_)).toInt
      = ((![k.val, 0, 0, 0] : Fin 4 → ℕ) a : ℤ) := by
  rw [hc]
  match a with
  | ⟨0, _⟩ => exact toInt_ctr k.val k.isLt
  | ⟨1, _⟩ => rfl
  | ⟨2, _⟩ => rfl
  | ⟨3, _⟩ => rfl

/-- The decays spread over the state. -/
theorem bc5 (Z : S8x2x8.Idx → EReal) (b : Fin 8) (g : Fin 2) (h : Fin 8) (p : Fin 64) (n : Fin 128) :
    broadcastInDim S8x2x8x64x128 ![0, 1, 2, 3, 4] bcast_S8x2x8x1x1_S8x2x8x64x128_0_1_2_3_4 (broadcastInDim S8x2x8x1x1 ![0, 1, 2] bcast_S8x2x8_S8x2x8x1x1_0_1_2 Z) (ix5 b g h p n)
      = Z (ix3 b g h) := by
  pointwise

/-- One trip on the carried state. -/
theorem step3_at (k : Fin 16) (hc : V (Proc.devRef .tc main_v85_2) = fun _ => Scf.iv 0#32 1#32 k.val)
    (b : Fin 8) (g : Fin 2) (h : Fin 8) (p : Fin 64) (n : Fin 128) :
    (step_main_v85_3 V (ix5 b g h p n) : EReal) = (fun s d a : EReal => s * d + a) (V (Proc.devRef .tc main_v85_3) (ix5 b g h p n))
      (V (Proc.devRef .tc main_v85_1) (ix4 k b g h)) (V (Proc.devRef .tc main_v85_0) (ix6 k b g h p n)) := by
  refine congrArg₂ (fun d a : EReal => (fun s d a : EReal => s * d + a) (V (Proc.devRef .tc main_v85_3) (ix5 b g h p n)) d a) ?_ (slice6 _ _ k (starts6 V k hc) b g h p n)
  exact (bc5 _ b g h p n).trans (slice4 _ _ k (starts4 V k hc) b g h)

/-- One trip on the collected states. -/
theorem step4_at (k : Fin 16) (hc : V (Proc.devRef .tc main_v85_2) = fun _ => Scf.iv 0#32 1#32 k.val)
    (c : Fin 16) (b : Fin 8) (g : Fin 2) (h : Fin 8) (p : Fin 64) (n : Fin 128) :
    (step_main_v85_4 V (ix6 c b g h p n) : EReal) = if c.val = k.val then (V (Proc.devRef .tc main_v85_3) (ix5 b g h p n) : EReal)
      else V (Proc.devRef .tc main_v85_4) (ix6 c b g h p n) :=
  update6 _ _ _ k (starts6 V k hc) c b g h p n

variable (m : (ℓ : Loc nD τ sig) → Buf (Elt Ideal) ℓ) (i : Dev nD)

/-- The contents at the loop's entry. -/
theorem entry_eq : entryContents preI m i = e12 (launchContents m i) := by
  unfold e12 e11 e10 e9 e8 e7 e6 e5 e4 e3 e2 e1 e0
  rfl

/-- The loop leaves a buffer it does not write alone. -/
theorem keep_loop (r : Ref sig .tc) (h : r ∉ condOps_W ++ (while0Ops0_W ++ (while0Ops0_1_W ++ (while0Ops0_2_W ++ (while0Ops0_3_W ++ while0Ops0_4_W))))) (k : ℕ) :
    atK m k i (Proc.devRef .tc r) = e12 (launchContents m i) (Proc.devRef .tc r) := by
  simp only [List.mem_append, not_or] at h
  obtain ⟨hc, h0, h1, h2, h3, h4⟩ := h
  induction k with
  | zero => exact congrFun (entry_eq m i) _
  | succ k ih =>
    show afterL bodyI (after condOps (atK m k i)) (Proc.devRef .tc r) = _
    simp only [bodyI, afterL_cons, afterL_nil]
    rw [after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, after_of_writes_sub condOps _ condOps_writes hc, ih]

/-- The additions the trips read are those of the entry. -/
theorem atK_v85_0 (k : ℕ) : atK m k i (Proc.devRef .tc main_v85_0) = e12 (launchContents m i) (Proc.devRef .tc main_v85_0) := by
  induction k with
  | zero => exact congrFun (entry_eq m i) _
  | succ k ih => exact (trip_agree (atK m k i) main_v85_0 (by decide)).trans ((STEP_main_v85_0 _).trans ih)
/-- The decays the trips read are those of the entry. -/
theorem atK_v85_1 (k : ℕ) : atK m k i (Proc.devRef .tc main_v85_1) = e12 (launchContents m i) (Proc.devRef .tc main_v85_1) := by
  induction k with
  | zero => exact congrFun (entry_eq m i) _
  | succ k ih => exact (trip_agree (atK m k i) main_v85_1 (by decide)).trans ((STEP_main_v85_1 _).trans ih)

/-- Before trip `k` the carried state is the one entering chunk `k`. -/
theorem atK_v85_3 (hA : (argsV (launchContents m i)).Finite) (b : Fin 8) (g : Fin 2) (h : Fin 8) (p : Fin 64) (n : Fin 128) (k : ℕ) (hk : k ≤ 16) :
    (atK m k i (Proc.devRef .tc main_v85_3) (ix5 b g h p n) : EReal) = state (argsV (launchContents m i)) b k n (512 * g + 64 * h + p) := by
  induction k with
  | zero => exact (congrFun (congrFun (entry_eq m i) _) _).trans ((r_start (launchContents m i)).2 b g h p n)
  | succ k ih =>
    refine (congrFun ((trip_agree (atK m k i) main_v85_3 (by decide)).trans (STEP_main_v85_3 _)) _).trans ?_
    refine (step3_at (atK m k i) ⟨k, hk⟩ (atK_ctr m i k) b g h p n).trans ?_
    rw [ih (by omega), atK_v85_0, atK_v85_1, r_v83, r_v82 _ hA]
    have hg : (512 * g.val + 64 * h.val + p.val) / 512 = g := by have := h.isLt; have := p.isLt; omega
    have hh : (512 * g.val + 64 * h.val + p.val) / 64 = 8 * g.val + h := by have := h.isLt; have := p.isLt; omega
    rw [state, hg, hh]

/-- Before trip `k` the states entering the earlier chunks are collected. -/
theorem atK_v85_4 (hA : (argsV (launchContents m i)).Finite) (c : Fin 16) (b : Fin 8) (g : Fin 2) (h : Fin 8) (p : Fin 64) (n : Fin 128) (k : ℕ) (hk : k ≤ 16) (hc : c.val < k) :
    (atK m k i (Proc.devRef .tc main_v85_4) (ix6 c b g h p n) : EReal) = state (argsV (launchContents m i)) b c n (512 * g + 64 * h + p) := by
  induction k with
  | zero => omega
  | succ k ih =>
    refine (congrFun ((trip_agree (atK m k i) main_v85_4 (by decide)).trans (STEP_main_v85_4 _)) _).trans ?_
    refine (step4_at (atK m k i) ⟨k, hk⟩ (atK_ctr m i k) c b g h p n).trans ?_
    by_cases e : c.val = k
    · rw [if_pos e, atK_v85_3 m i hA b g h p n k (by omega), e]
    · rw [if_neg e]
      exact ih (by omega) (by omega)

/-- The contents after the loop. -/
def eL : Valuation τ sig (Elt Ideal) := after condOps (atK m 16 i)

/-- What the loop leaves alone, after it. -/
theorem keepL (r : Ref sig .tc) (h : r ∉ condOps_W ++ (while0Ops0_W ++ (while0Ops0_1_W ++ (while0Ops0_2_W ++ (while0Ops0_3_W ++ while0Ops0_4_W))))) :
    eL m i (Proc.devRef .tc r) = e12 (launchContents m i) (Proc.devRef .tc r) :=
  (after_of_writes_sub condOps _ condOps_writes fun hc => h (List.mem_append_left _ hc)).trans (keep_loop m i r h 16)

/-- After the loop the states entering all chunks are collected. -/
theorem r_v85_4 (hA : (argsV (launchContents m i)).Finite) (c : Fin 16) (b : Fin 8) (g : Fin 2) (h : Fin 8) (p : Fin 64) (n : Fin 128) :
    (eL m i (Proc.devRef .tc main_v85_4) (ix6 c b g h p n) : EReal) = state (argsV (launchContents m i)) b c n (512 * g + 64 * h + p) :=
  (congrFun (cond_keeps (atK m 16 i) main_v85_4 (by decide)) _).trans (atK_v85_4 m i hA c b g h p n 16 le_rfl c.isLt)

end Cert.ReferenceIdeal.Value

end
-- ==== Proof.Ssd.RefPost.lean ====
module

public import proofs.«01_k».proof.Proof.Ssd.RefLoop
public import Idealize.ShloMosaic.Lib.WordCmp
public import Idealize.ShloMosaic.Lib.DynamicIndex
public import Idealize.ShloMosaic.Lib.Claim
public import Idealize.ShloMosaic.Lib.ValueIdxRank6
public import Idealize.ShloMosaic.Lib.StableHlo.ReadAt
public import Idealize.ShloMosaic.Lib.Pipeline.ValueKit

/-!
# The end of the reference

After the loop: the output of each position, the gate, and the norm; the result is the closed form's `out`.
-/

@[expose] public section

set_option maxRecDepth 8192

noncomputable section

open Idealize.ShloMosaic Idealize.ShloMosaic.TcCoe Idealize.SL.Sem

namespace Cert.ReferenceIdeal.Value

open Cert.ReferenceIdeal Cert.ReferenceIdeal.Gen Cert.Ssd StableHlo

variable (m : (ℓ : Loc nD τ sig) → Buf (Elt Ideal) ℓ) (i : Dev nD)

/-- What a stretch after the loop writes. -/
abbrev post13_W : List (Ref sig .tc) := [main_v86, main_v87, main_v88, main_v89, main_v90, main_v91, main_v92, main_v93, main_v94, main_v95, main_v96, main_v97, main_v98, main_v99, main_v100]
/-- A stretch after the loop writes nothing else. -/
theorem post13_writes : (hostOps0_13 : List (HloOp τ sig (Elt Ideal))).Forall fun op => op.writes ⊆ (post13_W.map (Proc.devRef (τ := τ) .tc)).toFinset :=
  StableHlo.forall_writes_sub_of_map rfl
/-- What a stretch after the loop writes. -/
abbrev post14_W : List (Ref sig .tc) := [main_call9_v0, main_call9_v1, main_call9_cst, main_call9_v2, main_call9_v3, main_call9_cst_0, main_call9_v4, main_call9_v5, main_v101]
/-- A stretch after the loop writes nothing else. -/
theorem post14_writes : (hostOps0_14 : List (HloOp τ sig (Elt Ideal))).Forall fun op => op.writes ⊆ (post14_W.map (Proc.devRef (τ := τ) .tc)).toFinset :=
  StableHlo.forall_writes_sub_of_map rfl
/-- What a stretch after the loop writes. -/
abbrev post15_W : List (Ref sig .tc) := [main_v102, main_v103, main_v104, main_cst_4, main_v105, main_v106, main_cst_5, main_v107, main_v108, main_cst_6, main_v109, main_v110, main_v111, main_v112, main_v113, main_v114, main_v115, main_v116, main_v117, main_v118, main_v119]
/-- A stretch after the loop writes nothing else. -/
theorem post15_writes : (hostOps0_15 : List (HloOp τ sig (Elt Ideal))).Forall fun op => op.writes ⊆ (post15_W.map (Proc.devRef (τ := τ) .tc)).toFinset :=
  StableHlo.forall_writes_sub_of_map rfl

/-- The contents after the loop and the stretches up to this one. -/
def e13 : Valuation τ sig (Elt Ideal) := after hostOps0_13 (eL m i)
/-- The contents after the loop and the stretches up to this one. -/
def e14 : Valuation τ sig (Elt Ideal) := after hostOps0_14 (e13 m i)
/-- The contents after the loop and the stretches up to this one. -/
def e15 : Valuation τ sig (Elt Ideal) := after hostOps0_15 (e14 m i)

/-- After the loop, what the chunks' own positions contribute. -/
theorem l_v68 (hA : (argsV (launchContents m i)).Finite) (b : Fin 8) (c : Fin 16) (l : Fin 128) (g : Fin 2) (h : Fin 8) (p : Fin 64) :
    (eL m i (Proc.devRef .tc main_v68) (ix6 b c l g h p) : EReal) = ydiag (argsV (launchContents m i)) b c l (512 * g + 64 * h + p) := by
  rw [keepL m i main_v68 (by decide)]
  exact r_v68 _ hA b c l g h p
/-- After the loop, the inner channels. -/
theorem l_v35 (hA : (argsV (launchContents m i)).Finite) (b : Fin 8) (c : Fin 16) (l : Fin 128) (g : Fin 2) (h : Fin 8) (p : Fin 64) :
    (eL m i (Proc.devRef .tc main_v35) (ix6 b c l g h p) : EReal) = xs (argsV (launchContents m i)) b c l (512 * g + 64 * h + p) := by
  rw [keepL m i main_v35 (by decide), keep12 (launchContents m i) main_v35 (by decide), keep11 (launchContents m i) main_v35 (by decide), keep10 (launchContents m i) main_v35 (by decide), keep9 (launchContents m i) main_v35 (by decide), keep8 (launchContents m i) main_v35 (by decide), keep7 (launchContents m i) main_v35 (by decide), keep6 (launchContents m i) main_v35 (by decide), keep5 (launchContents m i) main_v35 (by decide)]
  exact r_v35 _ hA b c l g h p
/-- After the loop, a group projection. -/
theorem l_v37 (hA : (argsV (launchContents m i)).Finite) (b : Fin 8) (c : Fin 16) (l : Fin 128) (g : Fin 2) (n : Fin 128) :
    (eL m i (Proc.devRef .tc main_v37) (ix5 b c l g n) : EReal) = cm (argsV (launchContents m i)) b c g l n := by
  rw [keepL m i main_v37 (by decide), keep12 (launchContents m i) main_v37 (by decide), keep11 (launchContents m i) main_v37 (by decide), keep10 (launchContents m i) main_v37 (by decide), keep9 (launchContents m i) main_v37 (by decide), keep8 (launchContents m i) main_v37 (by decide), keep7 (launchContents m i) main_v37 (by decide), keep6 (launchContents m i) main_v37 (by decide), keep5 (launchContents m i) main_v37 (by decide)]
  exact r_v37 _ hA b c l g n
/-- After the loop, the log decays summed. -/
theorem l_v53 (b : Fin 8) (c : Fin 16) (g : Fin 2) (h : Fin 8) (l : Fin 128) :
    (eL m i (Proc.devRef .tc main_v53) (ix5 b c g h l) : EReal) = acs (argsV (launchContents m i)) b c l (8 * g + h) := by
  rw [keepL m i main_v53 (by decide), keep12 (launchContents m i) main_v53 (by decide), keep11 (launchContents m i) main_v53 (by decide), keep10 (launchContents m i) main_v53 (by decide), keep9 (launchContents m i) main_v53 (by decide), keep8 (launchContents m i) main_v53 (by decide)]
  exact r_v53 _ b c g h l
/-- After the loop, an argument is as it was. -/
theorem l_arg7 : eL m i (Proc.devRef .tc main_arg7) = launchContents m i (Proc.devRef .tc main_arg7) := by
  rw [keepL m i main_arg7 (by decide), keep12 (launchContents m i) main_arg7 (by decide), keep11 (launchContents m i) main_arg7 (by decide), keep10 (launchContents m i) main_arg7 (by decide), keep9 (launchContents m i) main_arg7 (by decide), keep8 (launchContents m i) main_arg7 (by decide), keep7 (launchContents m i) main_arg7 (by decide), keep6 (launchContents m i) main_arg7 (by decide), keep5 (launchContents m i) main_arg7 (by decide), keep4 (launchContents m i) main_arg7 (by decide), keep3 (launchContents m i) main_arg7 (by decide), keep2 (launchContents m i) main_arg7 (by decide), keep1 (launchContents m i) main_arg7 (by decide), keep0 (launchContents m i) main_arg7 (by decide)]
/-- After the loop, an argument is as it was. -/
theorem l_arg0 : eL m i (Proc.devRef .tc main_arg0) = launchContents m i (Proc.devRef .tc main_arg0) := by
  rw [keepL m i main_arg0 (by decide), keep12 (launchContents m i) main_arg0 (by decide), keep11 (launchContents m i) main_arg0 (by decide), keep10 (launchContents m i) main_arg0 (by decide), keep9 (launchContents m i) main_arg0 (by decide), keep8 (launchContents m i) main_arg0 (by decide), keep7 (launchContents m i) main_arg0 (by decide), keep6 (launchContents m i) main_arg0 (by decide), keep5 (launchContents m i) main_arg0 (by decide), keep4 (launchContents m i) main_arg0 (by decide), keep3 (launchContents m i) main_arg0 (by decide), keep2 (launchContents m i) main_arg0 (by decide), keep1 (launchContents m i) main_arg0 (by decide), keep0 (launchContents m i) main_arg0 (by decide)]
/-- After the loop, an argument is as it was. -/
theorem l_arg8 : eL m i (Proc.devRef .tc main_arg8) = launchContents m i (Proc.devRef .tc main_arg8) := by
  rw [keepL m i main_arg8 (by decide), keep12 (launchContents m i) main_arg8 (by decide), keep11 (launchContents m i) main_arg8 (by decide), keep10 (launchContents m i) main_arg8 (by decide), keep9 (launchContents m i) main_arg8 (by decide), keep8 (launchContents m i) main_arg8 (by decide), keep7 (launchContents m i) main_arg8 (by decide), keep6 (launchContents m i) main_arg8 (by decide), keep5 (launchContents m i) main_arg8 (by decide), keep4 (launchContents m i) main_arg8 (by decide), keep3 (launchContents m i) main_arg8 (by decide), keep2 (launchContents m i) main_arg8 (by decide), keep1 (launchContents m i) main_arg8 (by decide), keep0 (launchContents m i) main_arg8 (by decide)]

/-- The order the reference adds an output's parts in. -/
theorem out_order (a s e d : EReal) : a + s * e + d = s * e + a + d := by rw [add_comm a]

/-- The read of the states at an entry. -/
theorem dot_v87 (X : FVec Ideal S8x16x2x8x64x128 .f32) (Y : FVec Ideal S8x16x128x2x128 .f32) (b : Fin 8) (c : Fin 16) (g : Fin 2) (h : Fin 8) (p : Fin 64) (l : Fin 128) :
    (Host.dotGeneral dot_S8x16x2x8x64x128_S8x16x128x2x128_S8x16x2x8x64x128_5_4_34_2_012_013 none X Y (ix6 b c g h p l) : EReal)
      = (∑ x : Fin 128, (X (ix6 b c g h p x) : EReal) * Y (ix5 b c l g x) : EReal) := by
  pointwise
/-- The read of the states, from what its factors are. -/
theorem dot_v87_of (X : FVec Ideal S8x16x2x8x64x128 .f32) (Y : FVec Ideal S8x16x128x2x128 .f32) (u v : Fin 128 → EReal) (b : Fin 8) (c : Fin 16) (g : Fin 2) (h : Fin 8) (p : Fin 64) (l : Fin 128)
    (hX : ∀ x, X (ix6 b c g h p x) = v x) (hY : ∀ x, Y (ix5 b c l g x) = u x) :
    (Host.dotGeneral dot_S8x16x2x8x64x128_S8x16x128x2x128_S8x16x2x8x64x128_5_4_34_2_012_013 none X Y (ix6 b c g h p l) : EReal) = (∑ x : Fin 128, u x * v x : EReal) := by
  rw [dot_v87]
  refine Finset.sum_congr rfl fun x _ => ?_
  rw [hX, hY, mul_comm]
/-- The transposition at an entry. -/
theorem tr_v86 (X : FVec Ideal S16x8x2x8x64x128 .f32) (b : Fin 8) (c : Fin 16) (g : Fin 2) (h : Fin 8) (p : Fin 64) (n : Fin 128) :
    transpose S8x16x2x8x64x128 [1, 0, 2, 3, 4, 5] X transposes_S16x8x2x8x64x128_S8x16x2x8x64x128_1_0_2_3_4_5 (ix6 b c g h p n) = X (ix6 c b g h p n) := by
  pointwise

/-- What the end of the loop makes of its parts, at one place of the blocked array. -/
theorem end6_at (P : FVec Ideal S8x16x128x2x8x64 .f32) (D : FVec Ideal S8x16x2x8x64x128 .f32) (E : FVec Ideal S8x16x2x8x128 .f32) (X : FVec Ideal S8x16x128x2x8x64 .f32)
    (d : FVec Ideal S16 .f32) (b : Fin 8) (c : Fin 16) (l : Fin 128) (g : Fin 2) (h : Fin 8) (p : Fin 64) :
    (addf (addf P (mulf (transpose S8x16x128x2x8x64 [0, 1, 5, 2, 3, 4] D transposes_S8x16x2x8x64x128_S8x16x128x2x8x64_0_1_5_2_3_4)
        (broadcastInDim S8x16x128x2x8x64 ![0, 1, 2, 3, 4, 5] bcast_S8x16x128x2x8x1_S8x16x128x2x8x64_0_1_2_3_4_5
          (broadcastInDim S8x16x128x2x8x1 ![0, 1, 2, 3, 4] bcast_S8x16x128x2x8_S8x16x128x2x8x1_0_1_2_3_4
            (transpose S8x16x128x2x8 [0, 1, 4, 2, 3] (Host.exp E) transposes_S8x16x2x8x128_S8x16x128x2x8_0_1_4_2_3)))))
      (mulf X (broadcastInDim S8x16x128x2x8x64 ![0, 1, 2, 3, 4, 5] bcast_S1x1x1x2x8x1_S8x16x128x2x8x64_0_1_2_3_4_5
        (broadcastInDim S1x1x1x2x8x1 ![3, 4, 5] bcast_S2x8x1_S1x1x1x2x8x1_3_4_5 (shapeCast S2x8x1 d shapeCasts_S16_S2x8x1)))) (ix6 b c l g h p) : EReal)
      = (P (ix6 b c l g h p) : EReal) + (D (ix6 b c g h p l) : EReal) * Ideal.exp (E (ix5 b c g h l)) + (X (ix6 b c l g h p) : EReal) * d (ix1 ⟨g.val * 8 + h.val, by omega⟩) := by
  pointwise
/-- The blocked array laid out by positions and channels. -/
theorem cast6_at (W : FVec Ideal S8x16x128x2x8x64 .f32) (b : Fin 8) (s : Fin 2048) (q : Fin 1024) :
    shapeCast S8x2048x1024 W shapeCasts_S8x16x128x2x8x64_S8x2048x1024 (ix3 b s q)
      = W (ix6 b ⟨s.val / 128, by omega⟩ ⟨s.val % 128, by omega⟩ ⟨q.val / 512, by omega⟩ ⟨q.val / 64 % 8, by omega⟩ ⟨q.val % 64, by omega⟩) := by
  pointwise

/-- The transposed states. -/
theorem e_v86 : e13 m i (Proc.devRef .tc main_v86) = transpose S8x16x2x8x64x128 [1, 0, 2, 3, 4, 5] (eL m i (Proc.devRef .tc main_v85_4)) transposes_S16x8x2x8x64x128_S8x16x2x8x64x128_1_0_2_3_4_5 := by
  unfold e13
  after_reads_simp
/-- The read of the states. -/
theorem e_v87 : e13 m i (Proc.devRef .tc main_v87) = Host.dotGeneral (F := Ideal) (φ₁ := .f32) (φ₂ := .f32) dot_S8x16x2x8x64x128_S8x16x128x2x128_S8x16x2x8x64x128_5_4_34_2_012_013 none
    (e13 m i (Proc.devRef .tc main_v86)) (eL m i (Proc.devRef .tc main_v37)) := by
  unfold e13
  after_reads_simp
/-- The blocked output. -/
theorem e_v99 : e13 m i (Proc.devRef .tc main_v99) = addf (F := Ideal) (φ := .f32) (addf (eL m i (Proc.devRef .tc main_v68)) (mulf (transpose S8x16x128x2x8x64 [0, 1, 5, 2, 3, 4] (e13 m i (Proc.devRef .tc main_v87)) transposes_S8x16x2x8x64x128_S8x16x128x2x8x64_0_1_5_2_3_4)
        (broadcastInDim S8x16x128x2x8x64 ![0, 1, 2, 3, 4, 5] bcast_S8x16x128x2x8x1_S8x16x128x2x8x64_0_1_2_3_4_5
          (broadcastInDim S8x16x128x2x8x1 ![0, 1, 2, 3, 4] bcast_S8x16x128x2x8_S8x16x128x2x8x1_0_1_2_3_4
            (transpose S8x16x128x2x8 [0, 1, 4, 2, 3] (Host.exp (F := Ideal) (φ := .f32) (eL m i (Proc.devRef .tc main_v53))) transposes_S8x16x2x8x128_S8x16x128x2x8_0_1_4_2_3)))))
      (mulf (eL m i (Proc.devRef .tc main_v35)) (broadcastInDim S8x16x128x2x8x64 ![0, 1, 2, 3, 4, 5] bcast_S1x1x1x2x8x1_S8x16x128x2x8x64_0_1_2_3_4_5
        (broadcastInDim S1x1x1x2x8x1 ![3, 4, 5] bcast_S2x8x1_S1x1x1x2x8x1_3_4_5 (shapeCast S2x8x1 (eL m i (Proc.devRef .tc main_arg7)) shapeCasts_S16_S2x8x1)))) := by
  unfold e13
  after_reads_simp
  rfl
/-- The output laid out. -/
theorem e_v100 : e13 m i (Proc.devRef .tc main_v100) = shapeCast S8x2048x1024 (e13 m i (Proc.devRef .tc main_v99)) shapeCasts_S8x16x128x2x8x64_S8x2048x1024 := by
  unfold e13
  after_reads_simp
  rfl

/-- The read of the states, in the closed form's terms. -/
theorem r_v87 (hA : (argsV (launchContents m i)).Finite) (b : Fin 8) (c : Fin 16) (g : Fin 2) (h : Fin 8) (p : Fin 64) (l : Fin 128) :
    (e13 m i (Proc.devRef .tc main_v87) (ix6 b c g h p l) : EReal)
      = (∑ n : Fin 128, cm (argsV (launchContents m i)) b c g l n * state (argsV (launchContents m i)) b c n (512 * g + 64 * h + p) : EReal) := by
  rw [e_v87]
  refine dot_v87_of _ _ _ _ b c g h p l (fun n => ?_) fun n => l_v37 m i hA b c l g n
  rw [e_v86]
  exact (tr_v86 _ b c g h p n).trans (r_v85_4 m i hA c b g h p n)

/-- The output before its gate. -/
theorem r_v100 (hA : (argsV (launchContents m i)).Finite) (b : Fin 8) (s : Fin 2048) (q : Fin 1024) :
    (e13 m i (Proc.devRef .tc main_v100) (ix3 b s q) : EReal)
      = yoff (argsV (launchContents m i)) b (s.val / 128) (s.val % 128) q + ydiag (argsV (launchContents m i)) b (s.val / 128) (s.val % 128) q
        + xs (argsV (launchContents m i)) b (s.val / 128) (s.val % 128) q * (argsV (launchContents m i)).ds (q.val / 64) := by
  rw [e_v100]
  refine (cast6_at _ b s q).trans ?_
  rw [e_v99]
  refine (end6_at _ _ _ _ _ b _ _ _ _ _).trans ?_
  rw [l_v68 m i hA, r_v87 m i hA, l_v53, l_v35 m i hA, l_arg7, ext1_eq (launchContents m i (Proc.devRef .tc main_arg7)) _ rfl]
  dsimp only
  have hq : 512 * (q.val / 512) + 64 * (q.val / 64 % 8) + q.val % 64 = q.val := by omega
  have hh : 8 * (q.val / 512) + q.val / 64 % 8 = q.val / 64 := by omega
  have hh' : q.val / 512 * 8 + q.val / 64 % 8 = q.val / 64 := by omega
  rw [hq, hh, hh', yoff]
  exact out_order _ _ _ _

/-- The gate. -/
theorem r_v101 (hA : (argsV (launchContents m i)).Finite) (b : Fin 8) (s : Fin 2048) (q : Fin 1024) :
    (e14 m i (Proc.devRef .tc main_v101) (ix3 b s q) : EReal) = silu ((argsV (launchContents m i)).z b s q) := by
  have e : e13 m i (Proc.devRef .tc main_arg0) = launchContents m i (Proc.devRef .tc main_arg0) :=
    (after_of_writes_sub hostOps0_13 _ post13_writes (by decide)).trans (l_arg0 m i)
  have hz : (argsV (launchContents m i)).z b s q = ext3 (launchContents m i (Proc.devRef .tc main_arg0)) b s q := rfl
  rw [silu_eq (hA.z _ _ _)]
  unfold e14
  after_reads_at
  rw [e, ext3_eq (launchContents m i (Proc.devRef .tc main_arg0)) b s q rfl rfl rfl, hz]

/-- The gated output from its factors. -/
theorem e_v102 : e15 m i (Proc.devRef .tc main_v102) = mulf (F := Ideal) (φ := .f32) (e14 m i (Proc.devRef .tc main_v100)) (e14 m i (Proc.devRef .tc main_v101)) := by
  unfold e15
  after_reads_simp
/-- A product at an entry, from what its factors are. -/
theorem mulf_of (X Y : FVec Ideal S8x2048x1024 .f32) (j : S8x2048x1024.Idx) {u v : EReal} (hX : X j = u) (hY : Y j = v) : (mulf X Y j : EReal) = u * v := by
  subst hX hY; rfl
/-- The gated output. -/
theorem r_v102 (hA : (argsV (launchContents m i)).Finite) (b : Fin 8) (s : Fin 2048) (q : Fin 1024) :
    (e15 m i (Proc.devRef .tc main_v102) (ix3 b s q) : EReal) = y (argsV (launchContents m i)) b (s.val / 128) (s.val % 128) q := by
  have e' : e14 m i (Proc.devRef .tc main_v100) = e13 m i (Proc.devRef .tc main_v100) :=
    after_of_writes_sub hostOps0_14 _ post14_writes (by decide)
  have hs : 128 * (s.val / 128) + s.val % 128 = s.val := by omega
  rw [e_v102, e', y, hs]
  exact mulf_of _ _ _ (r_v100 m i hA b s q) (r_v101 m i hA b s q)

/-- The norm over each group, at an entry. -/
theorem norm_at (W : FVec Ideal S8x2048x1024 .f32) (G : FVec Ideal S1024 .f32) (r : Fin 16384) (q : Fin 1024) :
    (truncf .bf16 (shapeCast S16384x1024 (mulf (shapeCast S8x2048x1024 (mulf (shapeCast S8x2048x2x512 W shapeCasts_S8x2048x1024_S8x2048x2x512)
      (broadcastInDim S8x2048x2x512 ![0, 1, 2, 3] bcast_S8x2048x2x1_S8x2048x2x512_0_1_2_3 (Host.rsqrt (addf (Host.divf
        (broadcastInDim S8x2048x2x1 ![0, 1, 2] bcast_S8x2048x2_S8x2048x2x1_0_1_2 (Host.reduceAdd (mulf (shapeCast S8x2048x2x512 W shapeCasts_S8x2048x1024_S8x2048x2x512) (shapeCast S8x2048x2x512 W shapeCasts_S8x2048x1024_S8x2048x2x512))
          (constant S_ .f32 0x00000000#32) reducesTo_S8x2048x2x512_S8x2048x2_d3 h_S_))
        (broadcastInDim S8x2048x2x1 ![] bcast_S_S8x2048x2x1 (constant S_ .f32 0x44000000#32)))
        (broadcastInDim S8x2048x2x1 ![] bcast_S_S8x2048x2x1 (constant S_ .f32 0x3727C5AC#32))))))
      shapeCasts_S8x2048x2x512_S8x2048x1024) (broadcastInDim S8x2048x1024 ![0, 1, 2] bcast_S1x1x1024_S8x2048x1024_0_1_2 (broadcastInDim S1x1x1024 ![2] bcast_S1024_S1x1x1024_2 G)))
      shapeCasts_S8x2048x1024_S16384x1024) bitsLt_bf16_f32 (ix2 r q) : EReal)
    = (W (ix3 ⟨r.val / 2048, by omega⟩ ⟨r.val % 2048, by omega⟩ q) : EReal)
      * Ideal.rsqrt (Ideal.div (∑ x : Fin 512, (W (ix3 ⟨r.val / 2048, by omega⟩ ⟨r.val % 2048, by omega⟩ ⟨q.val / 512 * 512 + x.val, by omega⟩) : EReal)
          * W (ix3 ⟨r.val / 2048, by omega⟩ ⟨r.val % 2048, by omega⟩ ⟨q.val / 512 * 512 + x.val, by omega⟩) : EReal)
        (Ideal.ofBits .f32 0x44000000#32) + Ideal.ofBits .f32 0x3727C5AC#32) * G (ix1 q) := by
  pointwise

/-- The result from the gated output. -/
theorem e_v119 : e15 m i (Proc.devRef .tc main_v119) = truncf (F := Ideal) (φ := .f32) .bf16 (shapeCast S16384x1024 (mulf (shapeCast S8x2048x1024 (mulf (shapeCast S8x2048x2x512 (e15 m i (Proc.devRef .tc main_v102)) shapeCasts_S8x2048x1024_S8x2048x2x512)
      (broadcastInDim S8x2048x2x512 ![0, 1, 2, 3] bcast_S8x2048x2x1_S8x2048x2x512_0_1_2_3 (Host.rsqrt (addf (Host.divf
        (broadcastInDim S8x2048x2x1 ![0, 1, 2] bcast_S8x2048x2_S8x2048x2x1_0_1_2 (Host.reduceAdd (mulf (shapeCast S8x2048x2x512 (e15 m i (Proc.devRef .tc main_v102)) shapeCasts_S8x2048x1024_S8x2048x2x512) (shapeCast S8x2048x2x512 (e15 m i (Proc.devRef .tc main_v102)) shapeCasts_S8x2048x1024_S8x2048x2x512))
          (constant S_ .f32 0x00000000#32) reducesTo_S8x2048x2x512_S8x2048x2_d3 h_S_))
        (broadcastInDim S8x2048x2x1 ![] bcast_S_S8x2048x2x1 (constant S_ .f32 0x44000000#32)))
        (broadcastInDim S8x2048x2x1 ![] bcast_S_S8x2048x2x1 (constant S_ .f32 0x3727C5AC#32))))))
      shapeCasts_S8x2048x2x512_S8x2048x1024) (broadcastInDim S8x2048x1024 ![0, 1, 2] bcast_S1x1x1024_S8x2048x1024_0_1_2 (broadcastInDim S1x1x1024 ![2] bcast_S1024_S1x1x1024_2 (e14 m i (Proc.devRef .tc main_arg8)))))
      shapeCasts_S8x2048x1024_S16384x1024) bitsLt_bf16_f32 := by
  unfold e15
  after_reads_simp
  rfl

/-- The result. -/
theorem r_v119 (hA : (argsV (launchContents m i)).Finite) (r : Fin 16384) (q : Fin 1024) :
    (e15 m i (Proc.devRef .tc main_v119) (ix2 r q) : EReal)
      = out (argsV (launchContents m i)) (r.val / 2048) (r.val % 2048 / 128) (r.val % 128) q := by
  have e : e14 m i (Proc.devRef .tc main_arg8) = launchContents m i (Proc.devRef .tc main_arg8) :=
    (after_of_writes_sub hostOps0_14 _ post14_writes (by decide)).trans
      ((after_of_writes_sub hostOps0_13 _ post13_writes (by decide)).trans (l_arg8 m i))
  have hg : (argsV (launchContents m i)).ng q = ext1 (launchContents m i (Proc.devRef .tc main_arg8)) q := rfl
  rw [e_v119]
  refine (norm_at _ _ r q).trans ?_
  simp only [r_v102 m i hA]
  rw [e, ext1_eq (launchContents m i (Proc.devRef .tc main_arg8)) q rfl, out, show r.val % 2048 % 128 = r.val % 128 by omega, mul_comm (q.val / 512) 512, hg]

/-- What the run leaves in a buffer, in the terms above. -/
theorem final_eq : finalContents condOps preI bodyI postI 16 m i = e15 m i := by
  unfold e15 e14 e13 eL
  rfl

/-- What nothing in the program writes ends as it was. -/
theorem kept (r : Ref sig .tc) (h : r ∉ post15_W ++ (post14_W ++ (post13_W ++ (condOps_W ++ (while0Ops0_W ++ (while0Ops0_1_W ++ (while0Ops0_2_W ++ (while0Ops0_3_W ++ while0Ops0_4_W))))))))
    (h' : r ∉ hostOps0_12_W ++ (hostOps0_11_W ++ (hostOps0_10_W ++ (hostOps0_9_W ++ (hostOps0_8_W ++ (hostOps0_7_W ++ (hostOps0_6_W ++ (hostOps0_5_W ++ (hostOps0_4_W ++ (hostOps0_3_W ++ (hostOps0_2_W ++ (hostOps0_1_W ++ hostOps0_W)))))))))))) :
    finalContents condOps preI bodyI postI 16 m i (Proc.devRef .tc r) = m (i, Proc.devRef .tc r) := by
  rw [final_eq]
  obtain ⟨a15, h⟩ := not_or.mp (mt List.mem_append.mpr h)
  obtain ⟨a14, h⟩ := not_or.mp (mt List.mem_append.mpr h)
  obtain ⟨a13, h⟩ := not_or.mp (mt List.mem_append.mpr h)
  simp only [List.mem_append, not_or] at h'
  obtain ⟨b12, b11, b10, b9, b8, b7, b6, b5, b4, b3, b2, b1, b0⟩ := h'
  refine (after_of_writes_sub hostOps0_15 _ post15_writes a15).trans ?_
  refine (after_of_writes_sub hostOps0_14 _ post14_writes a14).trans ?_
  refine (after_of_writes_sub hostOps0_13 _ post13_writes a13).trans ?_
  rw [keepL m i r h, keep12 _ r b12, keep11 _ r b11, keep10 _ r b10, keep9 _ r b9, keep8 _ r b8, keep7 _ r b7, keep6 _ r b6, keep5 _ r b5, keep4 _ r b4,
    keep3 _ r b3, keep2 _ r b2, keep1 _ r b1, keep0 _ r b0]

end Cert.ReferenceIdeal.Value

end
-- ==== Proof.lean ====
/- The proof of the claims of `Defs.lean`: the kernel program and its reference run and keep their arguments, and over
   the extended reals the kernel's result is the reference's, both being the closed form of the arguments: `Cert.Ssd.out` for the
   scan, `Cert.Ffn.fout` for the feed-forward call. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Out.Sweep
public import proofs.«01_k».proof.Proof.Out.Ref
public import proofs.«01_k».proof.Proof.Ffn.Pre
public import proofs.«01_k».proof.Proof.Ffn.Sweep
public import proofs.«01_k».proof.Proof.Ffn.Ref
public import proofs.«01_k».proof.Proof.Ssd.Pre
public import proofs.«01_k».proof.Proof.Ssd.Sweep
public import proofs.«01_k».proof.Proof.Ssd.RefPost
public import Idealize.ShloMosaic.Lib.Quiescent
public import Idealize.ShloMosaic.Adequacy
public import Idealize.ShloMosaic.Init

@[expose] public section

noncomputable section

open Idealize.ShloMosaic Idealize.ShloMosaic.StableHlo Idealize.SL.Sem

namespace Cert.ReferenceIdeal.Value
open Cert.ReferenceIdeal Cert.ReferenceIdeal.Gen Cert.Ssd

/-- The reference runs, ends with its result as computed by its stretches, and keeps its arguments. -/
theorem run_ref (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v119) = e15 m c (Proc.devRef .tc main_v119)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run (defs (F := Ideal)) _ _).mono (fun r h c => ⟨?_, ?_, ?_, ?_, ?_, ?_, ?_, ?_, ?_, ?_⟩) (run_fold (F := Ideal) m g)
  · exact (h c main_v119 (by decide)).trans (congrFun (final_eq m c) _)
  · exact (h c main_arg0 (by decide)).trans (kept m c main_arg0 (by decide) (by decide))
  · exact (h c main_arg1 (by decide)).trans (kept m c main_arg1 (by decide) (by decide))
  · exact (h c main_arg2 (by decide)).trans (kept m c main_arg2 (by decide) (by decide))
  · exact (h c main_arg3 (by decide)).trans (kept m c main_arg3 (by decide) (by decide))
  · exact (h c main_arg4 (by decide)).trans (kept m c main_arg4 (by decide) (by decide))
  · exact (h c main_arg5 (by decide)).trans (kept m c main_arg5 (by decide) (by decide))
  · exact (h c main_arg6 (by decide)).trans (kept m c main_arg6 (by decide) (by decide))
  · exact (h c main_arg7 (by decide)).trans (kept m c main_arg7 (by decide) (by decide))
  · exact (h c main_arg8 (by decide)).trans (kept m c main_arg8 (by decide) (by decide))

end Cert.ReferenceIdeal.Value

namespace Cert.Proof

/-- The reference's frame, under any precondition. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0) :=
  (θ_run (Cert.ReferenceIdeal.defs (F := Ideal)) _ _).mono (fun r h => ⟨fun c => (h c).2, sem_eq_zero_of_no_sems (by decide) r.2⟩) (Cert.ReferenceIdeal.Value.run_ref m g)

/-- The two programs' arguments are the same plain functions when their memories agree on the arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.Value.argsV (launchContents m' c) = Cert.KernelIdeal.Value.args m c := by
  obtain ⟨h0, h1, h2, h3, h4, h5, h6, h7, h8⟩ := h
  unfold Cert.KernelIdeal.Value.args
  show Cert.Ssd.argsOf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) = _
  rw [h0, h1, h2, h3, h4, h5, h6, h7, h8]

/-- Over the extended reals the kernel's result is the reference's. -/
theorem value : Cert.algebraic_KernelIdeal_ReferenceIdeal_pre_inputs_finite (hKernelIdeal := Cert.KernelIdeal.Gen.facts)
    (hReferenceIdeal := Cert.ReferenceIdeal.Gen.facts) (hPre_inputs_finite := Cert.Pre_inputs_finite.facts) := by
  intro m g m' g' hp ha
  refine ⟨fun c => Cert.KernelIdeal.Value.G12 m c, Cert.KernelIdeal.Value.run (F := Ideal) m g, ?_⟩
  refine (θ_run (Cert.ReferenceIdeal.defs (F := Ideal)) _ _).mono (fun r h c => ⟨(h c).1.trans ?_, (h c).2⟩) (Cert.ReferenceIdeal.Value.run_ref m' g')
  have hA : (Cert.KernelIdeal.Value.args m c).Finite := @Cert.Pre_inputs_finite.finite_of Cert.Pre_inputs_finite.facts _ _ _ _ _ _ _ _ _ (hp c)
  have e := args_eq m m' c (ha c)
  funext j
  rw [eq_ix2 j]
  refine (Cert.ReferenceIdeal.Value.r_v119 m' c (e ▸ hA) (j 0) (j 1)).trans ?_
  rw [e]
  exact (Cert.KernelIdeal.Value.G12_at m c hA (j 0) (j 1)).symm

/-- The feed-forward reference's frame, under any precondition. -/
theorem frame_reference2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0) :=
  (θ_run (Cert.Reference2Ideal.defs (F := Ideal)) _ _).mono (fun r h => ⟨fun c => (h c).2, sem_eq_zero_of_no_sems (by decide) r.2⟩) (Cert.Reference2Ideal.Value.run (F := Ideal) m g)

/-- The two feed-forward programs' arguments are the same functions when their memories agree on the arguments. -/
theorem args2_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) :
    Cert.Reference2Ideal.Value.args m' c = Cert.Kernel2Ideal.Value.args m c := by
  obtain ⟨h0, h1, h2, h3, h4, h5, h6⟩ := h
  unfold Cert.Kernel2Ideal.Value.args Cert.Reference2Ideal.Value.args
  rw [h0, h1, h2, h3, h4, h5, h6]

/-- Over the extended reals the feed-forward call's result is the reference's. -/
theorem value2 : Cert.algebraic_Kernel2Ideal_Reference2Ideal_pre_ffn_inputs_finite (hKernel2Ideal := Cert.Kernel2Ideal.Gen.facts)
    (hReference2Ideal := Cert.Reference2Ideal.Gen.facts) (hPre_ffn_inputs_finite := Cert.Pre_ffn_inputs_finite.facts) := by
  intro m g m' g' hp ha
  refine ⟨fun c => Cert.Kernel2Ideal.Value.res8 m c, (θ_run (Cert.Kernel2Ideal.defs (F := Ideal)) _ _).mono
    (fun r h c => ⟨(h c).1.trans (Cert.Kernel2Ideal.Value.final8 m c), (h c).2⟩) (Cert.Kernel2Ideal.Value.run_blocks (F := Ideal) m g), ?_⟩
  refine (θ_run (Cert.Reference2Ideal.defs (F := Ideal)) _ _).mono (fun r h c => ⟨(h c).1.trans ?_, (h c).2⟩) (Cert.Reference2Ideal.Value.run (F := Ideal) m' g')
  have hA : (Cert.Kernel2Ideal.Value.args m c).Finite := @Cert.Pre_ffn_inputs_finite.finite_of Cert.Pre_ffn_inputs_finite.facts _ _ _ _ _ _ _ (hp c)
  have e := args2_eq m m' c (ha c)
  funext j
  rw [eq_ix2 j]
  refine (Cert.Reference2Ideal.Value.res_at m' c (e ▸ hA) (j 0) (j 1)).trans ?_
  rw [e]
  rfl

/-- The output projection reference's frame. -/
theorem frame_reference3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0) :=
  (θ_run (Cert.Reference3Ideal.defs (F := Ideal)) _ _).mono (fun r h => ⟨fun c => (h c).2.2, sem_eq_zero_of_no_sems (by decide) r.2⟩) (Cert.Reference3Ideal.Value.run (F := Ideal) m g)

/-- The two output projection programs' arguments are the same functions when their memories agree on the arguments. -/
theorem args3_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) :
    Cert.Reference3Ideal.Value.args m' c = Cert.Kernel3Ideal.Value.args m c := by
  obtain ⟨h0, h1, h2, h3, h4, h5⟩ := h
  unfold Cert.Kernel3Ideal.Value.args Cert.Reference3Ideal.Value.args
  rw [h0, h1, h2, h3, h4, h5]

/-- Over the extended reals the output projection's two results are the reference's. -/
theorem value3 : Cert.algebraic_Kernel3Ideal_Reference3Ideal (hKernel3Ideal := Cert.Kernel3Ideal.Gen.facts)
    (hReference3Ideal := Cert.Reference3Ideal.Gen.facts) := by
  intro m g m' g' hp ha
  have e0 : ∀ c, Cert.Reference3Ideal.Value.res0 m' c = Cert.Kernel3Ideal.Value.res6 m c := fun c => by
    have e := args3_eq m m' c (ha c)
    funext j
    rw [eq_ix2 j]
    refine (Cert.Reference3Ideal.Value.res0_at m' c (j 0) (j 1)).trans ?_
    rw [e]
    rfl
  have e1 : ∀ c, Cert.Reference3Ideal.Value.res_main_v35 m' c = Cert.Kernel3Ideal.Value.res7 m c := fun c => by
    have e := args3_eq m m' c (ha c)
    funext j
    rw [eq_ix2 j]
    refine (Cert.Reference3Ideal.Value.res1_at m' c (j 0) (j 1)).trans ?_
    rw [e]
    rfl
  refine ⟨fun c => Cert.Kernel3Ideal.Value.res6 m c, fun c => Cert.Kernel3Ideal.Value.res7 m c, (θ_run (Cert.Kernel3Ideal.defs (F := Ideal)) _ _).mono
    (fun r h c => ⟨((h c)).1.trans (Cert.Kernel3Ideal.Value.final6 m c), ((h c).2).1.trans (Cert.Kernel3Ideal.Value.final7 m c), (h c).2.2⟩) (Cert.Kernel3Ideal.Value.run_blocks (F := Ideal) m g), ?_⟩
  exact (θ_run (Cert.Reference3Ideal.defs (F := Ideal)) _ _).mono (fun r h c => ⟨((h c)).1.trans (e0 c), ((h c).2).1.trans (e1 c), (h c).2.2⟩) (Cert.Reference3Ideal.Value.run (F := Ideal) m' g')

/-- Every claim. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Pre_inputs_finite.facts, Cert.Pre_ffn_inputs_finite.facts,
    fun m g _ => Cert.Kernel.Gen.frame m g, fun m g _ => Cert.KernelIdeal.Gen.frame m g, fun m g _ => Cert.KernelIdeal.Gen.frame m g,
    fun m g _ => frame_reference m g, fun m g _ => frame_reference m g,
    fun m g _ => Cert.Kernel2.Gen.frame m g, fun m g _ => Cert.Kernel2Ideal.Gen.frame m g, fun m g _ => Cert.Kernel2Ideal.Gen.frame m g,
    fun m g _ => frame_reference2 m g, fun m g _ => frame_reference2 m g,
    fun m g _ => Cert.Kernel3.Gen.frame m g, fun m g _ => Cert.Kernel3Ideal.Gen.frame m g, fun m g _ => frame_reference3 m g,
    trivial, value, trivial, value2, trivial, value3⟩

end Cert.Proof

end
